-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S4x16x8192 : Shape := ⟨3, ![4, 16, 8192]⟩
abbrev S4x16x8192x32 : Shape := ⟨4, ![4, 16, 8192, 32]⟩
abbrev S16x8192 : Shape := ⟨2, ![16, 8192]⟩
abbrev S1x16 : Shape := ⟨2, ![1, 16]⟩
abbrev S_ : Shape := ⟨0, ![]⟩
abbrev S1x16x8192 : Shape := ⟨3, ![1, 16, 8192]⟩
abbrev S4x16x8192x1 : Shape := ⟨4, ![4, 16, 8192, 1]⟩
abbrev S1 : Shape := ⟨1, ![1]⟩
abbrev S1x1x1x1 : Shape := ⟨4, ![1, 1, 1, 1]⟩
abbrev S4x32x8192x16 : Shape := ⟨4, ![4, 32, 8192, 16]⟩
abbrev S4x32x8192x1 : Shape := ⟨4, ![4, 32, 8192, 1]⟩
abbrev S4x32x8192 : Shape := ⟨3, ![4, 32, 8192]⟩
abbrev S4x8192 : Shape := ⟨2, ![4, 8192]⟩
abbrev S4x1x8192 : Shape := ⟨3, ![4, 1, 8192]⟩

class Facts : Prop where
  bcast_S_S4x16x8192 : S_.BroadcastsInDim S4x16x8192 (![] : Fin 0 → Fin S4x16x8192.rank)
  bcast_S16x8192_S1x16x8192_1_2 : S16x8192.BroadcastsInDim S1x16x8192 (![1, 2] : Fin 2 → Fin S1x16x8192.rank)
  bcast_S1x16x8192_S4x16x8192_0_1_2 : S1x16x8192.BroadcastsInDim S4x16x8192 (![0, 1, 2] : Fin 3 → Fin S4x16x8192.rank)
  shapeCasts_S4x16x8192_S4x16x8192x1 : S4x16x8192.ShapeCasts S4x16x8192x1
  bcast_S_S4x16x8192x1 : S_.BroadcastsInDim S4x16x8192x1 (![] : Fin 0 → Fin S4x16x8192x1.rank)
  bcast_S1_S1x1x1x1_3 : S1.BroadcastsInDim S1x1x1x1 (![3] : Fin 1 → Fin S1x1x1x1.rank)
  bcast_S1x1x1x1_S4x16x8192x1_0_1_2_3 : S1x1x1x1.BroadcastsInDim S4x16x8192x1 (![0, 1, 2, 3] : Fin 4 → Fin S4x16x8192x1.rank)
  reducesTo_S4x16x8192x1_S4x16x8192_d3 : S4x16x8192x1.ReducesTo [3] S4x16x8192
  h_S_ : 0 < S_.numel
  bcast_S4x16x8192_S4x16x8192x1_0_1_2 : S4x16x8192.BroadcastsInDim S4x16x8192x1 (![0, 1, 2] : Fin 3 → Fin S4x16x8192x1.rank)
  bcast_S4x16x8192x1_S4x16x8192x32_0_1_2_3 : S4x16x8192x1.BroadcastsInDim S4x16x8192x32 (![0, 1, 2, 3] : Fin 4 → Fin S4x16x8192x32.rank)
  transposes_S4x16x8192x32_S4x32x8192x16_0_3_2_1 : S4x16x8192x32.Transposes [0, 3, 2, 1] S4x32x8192x16
  shapeCasts_S4x32x8192x1_S4x32x8192 : S4x32x8192x1.ShapeCasts S4x32x8192
  reducesTo_S4x32x8192_S4x8192_d1 : S4x32x8192.ReducesTo [1] S4x8192
  bcast_S4x8192_S4x1x8192_0_2 : S4x8192.BroadcastsInDim S4x1x8192 (![0, 2] : Fin 2 → Fin S4x1x8192.rank)
  bcast_S4x1x8192_S4x32x8192_0_1_2 : S4x1x8192.BroadcastsInDim S4x32x8192 (![0, 1, 2] : Fin 3 → Fin S4x32x8192.rank)
  natLt_1_32 : 1 < 32
  bcast_S_S4x8192 : S_.BroadcastsInDim S4x8192 (![] : Fin 0 → Fin S4x8192.rank)
  reducesTo_S4x16x8192_S_d0_1_2 : S4x16x8192.ReducesTo [0, 1, 2] S_
  reducesTo_S4x8192_S_d0_1 : S4x8192.ReducesTo [0, 1] S_
  gather_S4x16x8192_S4x16x8192x1_S4x16x8192_n_2_01_01_2_3_111_wf : GatherDims.WF S4x16x8192 S4x16x8192x1 S4x16x8192 [] [2] [0, 1] [2] [0, 1] 3 ![1, 1, 1]
  dot_S4x32x8192x16_S1x16_S4x32x8192x1_3_1_012_0_n_n_wf : DotDims.WF S4x32x8192x16 S1x16 S4x32x8192x1 [3] [1] [0, 1, 2] [0] [] []

variable [Facts]

variable {F : FTy → Type} [FloatOps F]
def comparator_f32_i32_d2 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d2 : BitVec 32 × BitVec 32 → BitVec 32 × BitVec 32 → BitVec 1 :=
  fun l r =>
    let v2 := IntOp.cmpi .slt l.1 r.1
    v2
def gather_S4x16x8192_S4x16x8192x1_S4x16x8192_n_2_01_01_2_3_111 : GatherDims S4x16x8192 S4x16x8192x1 S4x16x8192 where
  offsetDims := []
  collapsedSliceDims := [2]
  operandBatchingDims := [0, 1]
  startIndicesBatchingDims := [0, 1]
  startIndexMap := [2]
  indexVectorDim := 3
  sliceSizes := ![1, 1, 1]
  wf := gather_S4x16x8192_S4x16x8192x1_S4x16x8192_n_2_01_01_2_3_111_wf
def dot_S4x32x8192x16_S1x16_S4x32x8192x1_3_1_012_0_n_n : DotDims S4x32x8192x16 S1x16 S4x32x8192x1 where
  lhsContracting := [3]
  rhsContracting := [1]
  lhsNonContracting := [0, 1, 2]
  rhsNonContracting := [0]
  lhsBatch := []
  rhsBatch := []
  wf := dot_S4x32x8192x16_S1x16_S4x32x8192x1_3_1_012_0_n_n_wf

def fn_argsort {F : FTy → Type} [FloatOps F] (arg0 : FVec F S4x16x8192 .f32) : IVec S4x16x8192 32 :=
  let v0 : IVec S4x16x8192 32 := iotaInDim S4x16x8192 32 2
  let v1_0 : FVec F S4x16x8192 .f32 := (fun x y => (Host.sort2 S4x16x8192 2 comparator_f32_i32_d2 x y).1) arg0 v0
  let v1_1 : IVec S4x16x8192 32 := (fun x y => (Host.sort2 S4x16x8192 2 comparator_f32_i32_d2 x y).2) arg0 v0
  v1_1

def fn_argsort_0 {F : FTy → Type} [FloatOps F] (arg0 : IVec S4x16x8192 32) : IVec S4x16x8192 32 :=
  let v0 : IVec S4x16x8192 32 := iotaInDim S4x16x8192 32 2
  let v1_0 : IVec S4x16x8192 32 := (fun x y => (Host.sort2 S4x16x8192 2 comparator_i32_i32_d2 x y).1) arg0 v0
  let v1_1 : IVec S4x16x8192 32 := (fun x y => (Host.sort2 S4x16x8192 2 comparator_i32_i32_d2 x y).2) arg0 v0
  v1_1

def fn_take_along_axis {F : FTy → Type} [FloatOps F] (arg0 : FVec F S4x16x8192 .f32) (arg1 : IVec S4x16x8192 32) : FVec F S4x16x8192 .f32 :=
  let c : IVec S_ 32 := constantI S_ 32 0#32
  let v0 : IVec S4x16x8192 32 := broadcastInDim S4x16x8192 ![] bcast_S_S4x16x8192 c
  let v1 : IVec S4x16x8192 1 := cmpi .slt arg1 v0
  let c_0 : IVec S_ 32 := constantI S_ 32 8192#32
  let v2 : IVec S4x16x8192 32 := broadcastInDim S4x16x8192 ![] bcast_S_S4x16x8192 c_0
  let v3 : IVec S4x16x8192 32 := addi arg1 v2
  let v4 : IVec S4x16x8192 32 := select v1 v3 arg1
  let v5 : IVec S4x16x8192x1 32 := shapeCast S4x16x8192x1 v4 shapeCasts_S4x16x8192_S4x16x8192x1
  let c_1 : IVec S1 32 := constantI S1 32 8191#32
  let c_2 : IVec S_ 32 := constantI S_ 32 0#32
  let v6 : IVec S4x16x8192x1 32 := broadcastInDim S4x16x8192x1 ![] bcast_S_S4x16x8192x1 c_2
  let v7 : IVec S4x16x8192x1 1 := cmpi .sge v5 v6
  let v8 : IVec S1x1x1x1 32 := broadcastInDim S1x1x1x1 ![3] bcast_S1_S1x1x1x1_3 c_1
  let v9 : IVec S4x16x8192x1 32 := broadcastInDim S4x16x8192x1 ![0, 1, 2, 3] bcast_S1x1x1x1_S4x16x8192x1_0_1_2_3 v8
  let v10 : IVec S4x16x8192x1 1 := cmpi .sle v5 v9
  let v11 : IVec S4x16x8192x1 1 := andi v7 v10
  let c_3 : IVec S_ 1 := constantI S_ 1 1#1
  let v12 : IVec S4x16x8192 1 := (fun x v => Host.reduce IntOp.andi x v reducesTo_S4x16x8192x1_S4x16x8192_d3 h_S_) v11 c_3
  let v13 : FVec F S4x16x8192 .f32 := (fun x i => Host.gather gather_S4x16x8192_S4x16x8192x1_S4x16x8192_n_2_01_01_2_3_111 x i) arg0 v5
  let cst : FVec F S_ .f32 := constant S_ .f32 0x7FC00000#32
  let v14 : FVec F S4x16x8192 .f32 := broadcastInDim S4x16x8192 ![] bcast_S_S4x16x8192 cst
  let v15 : FVec F S4x16x8192 .f32 := select v12 v13 v14
  v15

def fn_part1 {F : FTy → Type} [FloatOps F] (main_v3 : IVec S4x16x8192 1) (main_v5 : IVec S4x16x8192 1) (main_v18 : FVec F S4x32x8192 .f32) (main_v19 : FVec F S4x8192 .f32) : IVec S_ 1 :=
  let main_v20 : FVec F S4x1x8192 .f32 := broadcastInDim S4x1x8192 ![0, 2] bcast_S4x8192_S4x1x8192_0_2 main_v19
  let main_v21 : FVec F S4x32x8192 .f32 := broadcastInDim S4x32x8192 ![0, 1, 2] bcast_S4x1x8192_S4x32x8192_0_1_2 main_v20
  let main_v22 : IVec S4x32x8192 1 := cmpf .oeq main_v18 main_v21
  let main_v23 : IVec S4x32x8192 32 := (extui 32 · natLt_1_32) main_v22
  let main_c_2 : IVec S_ 32 := constantI S_ 32 0#32
  let main_v24 : IVec S4x8192 32 := (fun x v => Host.reduce IntOp.addi x v reducesTo_S4x32x8192_S4x8192_d1 h_S_) main_v23 main_c_2
  let main_c_3 : IVec S_ 32 := constantI S_ 32 1#32
  let main_v25 : IVec S4x8192 32 := broadcastInDim S4x8192 ![] bcast_S_S4x8192 main_c_3
  let main_v26 : IVec S4x8192 1 := cmpi .eq main_v24 main_v25
  let main_v27 : IVec S4x16x8192 1 := andi main_v3 main_v5
  let main_c_4 : IVec S_ 1 := constantI S_ 1 1#1
  let main_v28 : IVec S_ 1 := (fun x v => Host.reduce IntOp.andi x v reducesTo_S4x16x8192_S_d0_1_2 h_S_) main_v27 main_c_4
  let main_c_5 : IVec S_ 1 := constantI S_ 1 1#1
  let main_v29 : IVec S_ 1 := (fun x v => Host.reduce IntOp.andi x v reducesTo_S4x8192_S_d0_1 h_S_) main_v26 main_c_5
  let main_v30 : IVec S_ 1 := andi main_v28 main_v29
  main_v30

def fn {F : FTy → Type} [FloatOps F] (main_arg0 : IVec S4x16x8192 32) (main_arg1 : FVec F S4x16x8192x32 .f32) (main_arg2 : FVec F S4x16x8192 .f32) (main_arg3 : FVec F S16x8192 .f32) (main_arg4 : FVec F S1x16 .f32) : IVec S_ 1 :=
  let main_c : IVec S_ 32 := constantI S_ 32 2147483647#32
  let main_v0 : IVec S4x16x8192 32 := broadcastInDim S4x16x8192 ![] bcast_S_S4x16x8192 main_c
  let main_v1 : IVec S4x16x8192 32 := andi main_arg0 main_v0
  let main_c_0 : IVec S_ 32 := constantI S_ 32 2139095040#32
  let main_v2 : IVec S4x16x8192 32 := broadcastInDim S4x16x8192 ![] bcast_S_S4x16x8192 main_c_0
  let main_v3 : IVec S4x16x8192 1 := cmpi .sle main_v1 main_v2
  let main_c_1 : IVec S_ 32 := constantI S_ 32 2147483648#32
  let main_v4 : IVec S4x16x8192 32 := broadcastInDim S4x16x8192 ![] bcast_S_S4x16x8192 main_c_1
  let main_v5 : IVec S4x16x8192 1 := cmpi .ne main_arg0 main_v4
  let main_v6 : FVec F S4x16x8192 .f32 := bitcastToFloat .f32 main_arg0
  let main_v7 : FVec F S4x16x8192 .f32 := Host.negf main_v6
  let main_v8 : IVec S4x16x8192 32 := fn_argsort (F := F) main_v7
  let main_v9 : IVec S4x16x8192 32 := fn_argsort_0 (F := F) main_v8
  let main_v10 : FVec F S1x16x8192 .f32 := broadcastInDim S1x16x8192 ![1, 2] bcast_S16x8192_S1x16x8192_1_2 main_arg3
  let main_v11 : FVec F S4x16x8192 .f32 := broadcastInDim S4x16x8192 ![0, 1, 2] bcast_S1x16x8192_S4x16x8192_0_1_2 main_v10
  let main_v12 : FVec F S4x16x8192 .f32 := fn_take_along_axis (F := F) main_v11 main_v9
  let main_v13 : FVec F S4x16x8192x1 .f32 := broadcastInDim S4x16x8192x1 ![0, 1, 2] bcast_S4x16x8192_S4x16x8192x1_0_1_2 main_v12
  let main_v14 : FVec F S4x16x8192x32 .f32 := broadcastInDim S4x16x8192x32 ![0, 1, 2, 3] bcast_S4x16x8192x1_S4x16x8192x32_0_1_2_3 main_v13
  let main_v15 : FVec F S4x16x8192x32 .f32 := subf main_arg1 main_v14
  let main_v16 : FVec F S4x32x8192x16 .f32 := (transpose S4x32x8192x16 [0, 3, 2, 1] · transposes_S4x16x8192x32_S4x32x8192x16_0_3_2_1) main_v15
  let main_v17 : FVec F S4x32x8192x1 .f32 := (fun l r => Host.dotGeneral dot_S4x32x8192x16_S1x16_S4x32x8192x1_3_1_012_0_n_n none l r) main_v16 main_arg4
  let main_v18 : FVec F S4x32x8192 .f32 := shapeCast S4x32x8192 main_v17 shapeCasts_S4x32x8192x1_S4x32x8192
  let main_cst : FVec F S_ .f32 := constant S_ .f32 0xFF800000#32
  let main_v19 : FVec F S4x8192 .f32 := (fun x v => Host.reduce FloatOps.maximumf x v reducesTo_S4x32x8192_S4x8192_d1 h_S_) main_v18 main_cst
  fn_part1 (F := F) main_v3 main_v5 main_v18 main_v19
-- ==== Kernel.lean ====
abbrev S4x16x8192 : Shape := ⟨3, ![4, 16, 8192]⟩
abbrev S4x16x8192x32 : Shape := ⟨4, ![4, 16, 8192, 32]⟩
abbrev S16x8192 : Shape := ⟨2, ![16, 8192]⟩
abbrev S1x16 : Shape := ⟨2, ![1, 16]⟩
abbrev S64x8192 : Shape := ⟨2, ![64, 8192]⟩
abbrev S524288 : Shape := ⟨1, ![524288]⟩
abbrev S131072 : Shape := ⟨1, ![131072]⟩
abbrev S8192 : Shape := ⟨1, ![8192]⟩
abbrev S2048 : Shape := ⟨1, ![2048]⟩
abbrev S_ : Shape := ⟨0, ![]⟩
abbrev S16 : Shape := ⟨1, ![16]⟩
abbrev S4x16x32x8192 : Shape := ⟨4, ![4, 16, 32, 8192]⟩
abbrev S32x1x1024 : Shape := ⟨3, ![32, 1, 1024]⟩
abbrev S1x16x32x1024 : Shape := ⟨4, ![1, 16, 32, 1024]⟩
abbrev S1x16x1024 : Shape := ⟨3, ![1, 16, 1024]⟩
abbrev S1x1x1024 : Shape := ⟨3, ![1, 1, 1024]⟩
abbrev S1x1x32x1024 : Shape := ⟨4, ![1, 1, 32, 1024]⟩
abbrev S32x1024 : Shape := ⟨2, ![32, 1024]⟩
abbrev S1024 : Shape := ⟨1, ![1024]⟩
abbrev S1x1024 : Shape := ⟨2, ![1, 1024]⟩
abbrev S1x1 : Shape := ⟨2, ![1, 1]⟩
abbrev S4x8192 : Shape := ⟨2, ![4, 8192]⟩
abbrev S4x8192x1 : Shape := ⟨3, ![4, 8192, 1]⟩
abbrev S4x16x8192x1 : Shape := ⟨4, ![4, 16, 8192, 1]⟩

abbrev nBuf : Table → Nat
  | .hbm => 19
  | .local .tc .vmem => 8
  | .local .tc .smem => 1
  | .local .scVector .vmem => 8
  | _ => 0

abbrev bufTy : (tb : Table) → Fin (nBuf tb) → BufTy
  | .hbm, ⟨0, _⟩ => ⟨S4x16x8192, .i32⟩
  | .hbm, ⟨1, _⟩ => ⟨S4x16x8192x32, .f32⟩
  | .hbm, ⟨2, _⟩ => ⟨S4x16x8192, .f32⟩
  | .hbm, ⟨3, _⟩ => ⟨S16x8192, .f32⟩
  | .hbm, ⟨4, _⟩ => ⟨S1x16, .f32⟩
  | .hbm, ⟨5, _⟩ => ⟨S64x8192, .i32⟩
  | .hbm, ⟨6, _⟩ => ⟨S524288, .i32⟩
  | .hbm, ⟨7, _⟩ => ⟨S131072, .f32⟩
  | .hbm, ⟨8, _⟩ => ⟨S524288, .f32⟩
  | .hbm, ⟨9, _⟩ => ⟨S4x16x8192, .f32⟩
  | .hbm, ⟨10, _⟩ => ⟨S4x16x32x8192, .f32⟩
  | .hbm, ⟨11, _⟩ => ⟨S1x16, .bf16⟩
  | .hbm, ⟨12, _⟩ => ⟨S1x16, .f32⟩
  | .hbm, ⟨13, _⟩ => ⟨S32x1x1024, .f32⟩
  | .hbm, ⟨14, _⟩ => ⟨S32x1x1024, .i32⟩
  | .hbm, ⟨15, _⟩ => ⟨S4x8192, .f32⟩
  | .hbm, ⟨16, _⟩ => ⟨S4x8192, .i32⟩
  | .hbm, ⟨17, _⟩ => ⟨S4x8192x1, .f32⟩
  | .hbm, ⟨18, _⟩ => ⟨S4x16x8192x1, .f32⟩
  | .local .tc .vmem, ⟨0, _⟩ => ⟨S1x16x32x1024, .f32⟩
  | .local .tc .vmem, ⟨1, _⟩ => ⟨S1x16x32x1024, .f32⟩
  | .local .tc .vmem, ⟨2, _⟩ => ⟨S1x16x1024, .f32⟩
  | .local .tc .vmem, ⟨3, _⟩ => ⟨S1x16x1024, .f32⟩
  | .local .tc .vmem, ⟨4, _⟩ => ⟨S1x1x1024, .f32⟩
  | .local .tc .vmem, ⟨5, _⟩ => ⟨S1x1x1024, .f32⟩
  | .local .tc .vmem, ⟨6, _⟩ => ⟨S1x1x1024, .i32⟩
  | .local .tc .vmem, ⟨7, _⟩ => ⟨S1x1x1024, .i32⟩
  | .local .tc .smem, ⟨0, _⟩ => ⟨S1x16, .f32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S8192, .f32⟩
  | .local .scVector .vmem, ⟨5, _⟩ => ⟨S8192, .f32⟩
  | .local .scVector .vmem, ⟨6, _⟩ => ⟨S2048, .i32⟩
  | .local .scVector .vmem, ⟨7, _⟩ => ⟨S2048, .i32⟩
  | _, _ => ⟨S4x16x8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c8192_i32 : BitVec 32 := 8192#32
  let v12 : BitVec 32 := Scalar.muli v11 c8192_i32
  ![v12.toNat]
def k0_off2 (i : grid0.Coords) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v15 : BitVec 32 := Scalar.addi v1 c0_i32_4
  let c8192_i32_5 : BitVec 32 := 8192#32
  let v16 : BitVec 32 := Scalar.muli v15 c8192_i32_5
  ![v16.toNat]
@[reducible] def k0_t1_loop : Scf.Loop 32 :=
  let c0_i32_7 : BitVec 32 := 0#32
  let c128_i32 : BitVec 32 := 128#32
  let v17 : BitVec 32 := Scalar.addi c0_i32_7 c128_i32
  let c1_i32_8 : BitVec 32 := 1#32
  ⟨c0_i32_7, v17, c1_i32_8⟩
def k0_off3 (k0_t1 : Fin k0_t1_loop.trips) : Fin 1 → Nat :=
  let c0_i32_7 : BitVec 32 := 0#32
  let c1_i32_8 : BitVec 32 := 1#32
  let arg13 : BitVec 32 := Scf.iv c0_i32_7 c1_i32_8 k0_t1
  let c16_i32_108 : BitVec 32 := 16#32
  let v61 : BitVec 32 := Scalar.muli arg13 c16_i32_108
  let v62 : Index := Scalar.indexCast v61
  ![v62.toNat]
@[reducible] def k0_t2_loop : Scf.Loop 32 :=
  let c0_i32_11 : BitVec 32 := 0#32
  let c256_i32 : BitVec 32 := 256#32
  let v19 : BitVec 32 := Scalar.addi c0_i32_11 c256_i32
  let c1_i32_12 : BitVec 32 := 1#32
  ⟨c0_i32_11, v19, c1_i32_12⟩
def k0_off4 (k0_t2 : Fin k0_t2_loop.trips) : Fin 1 → Nat :=
  let c2_i32_108 : BitVec 32 := 2#32
  let c0_i32_11 : BitVec 32 := 0#32
  let c1_i32_12 : BitVec 32 := 1#32
  let arg13 : BitVec 32 := Scf.iv c0_i32_11 c1_i32_12 k0_t2
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk1 (v76 : IVec S16 32) : Prop :=
  (∀ a x, ((![v76] : Fin 1 → IVec S16 32) a x).toNat < S2048.size a)
theorem k0_idx1_inb : ∀ (v76 : IVec S16 32) (k0_hw1 : k0_chk1 v76), ∀ a x, ((![v76] : Fin 1 → IVec S16 32) a x).toNat < S2048.size a := fun v76 k0_hw1 => k0_hw1
def k0_off5 (k0_t2 : Fin k0_t2_loop.trips) : Fin 1 → Nat :=
  let c2_i32_111 : BitVec 32 := 2#32
  let c0_i32_11 : BitVec 32 := 0#32
  let c1_i32_12 : BitVec 32 := 1#32
  let arg13 : BitVec 32 := Scf.iv c0_i32_11 c1_i32_12 k0_t2
  let v78 : BitVec 32 := Scalar.muli c2_i32_111 arg13
  let c1_i32_112 : BitVec 32 := 1#32
  let v79 : BitVec 32 := Scalar.addi v78 c1_i32_112
  let c16_i32_113 : BitVec 32 := 16#32
  let v80 : BitVec 32 := Scalar.muli v79 c16_i32_113
  let v81 : Index := Scalar.indexCast v80
  ![v81.toNat]

def k0_chk2 (v93 : IVec S16 32) : Prop :=
  (∀ a x, ((![v93] : Fin 1 → IVec S16 32) a x).toNat < S2048.size a)
theorem k0_idx2_inb : ∀ (v93 : IVec S16 32) (k0_hw2 : k0_chk2 v93), ∀ a x, ((![v93] : Fin 1 → IVec S16 32) a x).toNat < S2048.size a := fun v93 k0_hw2 => k0_hw2
@[reducible] def k0_t3_loop : Scf.Loop 32 :=
  let c0_i32_15 : BitVec 32 := 0#32
  let c128_i32_16 : BitVec 32 := 128#32
  let v21 : BitVec 32 := Scalar.addi c0_i32_15 c128_i32_16
  let c1_i32_17 : BitVec 32 := 1#32
  ⟨c0_i32_15, v21, c1_i32_17⟩
def k0_off6 (k0_t3 : Fin k0_t3_loop.trips) : Fin 1 → Nat :=
  let c0_i32_15 : BitVec 32 := 0#32
  let c1_i32_17 : BitVec 32 := 1#32
  let arg13 : BitVec 32 := Scf.iv c0_i32_15 c1_i32_17 k0_t3
  let c16_i32_108 : BitVec 32 := 16#32
  let v61 : BitVec 32 := Scalar.muli arg13 c16_i32_108
  let v62 : Index := Scalar.indexCast v61
  ![v62.toNat]
@[reducible] def k0_t4_loop : Scf.Loop 32 :=
  let c0_i32_20 : BitVec 32 := 0#32
  let c128_i32_21 : BitVec 32 := 128#32
  let v23 : BitVec 32 := Scalar.addi c0_i32_20 c128_i32_21
  let c1_i32_22 : BitVec 32 := 1#32
  ⟨c0_i32_20, v23, c1_i32_22⟩
def k0_off7 (k0_t4 : Fin k0_t4_loop.trips) : Fin 1 → Nat :=
  let c0_i32_20 : BitVec 32 := 0#32
  let c1_i32_22 : BitVec 32 := 1#32
  let arg13 : BitVec 32 := Scf.iv c0_i32_20 c1_i32_22 k0_t4
  let c16_i32_108 : BitVec 32 := 16#32
  let v61 : BitVec 32 := Scalar.muli arg13 c16_i32_108
  let v62 : Index := Scalar.indexCast v61
  ![v62.toNat]
@[reducible] def k0_t5_loop : Scf.Loop 32 :=
  let c0_i32_25 : BitVec 32 := 0#32
  let c256_i32_26 : BitVec 32 := 256#32
  let v25 : BitVec 32 := Scalar.addi c0_i32_25 c256_i32_26
  let c1_i32_27 : BitVec 32 := 1#32
  ⟨c0_i32_25, v25, c1_i32_27⟩
def k0_off8 (k0_t5 : Fin k0_t5_loop.trips) : Fin 1 → Nat :=
  let c2_i32_108 : BitVec 32 := 2#32
  let c0_i32_25 : BitVec 32 := 0#32
  let c1_i32_27 : BitVec 32 := 1#32
  let arg13 : BitVec 32 := Scf.iv c0_i32_25 c1_i32_27 k0_t5
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk4 (v74 : IVec S16 32) : Prop :=
  (∀ a x, ((![v74] : Fin 1 → IVec S16 32) a x).toNat < S8192.size a) ∧
  (∀ a x, ((![v74] : Fin 1 → IVec S16 32) a x).toNat < S8192.size a)
theorem k0_idx4_inb : ∀ (v74 : IVec S16 32) (k0_hw4 : k0_chk4 v74), ∀ a x, ((![v74] : Fin 1 → IVec S16 32) a x).toNat < S8192.size a := fun v74 k0_hw4 => k0_hw4.1
theorem k0_idx5_inb : ∀ (v74 : IVec S16 32) (k0_hw4 : k0_chk4 v74), ∀ a x, ((![v74] : Fin 1 → IVec S16 32) a x).toNat < S8192.size a := fun v74 k0_hw4 => k0_hw4.2

def k0_chk3 (v69 : IVec S16 32) : Prop :=
  (∀ a x, ((![v69] : Fin 1 → IVec S16 32) a x).toNat < S2048.size a) ∧
  (∀ a x, ((![v69] : Fin 1 → IVec S16 32) a x).toNat < S2048.size a)
theorem k0_idx3_inb : ∀ (v69 : IVec S16 32) (k0_hw3 : k0_chk3 v69), ∀ a x, ((![v69] : Fin 1 → IVec S16 32) a x).toNat < S2048.size a := fun v69 k0_hw3 => k0_hw3.1
theorem k0_idx6_inb : ∀ (v69 : IVec S16 32) (k0_hw3 : k0_chk3 v69), ∀ a x, ((![v69] : Fin 1 → IVec S16 32) a x).toNat < S2048.size a := fun v69 k0_hw3 => k0_hw3.2

def k0_chk5 (v78 : IVec S16 32) : Prop :=
  (∀ a x, ((![v78] : Fin 1 → IVec S16 32) a x).toNat < S2048.size a)
theorem k0_idx7_inb : ∀ (v78 : IVec S16 32) (k0_hw5 : k0_chk5 v78), ∀ a x, ((![v78] : Fin 1 → IVec S16 32) a x).toNat < S2048.size a := fun v78 k0_hw5 => k0_hw5
def k0_off9 (k0_t5 : Fin k0_t5_loop.trips) : Fin 1 → Nat :=
  let c2_i32_116 : BitVec 32 := 2#32
  let c0_i32_25 : BitVec 32 := 0#32
  let c1_i32_27 : BitVec 32 := 1#32
  let arg13 : BitVec 32 := Scf.iv c0_i32_25 c1_i32_27 k0_t5
  let v80 : BitVec 32 := Scalar.muli c2_i32_116 arg13
  let c1_i32_117 : BitVec 32 := 1#32
  let v81 : BitVec 32 := Scalar.addi v80 c1_i32_117
  let c16_i32_118 : BitVec 32 := 16#32
  let v82 : BitVec 32 := Scalar.muli v81 c16_i32_118
  let v83 : Index := Scalar.indexCast v82
  ![v83.toNat]

def k0_chk7 (v93 : IVec S16 32) : Prop :=
  (∀ a x, ((![v93] : Fin 1 → IVec S16 32) a x).toNat < S8192.size a) ∧
  (∀ a x, ((![v93] : Fin 1 → IVec S16 32) a x).toNat < S8192.size a)
theorem k0_idx9_inb : ∀ (v93 : IVec S16 32) (k0_hw7 : k0_chk7 v93), ∀ a x, ((![v93] : Fin 1 → IVec S16 32) a x).toNat < S8192.size a := fun v93 k0_hw7 => k0_hw7.1
theorem k0_idx10_inb : ∀ (v93 : IVec S16 32) (k0_hw7 : k0_chk7 v93), ∀ a x, ((![v93] : Fin 1 → IVec S16 32) a x).toNat < S8192.size a := fun v93 k0_hw7 => k0_hw7.2

def k0_chk6 (v88 : IVec S16 32) : Prop :=
  (∀ a x, ((![v88] : Fin 1 → IVec S16 32) a x).toNat < S2048.size a) ∧
  (∀ a x, ((![v88] : Fin 1 → IVec S16 32) a x).toNat < S2048.size a)
theorem k0_idx8_inb : ∀ (v88 : IVec S16 32) (k0_hw6 : k0_chk6 v88), ∀ a x, ((![v88] : Fin 1 → IVec S16 32) a x).toNat < S2048.size a := fun v88 k0_hw6 => k0_hw6.1
theorem k0_idx11_inb : ∀ (v88 : IVec S16 32) (k0_hw6 : k0_chk6 v88), ∀ a x, ((![v88] : Fin 1 → IVec S16 32) a x).toNat < S2048.size a := fun v88 k0_hw6 => k0_hw6.2

def k0_chk8 (v97 : IVec S16 32) : Prop :=
  (∀ a x, ((![v97] : Fin 1 → IVec S16 32) a x).toNat < S2048.size a)
theorem k0_idx12_inb : ∀ (v97 : IVec S16 32) (k0_hw8 : k0_chk8 v97), ∀ a x, ((![v97] : Fin 1 → IVec S16 32) a x).toNat < S2048.size a := fun v97 k0_hw8 => k0_hw8
@[reducible] def k0_t6_loop : Scf.Loop 32 :=
  let c0_i32_30 : BitVec 32 := 0#32
  let c64_i32 : BitVec 32 := 64#32
  let v27 : BitVec 32 := Scalar.addi c0_i32_30 c64_i32
  let c1_i32_31 : BitVec 32 := 1#32
  ⟨c0_i32_30, v27, c1_i32_31⟩
def k0_off10 (k0_t6 : Fin k0_t6_loop.trips) : Fin 1 → Nat :=
  let c0_i32_30 : BitVec 32 := 0#32
  let c1_i32_31 : BitVec 32 := 1#32
  let arg13 : BitVec 32 := Scf.iv c0_i32_30 c1_i32_31 k0_t6
  let c16_i32_108 : BitVec 32 := 16#32
  let v61 : BitVec 32 := Scalar.muli arg13 c16_i32_108
  let v62 : Index := Scalar.indexCast v61
  ![v62.toNat]
@[reducible] def k0_t7_loop : Scf.Loop 32 :=
  let c0_i32_34 : BitVec 32 := 0#32
  let c128_i32_35 : BitVec 32 := 128#32
  let v29 : BitVec 32 := Scalar.addi c0_i32_34 c128_i32_35
  let c1_i32_36 : BitVec 32 := 1#32
  ⟨c0_i32_34, v29, c1_i32_36⟩
def k0_off11 (k0_t7 : Fin k0_t7_loop.trips) : Fin 1 → Nat :=
  let c0_i32_34 : BitVec 32 := 0#32
  let c1_i32_36 : BitVec 32 := 1#32
  let arg13 : BitVec 32 := Scf.iv c0_i32_34 c1_i32_36 k0_t7
  let c16_i32_108 : BitVec 32 := 16#32
  let v61 : BitVec 32 := Scalar.muli arg13 c16_i32_108
  let v62 : Index := Scalar.indexCast v61
  ![v62.toNat]
@[reducible] def k0_t8_loop : Scf.Loop 32 :=
  let c0_i32_39 : BitVec 32 := 0#32
  let c256_i32_40 : BitVec 32 := 256#32
  let v31 : BitVec 32 := Scalar.addi c0_i32_39 c256_i32_40
  let c1_i32_41 : BitVec 32 := 1#32
  ⟨c0_i32_39, v31, c1_i32_41⟩
def k0_off12 (k0_t8 : Fin k0_t8_loop.trips) : Fin 1 → Nat :=
  let c2_i32_108 : BitVec 32 := 2#32
  let c0_i32_39 : BitVec 32 := 0#32
  let c1_i32_41 : BitVec 32 := 1#32
  let arg13 : BitVec 32 := Scf.iv c0_i32_39 c1_i32_41 k0_t8
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk10 (v76 : IVec S16 32) : Prop :=
  (∀ a x, ((![v76] : Fin 1 → IVec S16 32) a x).toNat < S8192.size a) ∧
  (∀ a x, ((![v76] : Fin 1 → IVec S16 32) a x).toNat < S8192.size a)
theorem k0_idx14_inb : ∀ (v76 : IVec S16 32) (k0_hw10 : k0_chk10 v76), ∀ a x, ((![v76] : Fin 1 → IVec S16 32) a x).toNat < S8192.size a := fun v76 k0_hw10 => k0_hw10.1
theorem k0_idx15_inb : ∀ (v76 : IVec S16 32) (k0_hw10 : k0_chk10 v76), ∀ a x, ((![v76] : Fin 1 → IVec S16 32) a x).toNat < S8192.size a := fun v76 k0_hw10 => k0_hw10.2

def k0_chk9 (v71 : IVec S16 32) : Prop :=
  (∀ a x, ((![v71] : Fin 1 → IVec S16 32) a x).toNat < S2048.size a) ∧
  (∀ a x, ((![v71] : Fin 1 → IVec S16 32) a x).toNat < S2048.size a)
theorem k0_idx13_inb : ∀ (v71 : IVec S16 32) (k0_hw9 : k0_chk9 v71), ∀ a x, ((![v71] : Fin 1 → IVec S16 32) a x).toNat < S2048.size a := fun v71 k0_hw9 => k0_hw9.1
theorem k0_idx16_inb : ∀ (v71 : IVec S16 32) (k0_hw9 : k0_chk9 v71), ∀ a x, ((![v71] : Fin 1 → IVec S16 32) a x).toNat < S2048.size a := fun v71 k0_hw9 => k0_hw9.2

def k0_chk11 (v80 : IVec S16 32) : Prop :=
  (∀ a x, ((![v80] : Fin 1 → IVec S16 32) a x).toNat < S2048.size a)
theorem k0_idx17_inb : ∀ (v80 : IVec S16 32) (k0_hw11 : k0_chk11 v80), ∀ a x, ((![v80] : Fin 1 → IVec S16 32) a x).toNat < S2048.size a := fun v80 k0_hw11 => k0_hw11
def k0_off13 (k0_t8 : Fin k0_t8_loop.trips) : Fin 1 → Nat :=
  let c2_i32_115 : BitVec 32 := 2#32
  let c0_i32_39 : BitVec 32 := 0#32
  let c1_i32_41 : BitVec 32 := 1#32
  let arg13 : BitVec 32 := Scf.iv c0_i32_39 c1_i32_41 k0_t8
  let v82 : BitVec 32 := Scalar.muli c2_i32_115 arg13
  let c1_i32_116 : BitVec 32 := 1#32
  let v83 : BitVec 32 := Scalar.addi v82 c1_i32_116
  let c16_i32_117 : BitVec 32 := 16#32
  let v84 : BitVec 32 := Scalar.muli v83 c16_i32_117
  let v85 : Index := Scalar.indexCast v84
  ![v85.toNat]

def k0_chk13 (v97 : IVec S16 32) : Prop :=
  (∀ a x, ((![v97] : Fin 1 → IVec S16 32) a x).toNat < S8192.size a) ∧
  (∀ a x, ((![v97] : Fin 1 → IVec S16 32) a x).toNat < S8192.size a)
theorem k0_idx19_inb : ∀ (v97 : IVec S16 32) (k0_hw13 : k0_chk13 v97), ∀ a x, ((![v97] : Fin 1 → IVec S16 32) a x).toNat < S8192.size a := fun v97 k0_hw13 => k0_hw13.1
theorem k0_idx20_inb : ∀ (v97 : IVec S16 32) (k0_hw13 : k0_chk13 v97), ∀ a x, ((![v97] : Fin 1 → IVec S16 32) a x).toNat < S8192.size a := fun v97 k0_hw13 => k0_hw13.2

def k0_chk12 (v92 : IVec S16 32) : Prop :=
  (∀ a x, ((![v92] : Fin 1 → IVec S16 32) a x).toNat < S2048.size a) ∧
  (∀ a x, ((![v92] : Fin 1 → IVec S16 32) a x).toNat < S2048.size a)
theorem k0_idx18_inb : ∀ (v92 : IVec S16 32) (k0_hw12 : k0_chk12 v92), ∀ a x, ((![v92] : Fin 1 → IVec S16 32) a x).toNat < S2048.size a := fun v92 k0_hw12 => k0_hw12.1
theorem k0_idx21_inb : ∀ (v92 : IVec S16 32) (k0_hw12 : k0_chk12 v92), ∀ a x, ((![v92] : Fin 1 → IVec S16 32) a x).toNat < S2048.size a := fun v92 k0_hw12 => k0_hw12.2

def k0_chk14 (v101 : IVec S16 32) : Prop :=
  (∀ a x, ((![v101] : Fin 1 → IVec S16 32) a x).toNat < S2048.size a)
theorem k0_idx22_inb : ∀ (v101 : IVec S16 32) (k0_hw14 : k0_chk14 v101), ∀ a x, ((![v101] : Fin 1 → IVec S16 32) a x).toNat < S2048.size a := fun v101 k0_hw14 => k0_hw14
@[reducible] def k0_t9_loop : Scf.Loop 32 :=
  let c0_i32_44 : BitVec 32 := 0#32
  let c64_i32_45 : BitVec 32 := 64#32
  let v33 : BitVec 32 := Scalar.addi c0_i32_44 c64_i32_45
  let c1_i32_46 : BitVec 32 := 1#32
  ⟨c0_i32_44, v33, c1_i32_46⟩
def k0_off14 (k0_t9 : Fin k0_t9_loop.trips) : Fin 1 → Nat :=
  let c0_i32_44 : BitVec 32 := 0#32
  let c1_i32_46 : BitVec 32 := 1#32
  let arg13 : BitVec 32 := Scf.iv c0_i32_44 c1_i32_46 k0_t9
  let c16_i32_108 : BitVec 32 := 16#32
  let v61 : BitVec 32 := Scalar.muli arg13 c16_i32_108
  let v62 : Index := Scalar.indexCast v61
  ![v62.toNat]
@[reducible] def k0_t10_loop : Scf.Loop 32 :=
  let c0_i32_49 : BitVec 32 := 0#32
  let c256_i32_50 : BitVec 32 := 256#32
  let v35 : BitVec 32 := Scalar.addi c0_i32_49 c256_i32_50
  let c1_i32_51 : BitVec 32 := 1#32
  ⟨c0_i32_49, v35, c1_i32_51⟩
def k0_off15 (k0_t10 : Fin k0_t10_loop.trips) : Fin 1 → Nat :=
  let c2_i32_108 : BitVec 32 := 2#32
  let c0_i32_49 : BitVec 32 := 0#32
  let c1_i32_51 : BitVec 32 := 1#32
  let arg13 : BitVec 32 := Scf.iv c0_i32_49 c1_i32_51 k0_t10
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk16 (v76 : IVec S16 32) : Prop :=
  (∀ a x, ((![v76] : Fin 1 → IVec S16 32) a x).toNat < S8192.size a)
theorem k0_idx24_inb : ∀ (v76 : IVec S16 32) (k0_hw16 : k0_chk16 v76), ∀ a x, ((![v76] : Fin 1 → IVec S16 32) a x).toNat < S8192.size a := fun v76 k0_hw16 => k0_hw16

def k0_chk17 (v67 : IVec S16 32) : Prop :=
  (∀ a x, ((![v67] : Fin 1 → IVec S16 32) a x).toNat < S8192.size a)
theorem k0_idx25_inb : ∀ (v67 : IVec S16 32) (k0_hw17 : k0_chk17 v67), ∀ a x, ((![v67] : Fin 1 → IVec S16 32) a x).toNat < S8192.size a := fun v67 k0_hw17 => k0_hw17

def k0_chk15 (v71 : IVec S16 32) : Prop :=
  (∀ a x, ((![v71] : Fin 1 → IVec S16 32) a x).toNat < S2048.size a) ∧
  (∀ a x, ((![v71] : Fin 1 → IVec S16 32) a x).toNat < S2048.size a)
theorem k0_idx23_inb : ∀ (v71 : IVec S16 32) (k0_hw15 : k0_chk15 v71), ∀ a x, ((![v71] : Fin 1 → IVec S16 32) a x).toNat < S2048.size a := fun v71 k0_hw15 => k0_hw15.1
theorem k0_idx26_inb : ∀ (v71 : IVec S16 32) (k0_hw15 : k0_chk15 v71), ∀ a x, ((![v71] : Fin 1 → IVec S16 32) a x).toNat < S2048.size a := fun v71 k0_hw15 => k0_hw15.2
def k0_off16 (k0_t10 : Fin k0_t10_loop.trips) : Fin 1 → Nat :=
  let c2_i32_112 : BitVec 32 := 2#32
  let c0_i32_49 : BitVec 32 := 0#32
  let c1_i32_51 : BitVec 32 := 1#32
  let arg13 : BitVec 32 := Scf.iv c0_i32_49 c1_i32_51 k0_t10
  let v78 : BitVec 32 := Scalar.muli c2_i32_112 arg13
  let c1_i32_113 : BitVec 32 := 1#32
  let v79 : BitVec 32 := Scalar.addi v78 c1_i32_113
  let c16_i32_114 : BitVec 32 := 16#32
  let v80 : BitVec 32 := Scalar.muli v79 c16_i32_114
  let v81 : Index := Scalar.indexCast v80
  ![v81.toNat]

def k0_chk19 (v93 : IVec S16 32) : Prop :=
  (∀ a x, ((![v93] : Fin 1 → IVec S16 32) a x).toNat < S8192.size a)
theorem k0_idx28_inb : ∀ (v93 : IVec S16 32) (k0_hw19 : k0_chk19 v93), ∀ a x, ((![v93] : Fin 1 → IVec S16 32) a x).toNat < S8192.size a := fun v93 k0_hw19 => k0_hw19

def k0_chk20 (v84 : IVec S16 32) : Prop :=
  (∀ a x, ((![v84] : Fin 1 → IVec S16 32) a x).toNat < S8192.size a)
theorem k0_idx29_inb : ∀ (v84 : IVec S16 32) (k0_hw20 : k0_chk20 v84), ∀ a x, ((![v84] : Fin 1 → IVec S16 32) a x).toNat < S8192.size a := fun v84 k0_hw20 => k0_hw20

def k0_chk18 (v88 : IVec S16 32) : Prop :=
  (∀ a x, ((![v88] : Fin 1 → IVec S16 32) a x).toNat < S2048.size a) ∧
  (∀ a x, ((![v88] : Fin 1 → IVec S16 32) a x).toNat < S2048.size a)
theorem k0_idx27_inb : ∀ (v88 : IVec S16 32) (k0_hw18 : k0_chk18 v88), ∀ a x, ((![v88] : Fin 1 → IVec S16 32) a x).toNat < S2048.size a := fun v88 k0_hw18 => k0_hw18.1
theorem k0_idx30_inb : ∀ (v88 : IVec S16 32) (k0_hw18 : k0_chk18 v88), ∀ a x, ((![v88] : Fin 1 → IVec S16 32) a x).toNat < S2048.size a := fun v88 k0_hw18 => k0_hw18.2
@[reducible] def k0_t11_loop : Scf.Loop 32 :=
  let c0_i32_56 : BitVec 32 := 0#32
  let c128_i32_57 : BitVec 32 := 128#32
  let v40 : BitVec 32 := Scalar.addi c0_i32_56 c128_i32_57
  let c1_i32_58 : BitVec 32 := 1#32
  ⟨c0_i32_56, v40, c1_i32_58⟩
def k0_off17 (k0_t11 : Fin k0_t11_loop.trips) : Fin 1 → Nat :=
  let c0_i32_56 : BitVec 32 := 0#32
  let c1_i32_58 : BitVec 32 := 1#32
  let arg13 : BitVec 32 := Scf.iv c0_i32_56 c1_i32_58 k0_t11
  let c16_i32_108 : BitVec 32 := 16#32
  let v61 : BitVec 32 := Scalar.muli arg13 c16_i32_108
  let v62 : Index := Scalar.indexCast v61
  ![v62.toNat]
@[reducible] def k0_t12_loop : Scf.Loop 32 :=
  let c0_i32_63 : BitVec 32 := 0#32
  let c256_i32_64 : BitVec 32 := 256#32
  let v42 : BitVec 32 := Scalar.addi c0_i32_63 c256_i32_64
  let c1_i32_65 : BitVec 32 := 1#32
  ⟨c0_i32_63, v42, c1_i32_65⟩
def k0_off18 (k0_t12 : Fin k0_t12_loop.trips) : Fin 1 → Nat :=
  let c2_i32_108 : BitVec 32 := 2#32
  let c0_i32_63 : BitVec 32 := 0#32
  let c1_i32_65 : BitVec 32 := 1#32
  let arg13 : BitVec 32 := Scf.iv c0_i32_63 c1_i32_65 k0_t12
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk21 (v76 : IVec S16 32) : Prop :=
  (∀ a x, ((![v76] : Fin 1 → IVec S16 32) a x).toNat < S2048.size a)
theorem k0_idx31_inb : ∀ (v76 : IVec S16 32) (k0_hw21 : k0_chk21 v76), ∀ a x, ((![v76] : Fin 1 → IVec S16 32) a x).toNat < S2048.size a := fun v76 k0_hw21 => k0_hw21
def k0_off19 (k0_t12 : Fin k0_t12_loop.trips) : Fin 1 → Nat :=
  let c2_i32_111 : BitVec 32 := 2#32
  let c0_i32_63 : BitVec 32 := 0#32
  let c1_i32_65 : BitVec 32 := 1#32
  let arg13 : BitVec 32 := Scf.iv c0_i32_63 c1_i32_65 k0_t12
  let v78 : BitVec 32 := Scalar.muli c2_i32_111 arg13
  let c1_i32_112 : BitVec 32 := 1#32
  let v79 : BitVec 32 := Scalar.addi v78 c1_i32_112
  let c16_i32_113 : BitVec 32 := 16#32
  let v80 : BitVec 32 := Scalar.muli v79 c16_i32_113
  let v81 : Index := Scalar.indexCast v80
  ![v81.toNat]

def k0_chk22 (v93 : IVec S16 32) : Prop :=
  (∀ a x, ((![v93] : Fin 1 → IVec S16 32) a x).toNat < S2048.size a)
theorem k0_idx32_inb : ∀ (v93 : IVec S16 32) (k0_hw22 : k0_chk22 v93), ∀ a x, ((![v93] : Fin 1 → IVec S16 32) a x).toNat < S2048.size a := fun v93 k0_hw22 => k0_hw22
@[reducible] def k0_t13_loop : Scf.Loop 32 :=
  let c0_i32_68 : BitVec 32 := 0#32
  let c128_i32_69 : BitVec 32 := 128#32
  let v44 : BitVec 32 := Scalar.addi c0_i32_68 c128_i32_69
  let c1_i32_70 : BitVec 32 := 1#32
  ⟨c0_i32_68, v44, c1_i32_70⟩
def k0_off20 (k0_t13 : Fin k0_t13_loop.trips) : Fin 1 → Nat :=
  let c0_i32_68 : BitVec 32 := 0#32
  let c1_i32_70 : BitVec 32 := 1#32
  let arg13 : BitVec 32 := Scf.iv c0_i32_68 c1_i32_70 k0_t13
  let c16_i32_108 : BitVec 32 := 16#32
  let v61 : BitVec 32 := Scalar.muli arg13 c16_i32_108
  let v62 : Index := Scalar.indexCast v61
  ![v62.toNat]
@[reducible] def k0_t14_loop : Scf.Loop 32 :=
  let c0_i32_73 : BitVec 32 := 0#32
  let c128_i32_74 : BitVec 32 := 128#32
  let v46 : BitVec 32 := Scalar.addi c0_i32_73 c128_i32_74
  let c1_i32_75 : BitVec 32 := 1#32
  ⟨c0_i32_73, v46, c1_i32_75⟩
def k0_off21 (k0_t14 : Fin k0_t14_loop.trips) : Fin 1 → Nat :=
  let c0_i32_73 : BitVec 32 := 0#32
  let c1_i32_75 : BitVec 32 := 1#32
  let arg13 : BitVec 32 := Scf.iv c0_i32_73 c1_i32_75 k0_t14
  let c16_i32_108 : BitVec 32 := 16#32
  let v61 : BitVec 32 := Scalar.muli arg13 c16_i32_108
  let v62 : Index := Scalar.indexCast v61
  ![v62.toNat]
@[reducible] def k0_t15_loop : Scf.Loop 32 :=
  let c0_i32_78 : BitVec 32 := 0#32
  let c256_i32_79 : BitVec 32 := 256#32
  let v48 : BitVec 32 := Scalar.addi c0_i32_78 c256_i32_79
  let c1_i32_80 : BitVec 32 := 1#32
  ⟨c0_i32_78, v48, c1_i32_80⟩
def k0_off22 (k0_t15 : Fin k0_t15_loop.trips) : Fin 1 → Nat :=
  let c2_i32_108 : BitVec 32 := 2#32
  let c0_i32_78 : BitVec 32 := 0#32
  let c1_i32_80 : BitVec 32 := 1#32
  let arg13 : BitVec 32 := Scf.iv c0_i32_78 c1_i32_80 k0_t15
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk24 (v74 : IVec S16 32) : Prop :=
  (∀ a x, ((![v74] : Fin 1 → IVec S16 32) a x).toNat < S8192.size a) ∧
  (∀ a x, ((![v74] : Fin 1 → IVec S16 32) a x).toNat < S8192.size a)
theorem k0_idx34_inb : ∀ (v74 : IVec S16 32) (k0_hw24 : k0_chk24 v74), ∀ a x, ((![v74] : Fin 1 → IVec S16 32) a x).toNat < S8192.size a := fun v74 k0_hw24 => k0_hw24.1
theorem k0_idx35_inb : ∀ (v74 : IVec S16 32) (k0_hw24 : k0_chk24 v74), ∀ a x, ((![v74] : Fin 1 → IVec S16 32) a x).toNat < S8192.size a := fun v74 k0_hw24 => k0_hw24.2

def k0_chk23 (v69 : IVec S16 32) : Prop :=
  (∀ a x, ((![v69] : Fin 1 → IVec S16 32) a x).toNat < S2048.size a) ∧
  (∀ a x, ((![v69] : Fin 1 → IVec S16 32) a x).toNat < S2048.size a)
theorem k0_idx33_inb : ∀ (v69 : IVec S16 32) (k0_hw23 : k0_chk23 v69), ∀ a x, ((![v69] : Fin 1 → IVec S16 32) a x).toNat < S2048.size a := fun v69 k0_hw23 => k0_hw23.1
theorem k0_idx36_inb : ∀ (v69 : IVec S16 32) (k0_hw23 : k0_chk23 v69), ∀ a x, ((![v69] : Fin 1 → IVec S16 32) a x).toNat < S2048.size a := fun v69 k0_hw23 => k0_hw23.2

def k0_chk25 (v78 : IVec S16 32) : Prop :=
  (∀ a x, ((![v78] : Fin 1 → IVec S16 32) a x).toNat < S2048.size a)
theorem k0_idx37_inb : ∀ (v78 : IVec S16 32) (k0_hw25 : k0_chk25 v78), ∀ a x, ((![v78] : Fin 1 → IVec S16 32) a x).toNat < S2048.size a := fun v78 k0_hw25 => k0_hw25
def k0_off23 (k0_t15 : Fin k0_t15_loop.trips) : Fin 1 → Nat :=
  let c2_i32_116 : BitVec 32 := 2#32
  let c0_i32_78 : BitVec 32 := 0#32
  let c1_i32_80 : BitVec 32 := 1#32
  let arg13 : BitVec 32 := Scf.iv c0_i32_78 c1_i32_80 k0_t15
  let v80 : BitVec 32 := Scalar.muli c2_i32_116 arg13
  let c1_i32_117 : BitVec 32 := 1#32
  let v81 : BitVec 32 := Scalar.addi v80 c1_i32_117
  let c16_i32_118 : BitVec 32 := 16#32
  let v82 : BitVec 32 := Scalar.muli v81 c16_i32_118
  let v83 : Index := Scalar.indexCast v82
  ![v83.toNat]

def k0_chk27 (v93 : IVec S16 32) : Prop :=
  (∀ a x, ((![v93] : Fin 1 → IVec S16 32) a x).toNat < S8192.size a) ∧
  (∀ a x, ((![v93] : Fin 1 → IVec S16 32) a x).toNat < S8192.size a)
theorem k0_idx39_inb : ∀ (v93 : IVec S16 32) (k0_hw27 : k0_chk27 v93), ∀ a x, ((![v93] : Fin 1 → IVec S16 32) a x).toNat < S8192.size a := fun v93 k0_hw27 => k0_hw27.1
theorem k0_idx40_inb : ∀ (v93 : IVec S16 32) (k0_hw27 : k0_chk27 v93), ∀ a x, ((![v93] : Fin 1 → IVec S16 32) a x).toNat < S8192.size a := fun v93 k0_hw27 => k0_hw27.2

def k0_chk26 (v88 : IVec S16 32) : Prop :=
  (∀ a x, ((![v88] : Fin 1 → IVec S16 32) a x).toNat < S2048.size a) ∧
  (∀ a x, ((![v88] : Fin 1 → IVec S16 32) a x).toNat < S2048.size a)
theorem k0_idx38_inb : ∀ (v88 : IVec S16 32) (k0_hw26 : k0_chk26 v88), ∀ a x, ((![v88] : Fin 1 → IVec S16 32) a x).toNat < S2048.size a := fun v88 k0_hw26 => k0_hw26.1
theorem k0_idx41_inb : ∀ (v88 : IVec S16 32) (k0_hw26 : k0_chk26 v88), ∀ a x, ((![v88] : Fin 1 → IVec S16 32) a x).toNat < S2048.size a := fun v88 k0_hw26 => k0_hw26.2

def k0_chk28 (v97 : IVec S16 32) : Prop :=
  (∀ a x, ((![v97] : Fin 1 → IVec S16 32) a x).toNat < S2048.size a)
theorem k0_idx42_inb : ∀ (v97 : IVec S16 32) (k0_hw28 : k0_chk28 v97), ∀ a x, ((![v97] : Fin 1 → IVec S16 32) a x).toNat < S2048.size a := fun v97 k0_hw28 => k0_hw28
@[reducible] def k0_t16_loop : Scf.Loop 32 :=
  let c0_i32_83 : BitVec 32 := 0#32
  let c64_i32_84 : BitVec 32 := 64#32
  let v50 : BitVec 32 := Scalar.addi c0_i32_83 c64_i32_84
  let c1_i32_85 : BitVec 32 := 1#32
  ⟨c0_i32_83, v50, c1_i32_85⟩
def k0_off24 (k0_t16 : Fin k0_t16_loop.trips) : Fin 1 → Nat :=
  let c0_i32_83 : BitVec 32 := 0#32
  let c1_i32_85 : BitVec 32 := 1#32
  let arg13 : BitVec 32 := Scf.iv c0_i32_83 c1_i32_85 k0_t16
  let c16_i32_108 : BitVec 32 := 16#32
  let v61 : BitVec 32 := Scalar.muli arg13 c16_i32_108
  let v62 : Index := Scalar.indexCast v61
  ![v62.toNat]
@[reducible] def k0_t17_loop : Scf.Loop 32 :=
  let c0_i32_88 : BitVec 32 := 0#32
  let c128_i32_89 : BitVec 32 := 128#32
  let v52 : BitVec 32 := Scalar.addi c0_i32_88 c128_i32_89
  let c1_i32_90 : BitVec 32 := 1#32
  ⟨c0_i32_88, v52, c1_i32_90⟩
def k0_off25 (k0_t17 : Fin k0_t17_loop.trips) : Fin 1 → Nat :=
  let c0_i32_88 : BitVec 32 := 0#32
  let c1_i32_90 : BitVec 32 := 1#32
  let arg13 : BitVec 32 := Scf.iv c0_i32_88 c1_i32_90 k0_t17
  let c16_i32_108 : BitVec 32 := 16#32
  let v61 : BitVec 32 := Scalar.muli arg13 c16_i32_108
  let v62 : Index := Scalar.indexCast v61
  ![v62.toNat]
@[reducible] def k0_t18_loop : Scf.Loop 32 :=
  let c0_i32_93 : BitVec 32 := 0#32
  let c256_i32_94 : BitVec 32 := 256#32
  let v54 : BitVec 32 := Scalar.addi c0_i32_93 c256_i32_94
  let c1_i32_95 : BitVec 32 := 1#32
  ⟨c0_i32_93, v54, c1_i32_95⟩
def k0_off26 (k0_t18 : Fin k0_t18_loop.trips) : Fin 1 → Nat :=
  let c2_i32_108 : BitVec 32 := 2#32
  let c0_i32_93 : BitVec 32 := 0#32
  let c1_i32_95 : BitVec 32 := 1#32
  let arg13 : BitVec 32 := Scf.iv c0_i32_93 c1_i32_95 k0_t18
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk30 (v76 : IVec S16 32) : Prop :=
  (∀ a x, ((![v76] : Fin 1 → IVec S16 32) a x).toNat < S8192.size a) ∧
  (∀ a x, ((![v76] : Fin 1 → IVec S16 32) a x).toNat < S8192.size a)
theorem k0_idx44_inb : ∀ (v76 : IVec S16 32) (k0_hw30 : k0_chk30 v76), ∀ a x, ((![v76] : Fin 1 → IVec S16 32) a x).toNat < S8192.size a := fun v76 k0_hw30 => k0_hw30.1
theorem k0_idx45_inb : ∀ (v76 : IVec S16 32) (k0_hw30 : k0_chk30 v76), ∀ a x, ((![v76] : Fin 1 → IVec S16 32) a x).toNat < S8192.size a := fun v76 k0_hw30 => k0_hw30.2

def k0_chk29 (v71 : IVec S16 32) : Prop :=
  (∀ a x, ((![v71] : Fin 1 → IVec S16 32) a x).toNat < S2048.size a) ∧
  (∀ a x, ((![v71] : Fin 1 → IVec S16 32) a x).toNat < S2048.size a)
theorem k0_idx43_inb : ∀ (v71 : IVec S16 32) (k0_hw29 : k0_chk29 v71), ∀ a x, ((![v71] : Fin 1 → IVec S16 32) a x).toNat < S2048.size a := fun v71 k0_hw29 => k0_hw29.1
theorem k0_idx46_inb : ∀ (v71 : IVec S16 32) (k0_hw29 : k0_chk29 v71), ∀ a x, ((![v71] : Fin 1 → IVec S16 32) a x).toNat < S2048.size a := fun v71 k0_hw29 => k0_hw29.2

def k0_chk31 (v80 : IVec S16 32) : Prop :=
  (∀ a x, ((![v80] : Fin 1 → IVec S16 32) a x).toNat < S2048.size a)
theorem k0_idx47_inb : ∀ (v80 : IVec S16 32) (k0_hw31 : k0_chk31 v80), ∀ a x, ((![v80] : Fin 1 → IVec S16 32) a x).toNat < S2048.size a := fun v80 k0_hw31 => k0_hw31
def k0_off27 (k0_t18 : Fin k0_t18_loop.trips) : Fin 1 → Nat :=
  let c2_i32_115 : BitVec 32 := 2#32
  let c0_i32_93 : BitVec 32 := 0#32
  let c1_i32_95 : BitVec 32 := 1#32
  let arg13 : BitVec 32 := Scf.iv c0_i32_93 c1_i32_95 k0_t18
  let v82 : BitVec 32 := Scalar.muli c2_i32_115 arg13
  let c1_i32_116 : BitVec 32 := 1#32
  let v83 : BitVec 32 := Scalar.addi v82 c1_i32_116
  let c16_i32_117 : BitVec 32 := 16#32
  let v84 : BitVec 32 := Scalar.muli v83 c16_i32_117
  let v85 : Index := Scalar.indexCast v84
  ![v85.toNat]

def k0_chk33 (v97 : IVec S16 32) : Prop :=
  (∀ a x, ((![v97] : Fin 1 → IVec S16 32) a x).toNat < S8192.size a) ∧
  (∀ a x, ((![v97] : Fin 1 → IVec S16 32) a x).toNat < S8192.size a)
theorem k0_idx49_inb : ∀ (v97 : IVec S16 32) (k0_hw33 : k0_chk33 v97), ∀ a x, ((![v97] : Fin 1 → IVec S16 32) a x).toNat < S8192.size a := fun v97 k0_hw33 => k0_hw33.1
theorem k0_idx50_inb : ∀ (v97 : IVec S16 32) (k0_hw33 : k0_chk33 v97), ∀ a x, ((![v97] : Fin 1 → IVec S16 32) a x).toNat < S8192.size a := fun v97 k0_hw33 => k0_hw33.2

def k0_chk32 (v92 : IVec S16 32) : Prop :=
  (∀ a x, ((![v92] : Fin 1 → IVec S16 32) a x).toNat < S2048.size a) ∧
  (∀ a x, ((![v92] : Fin 1 → IVec S16 32) a x).toNat < S2048.size a)
theorem k0_idx48_inb : ∀ (v92 : IVec S16 32) (k0_hw32 : k0_chk32 v92), ∀ a x, ((![v92] : Fin 1 → IVec S16 32) a x).toNat < S2048.size a := fun v92 k0_hw32 => k0_hw32.1
theorem k0_idx51_inb : ∀ (v92 : IVec S16 32) (k0_hw32 : k0_chk32 v92), ∀ a x, ((![v92] : Fin 1 → IVec S16 32) a x).toNat < S2048.size a := fun v92 k0_hw32 => k0_hw32.2

def k0_chk34 (v101 : IVec S16 32) : Prop :=
  (∀ a x, ((![v101] : Fin 1 → IVec S16 32) a x).toNat < S2048.size a)
theorem k0_idx52_inb : ∀ (v101 : IVec S16 32) (k0_hw34 : k0_chk34 v101), ∀ a x, ((![v101] : Fin 1 → IVec S16 32) a x).toNat < S2048.size a := fun v101 k0_hw34 => k0_hw34
@[reducible] def k0_t19_loop : Scf.Loop 32 :=
  let c0_i32_98 : BitVec 32 := 0#32
  let c64_i32_99 : BitVec 32 := 64#32
  let v56 : BitVec 32 := Scalar.addi c0_i32_98 c64_i32_99
  let c1_i32_100 : BitVec 32 := 1#32
  ⟨c0_i32_98, v56, c1_i32_100⟩
def k0_off28 (k0_t19 : Fin k0_t19_loop.trips) : Fin 1 → Nat :=
  let c0_i32_98 : BitVec 32 := 0#32
  let c1_i32_100 : BitVec 32 := 1#32
  let arg13 : BitVec 32 := Scf.iv c0_i32_98 c1_i32_100 k0_t19
  let c16_i32_108 : BitVec 32 := 16#32
  let v61 : BitVec 32 := Scalar.muli arg13 c16_i32_108
  let v62 : Index := Scalar.indexCast v61
  ![v62.toNat]
@[reducible] def k0_t20_loop : Scf.Loop 32 :=
  let c0_i32_103 : BitVec 32 := 0#32
  let c256_i32_104 : BitVec 32 := 256#32
  let v58 : BitVec 32 := Scalar.addi c0_i32_103 c256_i32_104
  let c1_i32_105 : BitVec 32 := 1#32
  ⟨c0_i32_103, v58, c1_i32_105⟩
def k0_off29 (k0_t20 : Fin k0_t20_loop.trips) : Fin 1 → Nat :=
  let c2_i32_108 : BitVec 32 := 2#32
  let c0_i32_103 : BitVec 32 := 0#32
  let c1_i32_105 : BitVec 32 := 1#32
  let arg13 : BitVec 32 := Scf.iv c0_i32_103 c1_i32_105 k0_t20
  let v61 : BitVec 32 := Scalar.muli c2_i32_108 arg13
  let c0_i32_109 : BitVec 32 := 0#32
  let v62 : BitVec 32 := Scalar.addi v61 c0_i32_109
  let c16_i32_110 : BitVec 32 := 16#32
  let v63 : BitVec 32 := Scalar.muli v62 c16_i32_110
  let v64 : Index := Scalar.indexCast v63
  ![v64.toNat]

def k0_chk36 (v76 : IVec S16 32) : Prop :=
  (∀ a x, ((![v76] : Fin 1 → IVec S16 32) a x).toNat < S8192.size a)
theorem k0_idx54_inb : ∀ (v76 : IVec S16 32) (k0_hw36 : k0_chk36 v76), ∀ a x, ((![v76] : Fin 1 → IVec S16 32) a x).toNat < S8192.size a := fun v76 k0_hw36 => k0_hw36

def k0_chk37 (v67 : IVec S16 32) : Prop :=
  (∀ a x, ((![v67] : Fin 1 → IVec S16 32) a x).toNat < S8192.size a)
theorem k0_idx55_inb : ∀ (v67 : IVec S16 32) (k0_hw37 : k0_chk37 v67), ∀ a x, ((![v67] : Fin 1 → IVec S16 32) a x).toNat < S8192.size a := fun v67 k0_hw37 => k0_hw37

def k0_chk35 (v71 : IVec S16 32) : Prop :=
  (∀ a x, ((![v71] : Fin 1 → IVec S16 32) a x).toNat < S2048.size a) ∧
  (∀ a x, ((![v71] : Fin 1 → IVec S16 32) a x).toNat < S2048.size a)
theorem k0_idx53_inb : ∀ (v71 : IVec S16 32) (k0_hw35 : k0_chk35 v71), ∀ a x, ((![v71] : Fin 1 → IVec S16 32) a x).toNat < S2048.size a := fun v71 k0_hw35 => k0_hw35.1
theorem k0_idx56_inb : ∀ (v71 : IVec S16 32) (k0_hw35 : k0_chk35 v71), ∀ a x, ((![v71] : Fin 1 → IVec S16 32) a x).toNat < S2048.size a := fun v71 k0_hw35 => k0_hw35.2
def k0_off30 (k0_t20 : Fin k0_t20_loop.trips) : Fin 1 → Nat :=
  let c2_i32_112 : BitVec 32 := 2#32
  let c0_i32_103 : BitVec 32 := 0#32
  let c1_i32_105 : BitVec 32 := 1#32
  let arg13 : BitVec 32 := Scf.iv c0_i32_103 c1_i32_105 k0_t20
  let v78 : BitVec 32 := Scalar.muli c2_i32_112 arg13
  let c1_i32_113 : BitVec 32 := 1#32
  let v79 : BitVec 32 := Scalar.addi v78 c1_i32_113
  let c16_i32_114 : BitVec 32 := 16#32
  let v80 : BitVec 32 := Scalar.muli v79 c16_i32_114
  let v81 : Index := Scalar.indexCast v80
  ![v81.toNat]

def k0_chk39 (v93 : IVec S16 32) : Prop :=
  (∀ a x, ((![v93] : Fin 1 → IVec S16 32) a x).toNat < S8192.size a)
theorem k0_idx58_inb : ∀ (v93 : IVec S16 32) (k0_hw39 : k0_chk39 v93), ∀ a x, ((![v93] : Fin 1 → IVec S16 32) a x).toNat < S8192.size a := fun v93 k0_hw39 => k0_hw39

def k0_chk40 (v84 : IVec S16 32) : Prop :=
  (∀ a x, ((![v84] : Fin 1 → IVec S16 32) a x).toNat < S8192.size a)
theorem k0_idx59_inb : ∀ (v84 : IVec S16 32) (k0_hw40 : k0_chk40 v84), ∀ a x, ((![v84] : Fin 1 → IVec S16 32) a x).toNat < S8192.size a := fun v84 k0_hw40 => k0_hw40

def k0_chk38 (v88 : IVec S16 32) : Prop :=
  (∀ a x, ((![v88] : Fin 1 → IVec S16 32) a x).toNat < S2048.size a) ∧
  (∀ a x, ((![v88] : Fin 1 → IVec S16 32) a x).toNat < S2048.size a)
theorem k0_idx57_inb : ∀ (v88 : IVec S16 32) (k0_hw38 : k0_chk38 v88), ∀ a x, ((![v88] : Fin 1 → IVec S16 32) a x).toNat < S2048.size a := fun v88 k0_hw38 => k0_hw38.1
theorem k0_idx60_inb : ∀ (v88 : IVec S16 32) (k0_hw38 : k0_chk38 v88), ∀ a x, ((![v88] : Fin 1 → IVec S16 32) a x).toNat < S2048.size a := fun v88 k0_hw38 => k0_hw38.2
abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x16x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .smem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16x8192 : Shape := ⟨3, ![4, 16, 8192]⟩
abbrev S4x16x8192x32 : Shape := ⟨4, ![4, 16, 8192, 32]⟩
abbrev S16x8192 : Shape := ⟨2, ![16, 8192]⟩
abbrev S1x16 : Shape := ⟨2, ![1, 16]⟩
abbrev S1x16x8192 : Shape := ⟨3, ![1, 16, 8192]⟩
abbrev S_ : Shape := ⟨0, ![]⟩
abbrev S4x16x8192x1 : Shape := ⟨4, ![4, 16, 8192, 1]⟩
abbrev S1 : Shape := ⟨1, ![1]⟩
abbrev S1x1x1x1 : Shape := ⟨4, ![1, 1, 1, 1]⟩
abbrev S4x32x8192x16 : Shape := ⟨4, ![4, 32, 8192, 16]⟩
abbrev S4x32x8192x1 : Shape := ⟨4, ![4, 32, 8192, 1]⟩
abbrev S4x32x8192 : Shape := ⟨3, ![4, 32, 8192]⟩
abbrev S4x8192 : Shape := ⟨2, ![4, 8192]⟩
abbrev S4x8192x1 : Shape := ⟨3, ![4, 8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x16x8192, .i32⟩
  | .hbm, ⟨1, _⟩ => ⟨S4x16x8192x32, .f32⟩
  | .hbm, ⟨2, _⟩ => ⟨S4x16x8192, .f32⟩
  | .hbm, ⟨3, _⟩ => ⟨S16x8192, .f32⟩
  | .hbm, ⟨4, _⟩ => ⟨S1x16, .f32⟩
  | .hbm, ⟨5, _⟩ => ⟨S4x16x8192, .f32⟩
  | .hbm, ⟨6, _⟩ => ⟨S4x16x8192, .f32⟩
  | .hbm, ⟨7, _⟩ => ⟨S4x16x8192, .i32⟩
  | .hbm, ⟨8, _⟩ => ⟨S4x16x8192, .f32⟩
  | .hbm, ⟨9, _⟩ => ⟨S4x16x8192, .i32⟩
  | .hbm, ⟨10, _⟩ => ⟨S4x16x8192, .i32⟩
  | .hbm, ⟨11, _⟩ => ⟨S4x16x8192, .i32⟩
  | .hbm, ⟨12, _⟩ => ⟨S4x16x8192, .i32⟩
  | .hbm, ⟨13, _⟩ => ⟨S1x16x8192, .f32⟩
  | .hbm, ⟨14, _⟩ => ⟨S4x16x8192, .f32⟩
  | .hbm, ⟨15, _⟩ => ⟨S_, .i32⟩
  | .hbm, ⟨16, _⟩ => ⟨S4x16x8192, .i32⟩
  | .hbm, ⟨17, _⟩ => ⟨S4x16x8192, .i1⟩
  | .hbm, ⟨18, _⟩ => ⟨S_, .i32⟩
  | .hbm, ⟨19, _⟩ => ⟨S4x16x8192, .i32⟩
  | .hbm, ⟨20, _⟩ => ⟨S4x16x8192, .i32⟩
  | .hbm, ⟨21, _⟩ => ⟨S4x16x8192, .i32⟩
  | .hbm, ⟨22, _⟩ => ⟨S4x16x8192x1, .i32⟩
  | .hbm, ⟨23, _⟩ => ⟨S1, .i32⟩
  | .hbm, ⟨24, _⟩ => ⟨S_, .i32⟩
  | .hbm, ⟨25, _⟩ => ⟨S4x16x8192x1, .i32⟩
  | .hbm, ⟨26, _⟩ => ⟨S4x16x8192x1, .i1⟩
  | .hbm, ⟨27, _⟩ => ⟨S1x1x1x1, .i32⟩
  | .hbm, ⟨28, _⟩ => ⟨S4x16x8192x1, .i32⟩
  | .hbm, ⟨29, _⟩ => ⟨S4x16x8192x1, .i1⟩
  | .hbm, ⟨30, _⟩ => ⟨S4x16x8192x1, .i1⟩
  | .hbm, ⟨31, _⟩ => ⟨S_, .i1⟩
  | .hbm, ⟨32, _⟩ => ⟨S4x16x8192, .i1⟩
  | .hbm, ⟨33, _⟩ => ⟨S4x16x8192, .f32⟩
  | .hbm, ⟨34, _⟩ => ⟨S_, .f32⟩
  | .hbm, ⟨35, _⟩ => ⟨S4x16x8192, .f32⟩
  | .hbm, ⟨36, _⟩ => ⟨S4x16x8192, .f32⟩
  | .hbm, ⟨37, _⟩ => ⟨S4x16x8192x1, .f32⟩
  | .hbm, ⟨38, _⟩ => ⟨S4x16x8192x32, .f32⟩
  | .hbm, ⟨39, _⟩ => ⟨S4x16x8192x32, .f32⟩
  | .hbm, ⟨40, _⟩ => ⟨S4x32x8192x16, .f32⟩
  | .hbm, ⟨41, _⟩ => ⟨S4x32x8192x1, .f32⟩
  | .hbm, ⟨42, _⟩ => ⟨S4x32x8192x1, .f32⟩
  | .hbm, ⟨43, _⟩ => ⟨S_, .f32⟩
  | .hbm, ⟨44, _⟩ => ⟨S4x32x8192x1, .f32⟩
  | .hbm, ⟨45, _⟩ => ⟨S4x32x8192x1, .f32⟩
  | .hbm, ⟨46, _⟩ => ⟨S4x32x8192, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x32x8192, .i32⟩
  | .hbm, ⟨51, _⟩ => ⟨S_, .f32⟩
  | .hbm, ⟨52, _⟩ => ⟨S_, .i32⟩
  | .hbm, ⟨53, _⟩ => ⟨S4x8192, .f32⟩
  | .hbm, ⟨54, _⟩ => ⟨S4x8192, .i32⟩
  | _, _ => ⟨S4x16x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1_0 : Ref sig .tc := ⟨.hbm, 8, rfl⟩
abbrev main_v2 : Ref sig .tc := ⟨.hbm, 9, rfl⟩
abbrev main_call1_v0 : Ref sig .tc := ⟨.hbm, 10, rfl⟩
abbrev main_call1_v1_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call2_c : Ref sig .tc := ⟨.hbm, 15, rfl⟩
abbrev main_call2_v0 : Ref sig .tc := ⟨.hbm, 16, rfl⟩
abbrev main_call2_v1 : Ref sig .tc := ⟨.hbm, 17, rfl⟩
abbrev main_call2_c_0 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_c_1 : Ref sig .tc := ⟨.hbm, 23, rfl⟩
abbrev main_call2_c_2 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_call2_c_3 : Ref sig .tc := ⟨.hbm, 31, rfl⟩
abbrev main_call2_v12 : Ref sig .tc := ⟨.hbm, 32, rfl⟩
abbrev main_call2_v13 : Ref sig .tc := ⟨.hbm, 33, rfl⟩
abbrev main_call2_cst : Ref sig .tc := ⟨.hbm, 34, rfl⟩
abbrev main_call2_v14 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_v17 : Ref sig .tc := ⟨.hbm, 49, rfl⟩
abbrev main_call3_v0 : Ref sig .tc := ⟨.hbm, 50, rfl⟩
abbrev main_call3_cst : Ref sig .tc := ⟨.hbm, 51, rfl⟩
abbrev main_call3_c : Ref sig .tc := ⟨.hbm, 52, rfl⟩
abbrev main_call3_v1_0 : Ref sig .tc := ⟨.hbm, 53, rfl⟩
abbrev main_v18 : Ref sig .tc := ⟨.hbm, 54, rfl⟩

abbrev nD : Nat := 1
abbrev τ : Topo := Topo.v7x

variable {F : FTy → Type} [FloatOps F]
-- ==== Proof.Best.lean ====
/-
  The greatest of finitely many extended reals and the first place where it stands: what a strictly increasing map keeps, and
  the two spellings of both, over one axis of an array.
-/
module

public import Idealize.ShloMosaic.PureOps.Ideal
public import Idealize.ShloMosaic.PureOps.Ideal.Laws
public import Idealize.ShloMosaic.PureOps.Reduce

@[expose] public section

noncomputable section

namespace Cert.Proof.Best

open Idealize.ShloMosaic

/-! ## The first greatest -/

/-- `f` is greatest at `k`, and below `k` it is smaller. -/
def First {n : ℕ} (f : Fin n → EReal) (k : Fin n) : Prop := (∀ q, f q ≤ f k) ∧ ∀ q, q < k → f q < f k

theorem exists_first {n : ℕ} [NeZero n] (f : Fin n → EReal) : ∃ k, First f k := by
  classical
  obtain ⟨m, -, hm⟩ := Finset.exists_max_image (Finset.univ : Finset (Fin n)) f ⟨0, Finset.mem_univ _⟩
  have hne : (Finset.univ.filter fun k => ∀ q, f q ≤ f k).Nonempty := ⟨m, by simpa using fun q => hm q (Finset.mem_univ _)⟩
  obtain ⟨k, hk, hmin⟩ := Finset.exists_min_image _ id hne
  have hk' := (Finset.mem_filter.mp hk).2
  refine ⟨k, hk', fun q hq => ?_⟩
  by_contra hlt
  have : q ∈ Finset.univ.filter fun k => ∀ q, f q ≤ f k :=
    Finset.mem_filter.mpr ⟨Finset.mem_univ _, fun r => (hk' r).trans (not_lt.mp hlt)⟩
  exact absurd (hmin q this) (not_le.mpr hq)

theorem First.map {n : ℕ} {f : Fin n → EReal} {k : Fin n} (h : First f k) {g : EReal → EReal} (hg : StrictMono g) :
    First (fun q => g (f q)) k :=
  ⟨fun q => hg.monotone (h.1 q), fun q hq => hg (h.2 q hq)⟩

theorem First.fold {n : ℕ} {f : Fin n → EReal} {k : Fin n} (h : First f k) :
    (Finset.univ : Finset (Fin n)).fold max ⊥ f = f k := by
  refine le_antisymm ?_ ?_
  · exact Finset.fold_max_le _ |>.mpr ⟨bot_le, fun q _ => h.1 q⟩
  · exact Finset.le_fold_max _ |>.mpr (.inr ⟨k, Finset.mem_univ _, le_rfl⟩)

/-! ## Along one axis of an array -/

section Axis

variable {s t u : Shape} {a : Fin s.rank}

/-- A kernel's maximum over one axis. -/
theorem multiReduction_first {φ : FTy} (x : FVec Ideal s φ) (acc : BitVec φ.bits) (h : s.Reduces [a] t) (hφ : FKind.Formats φ)
    (hacc : acc = FKind.maximumf.neutral φ hφ) (hbot : Ideal.ofBits φ acc = ⊥) (j : t.Idx) {k : Fin (s.size a)} (hk : First (fun q => x (h.lift j q)) k) :
    multiReduction .maximumf [a] t x acc h hφ hacc j = x (h.lift j k) := by
  rw [Ideal.multiReduction_maximumf_single, Ideal.ofBits_def, hbot]
  exact hk.fold

/-- A host program's maximum over one axis. -/
theorem hostMax_first (x : s.Idx → EReal) (init : u.Idx → EReal) (h' : s.ReducesTo [a] t) (h : s.Reduces [a] t) (hu : 0 < u.numel)
    (hbot : init (Shape.Idx.first hu) = ⊥) (j : t.Idx) {k : Fin (s.size a)} (hk : First (fun q => x (h.lift j q)) k) :
    Host.reduce (fun p q : EReal => max p q) x init h' hu j = x (h.lift j k) := by
  rw [Host.reduce_eq_fold_single _ _ _ h' h, hbot]
  exact hk.fold

theorem min_of {S : Finset ℕ} {k : ℕ} (hin : k ∈ S) (hle : ∀ b ∈ S, k ≤ b) : S.min = (k : WithTop ℕ) :=
  le_antisymm (Finset.min_le hin) (Finset.le_min fun b hb => WithTop.coe_le_coe.mpr (hle b hb))

/-- A kernel's place of the maximum over one axis. -/
theorem reduceIndex_first (x : s.Idx → EReal) (h : s.Reduces [a] t) (j : t.Idx) {k : Fin (s.size a)} (hk : First (fun q => x (h.lift j q)) k) :
    Ideal.reduceIndex .argMax a h x j = BitVec.ofNat 32 k.val := by
  classical
  have hmem : ∀ i : s.Idx, h.drop i = j → i = h.lift j (i a) := fun i hi => by rw [← hi, h.lift_drop]
  have hax : ∀ q, h.lift j q a = q := fun q => h.lift_injective j (by rw [← hmem _ (h.drop_lift j q)])
  unfold Ideal.reduceIndex
  simp only [if_true]
  refine congrArg (BitVec.ofNat 32) ?_
  rw [min_of (k := k.val) ?hin ?hle]
  case hin =>
    rw [Finset.mem_image]
    refine ⟨h.lift j k, ?_, by rw [hax]⟩
    simp only [Finset.mem_filter, Finset.mem_univ, true_and]
    refine ⟨h.drop_lift j k, fun i hi => ?_⟩
    rw [hmem i hi]
    exact not_lt.mpr (hk.1 _)
  case hle =>
    intro b hb
    rw [Finset.mem_image] at hb
    obtain ⟨i, hi, rfl⟩ := hb
    simp only [Finset.mem_filter, Finset.mem_univ, true_and] at hi
    by_contra hlt
    have h2 : x (h.lift j (i a)) < x (h.lift j k) := hk.2 (i a) (not_le.mp hlt)
    rw [← hmem i hi.1] at h2
    exact hi.2 _ (h.drop_lift j k) h2
  rfl

/-! ### A host program's place of the maximum -/

/-- `p` is at least as good as `q`: a greater value, or the same value and no later a place. -/
def Beats (p q : EReal × BitVec 32) : Prop := q.1 < p.1 ∨ q.1 = p.1 ∧ p.2.toInt ≤ q.2.toInt

theorem Beats.refl (p : EReal × BitVec 32) : Beats p p := .inr ⟨rfl, le_rfl⟩

theorem Beats.trans {p q r : EReal × BitVec 32} (h : Beats p q) (h' : Beats q r) : Beats p r := by
  rcases h with h | ⟨h, h2⟩ <;> rcases h' with h' | ⟨h', h2'⟩
  · exact .inl (h'.trans h)
  · exact .inl (h' ▸ h)
  · exact .inl (h ▸ h')
  · exact .inr ⟨h'.trans h, h2.trans h2'⟩

theorem Beats.antisymm {p q : EReal × BitVec 32} (h : Beats p q) (h' : Beats q p) : p = q := by
  rcases h with h | ⟨h, h2⟩ <;> rcases h' with h' | ⟨h', h2'⟩
  · exact absurd (h.trans h') (lt_irrefl _)
  · exact absurd h (h' ▸ lt_irrefl _)
  · exact absurd h' (h ▸ lt_irrefl _)
  · exact Prod.ext h.symm (BitVec.eq_of_toInt_eq (le_antisymm h2 h2'))

/-- A step keeps one of the two pairs, one at least as good as both. -/
def Keeps (g : EReal × BitVec 32 → EReal × BitVec 32 → EReal × BitVec 32) : Prop :=
  ∀ p q, (g p q = p ∨ g p q = q) ∧ Beats (g p q) p ∧ Beats (g p q) q

theorem Keeps.foldl {g : EReal × BitVec 32 → EReal × BitVec 32 → EReal × BitVec 32} (hg : Keeps g) :
    ∀ (l : List (EReal × BitVec 32)) (p : EReal × BitVec 32), l.foldl g p ∈ p :: l ∧ ∀ q ∈ p :: l, Beats (l.foldl g p) q
  | [], p => ⟨List.mem_singleton_self _, fun q hq => by rw [List.mem_singleton.mp hq]; exact .refl _⟩
  | r :: l, p => by
    obtain ⟨hm, hb⟩ := hg.foldl l (g p r)
    obtain ⟨he, h1, h2⟩ := hg p r
    have hg' := hb (g p r) (List.mem_cons_self ..)
    refine ⟨?_, fun q hq => ?_⟩
    · rcases List.mem_cons.mp hm with e | e
      · rw [List.foldl_cons, e]
        rcases he with he | he <;> rw [he] <;> simp
      · exact List.mem_cons_of_mem _ (List.mem_cons_of_mem _ e)
    · rcases List.mem_cons.mp hq with rfl | hq
      · exact hg'.trans h1
      rcases List.mem_cons.mp hq with rfl | hq
      · exact hg'.trans h2
      · exact hb q (List.mem_cons_of_mem _ hq)

theorem argReduce_first (g : EReal × BitVec 32 → EReal × BitVec 32 → EReal × BitVec 32) (hg : Keeps g) (x : FVec Ideal s .f32) (y : s.Idx → BitVec 32)
    (ix : u.Idx → EReal) (iy : u.Idx → BitVec 32) (h' : s.ReducesTo [a] t) (h : s.Reduces [a] t) (hu : 0 < u.numel) (hbot : ix (Shape.Idx.first hu) = ⊥)
    (hsz : s.size a < 2 ^ 31) (hy : ∀ i, y i = BitVec.ofNat 32 (i a).val) (hx : ∀ i, x i ≠ ⊥)
    (j : t.Idx) {k : Fin (s.size a)} (hk : First (fun q => x (h.lift j q)) k) :
    (Host.argReduce (F := Ideal) (φ := .f32) g x y ix iy h' hu j).2 = BitVec.ofNat 32 k.val := by
  have hmem : ∀ i : s.Idx, h.drop i = j → i = h.lift j (i a) := fun i hi => by rw [← hi, h.lift_drop]
  have hax : ∀ q, h.lift j q a = q := fun q => h.lift_injective j (by rw [← hmem _ (h.drop_lift j q)])
  have hint : ∀ q : Fin (s.size a), (BitVec.ofNat 32 q.val).toInt = q.val := fun q => by
    have := q.isLt
    rw [_root_.BitVec.toInt_ofNat']
    exact Int.bmod_eq_of_le (by omega) (by omega)
  have hl : ∀ p, p ∈ Host.argReduceFiber x y h' j ↔ ∃ q, p = (x (h.lift j q), BitVec.ofNat 32 q.val) := by
    intro p
    unfold Host.argReduceFiber
    rw [List.mem_map]
    constructor
    · rintro ⟨n, hn, rfl⟩
      have hd : h.drop (s.rowMajor.symm n) = j := of_decide_eq_true (List.mem_filter.mp hn).2
      exact ⟨s.rowMajor.symm n a, by rw [hy, ← hmem _ hd]⟩
    · rintro ⟨q, rfl⟩
      refine ⟨s.rowMajor (h.lift j q), List.mem_filter.mpr ⟨List.mem_finRange _, ?_⟩, ?_⟩
      · rw [Equiv.symm_apply_apply]
        exact decide_eq_true (h.drop_lift j q)
      · rw [Equiv.symm_apply_apply, hy, hax]
  rw [Ideal.argReduce_eq_reduce2, Host.reduce2_eq_foldl_fiber]
  obtain ⟨hm, hb⟩ := hg.foldl (Host.argReduceFiber x y h' j) (ix (Shape.Idx.first hu), iy (Shape.Idx.first hu))
  have hbk := hb _ (List.mem_cons_of_mem _ ((hl _).mpr ⟨k, rfl⟩))
  suffices e : List.foldl g (ix (Shape.Idx.first hu), iy (Shape.Idx.first hu)) (Host.argReduceFiber x y h' j) = (x (h.lift j k), BitVec.ofNat 32 k.val) by rw [e]
  rcases List.mem_cons.mp hm with e | e
  · rw [e, hbot] at hbk
    rcases hbk with hlt | ⟨he, -⟩
    · exact absurd hlt not_lt_bot
    · exact absurd he (hx _)
  · obtain ⟨q, e⟩ := (hl _).mp e
    rw [e] at hbk ⊢
    refine hbk.antisymm ?_
    rcases lt_or_eq_of_le (hk.1 q) with hlt | heq
    · exact .inl hlt
    · refine .inr ⟨heq, ?_⟩
      rw [hint, hint]
      by_contra hlt
      have : q < k := by
        have h1 : (q.val : ℤ) < k.val := not_le.mp hlt
        exact_mod_cast h1
      exact absurd heq (hk.2 q this).ne

end Axis

/-! ## Ten times the hyperbolic tangent -/

theorem tanh_lt {a b : ℝ} (h : a < b) : Real.tanh a < Real.tanh b := by
  rw [Real.tanh_eq_sinh_div_cosh, Real.tanh_eq_sinh_div_cosh, div_lt_div_iff₀ (Real.cosh_pos a) (Real.cosh_pos b)]
  have h0 : 0 < Real.sinh (b - a) := Real.sinh_pos_iff.mpr (sub_pos.mpr h)
  rw [Real.sinh_sub] at h0
  linarith [mul_comm (Real.cosh b) (Real.sinh a)]

/-- The hyperbolic tangent of an extended real, as a real. -/
def tanhR : EReal → ℝ
  | ⊥ => -1
  | ⊤ => 1
  | (r : ℝ) => Real.tanh r

theorem tanh_eq (x : EReal) : Ideal.tanh x = (tanhR x : EReal) := by
  induction x with
  | bot => show (-1 : EReal) = ((-1 : ℝ) : EReal); simp
  | top => show (1 : EReal) = ((1 : ℝ) : EReal); simp
  | coe r => rfl

theorem tanhR_strictMono : StrictMono tanhR := by
  intro x y h
  induction x with
  | bot => induction y with
    | bot => exact absurd h (lt_irrefl _)
    | top => show (-1 : ℝ) < 1; norm_num
    | coe r => exact Real.neg_one_lt_tanh r
  | top => exact absurd h not_top_lt
  | coe a => induction y with
    | bot => exact absurd h not_lt_bot
    | top => exact Real.tanh_lt_one a
    | coe b => exact tanh_lt (EReal.coe_lt_coe_iff.mp h)

theorem ofBits_ten : Ideal.ofBits .f32 0x41200000#32 = ((10 : ℝ) : EReal) := by
  simp only [Ideal.ofBits, Ideal.ieee]
  simp
  rw [← EReal.coe_mul]
  norm_num

theorem ofBits_bot : Ideal.ofBits .f32 0xFF800000#32 = ⊥ := by
  simp [Ideal.ofBits, Ideal.ieee]

/-- A score from a weighted sum. -/
def squash (x : EReal) : EReal := Ideal.ofBits .f32 0x41200000#32 * Ideal.tanh x

theorem squash_eq (x : EReal) : squash x = ((10 * tanhR x : ℝ) : EReal) := by
  unfold squash
  rw [ofBits_ten, tanh_eq, EReal.coe_mul]

theorem squash_strictMono : StrictMono squash := by
  intro x y h
  rw [squash_eq, squash_eq, EReal.coe_lt_coe_iff]
  have := tanhR_strictMono h
  linarith

theorem squash_ne_bot (x : EReal) : squash x ≠ ⊥ := by
  rw [squash_eq]
  exact EReal.coe_ne_bot _

end Cert.Proof.Best

end
-- ==== Proof.Radix.lean ====
/-
  The arithmetic of a stable radix sort by counting, over plain functions on the naturals.

  A counting pass over `n` items with digits `D` sends the item at place `q` to the place
  `place n D q`: the number of items of a smaller digit, and of items of the same digit before it.
  `below n r j` is the number of items that a relation `r` puts before `j`; a pass whose items stand
  at their places under `r` leaves them at their places under `lex d r` (digit first, then `r`).
-/
module

public import Mathlib.Data.Nat.Count
public import Mathlib.Data.Finset.Card
public import Mathlib.Tactic.Common

@[expose] public section

noncomputable section

namespace Cert.Proof.Radix

open Classical in
/-- How many of the items `0 … n - 1` the relation puts before `j`. -/
def below (n : ℕ) (r : ℕ → ℕ → Prop) (j : ℕ) : ℕ := ((Finset.range n).filter fun i => r i j).card

/-- A strict total order on the items `0 … n - 1`. -/
structure Strict (n : ℕ) (r : ℕ → ℕ → Prop) : Prop where
  irrefl : ∀ i, i < n → ¬ r i i
  trans : ∀ i j k, i < n → j < n → k < n → r i j → r j k → r i k
  total : ∀ i j, i < n → j < n → i ≠ j → r i j ∨ r j i

/-- By digit first, then by `r`. -/
def lex (d : ℕ → ℕ) (r : ℕ → ℕ → Prop) (i j : ℕ) : Prop := d i < d j ∨ d i = d j ∧ r i j

theorem strict_lt (n : ℕ) : Strict n (· < ·) :=
  ⟨fun _ _ => lt_irrefl _, fun _ _ _ _ _ _ => lt_trans, fun _ _ _ _ => lt_or_gt_of_ne⟩

theorem Strict.lex {n : ℕ} {r : ℕ → ℕ → Prop} (h : Strict n r) (d : ℕ → ℕ) : Strict n (lex d r) where
  irrefl i hi := by rintro (h1 | ⟨-, h1⟩); exacts [lt_irrefl _ h1, h.irrefl i hi h1]
  trans i j k hi hj hk := by
    rintro (h1 | ⟨e1, h1⟩) (h2 | ⟨e2, h2⟩)
    · exact .inl (h1.trans h2)
    · exact .inl (e2 ▸ h1)
    · exact .inl (e1 ▸ h2)
    · exact .inr ⟨e1.trans e2, h.trans i j k hi hj hk h1 h2⟩
  total i j hi hj hij := by
    rcases lt_trichotomy (d i) (d j) with h1 | h1 | h1
    · exact .inl (.inl h1)
    · rcases h.total i j hi hj hij with h2 | h2
      · exact .inl (.inr ⟨h1, h2⟩)
      · exact .inr (.inr ⟨h1.symm, h2⟩)
    · exact .inr (.inl h1)

section Below

variable {n : ℕ} {r : ℕ → ℕ → Prop} (h : Strict n r)
include h

theorem below_lt {j : ℕ} (hj : j < n) : below n r j < n := by
  classical
  refine lt_of_lt_of_le (Finset.card_lt_card (t := Finset.range n) ?_) (le_of_eq (Finset.card_range n))
  refine Finset.filter_ssubset.mpr ⟨j, Finset.mem_range.mpr hj, h.irrefl j hj⟩

theorem below_lt_of {i j : ℕ} (hi : i < n) (hj : j < n) (hr : r i j) : below n r i < below n r j := by
  classical
  refine Finset.card_lt_card (Finset.ssubset_iff_of_subset ?_ |>.mpr ⟨i, ?_, ?_⟩)
  · intro k hk
    obtain ⟨hk, hki⟩ := Finset.mem_filter.mp hk
    exact Finset.mem_filter.mpr ⟨hk, h.trans k i j (Finset.mem_range.mp hk) hi hj hki hr⟩
  · exact Finset.mem_filter.mpr ⟨Finset.mem_range.mpr hi, hr⟩
  · exact fun hm => h.irrefl i hi (Finset.mem_filter.mp hm).2

theorem below_lt_iff {i j : ℕ} (hi : i < n) (hj : j < n) : below n r i < below n r j ↔ r i j := by
  refine ⟨fun hlt => ?_, below_lt_of h hi hj⟩
  by_contra hr
  rcases eq_or_ne i j with rfl | hij
  · exact lt_irrefl _ hlt
  · exact absurd (below_lt_of h hj hi ((h.total i j hi hj hij).resolve_left hr)) (not_lt.mpr hlt.le)

theorem below_inj {i j : ℕ} (hi : i < n) (hj : j < n) (e : below n r i = below n r j) : i = j := by
  by_contra hij
  rcases h.total i j hi hj hij with hr | hr
  · exact absurd (below_lt_of h hi hj hr) (by omega)
  · exact absurd (below_lt_of h hj hi hr) (by omega)

theorem below_surj {q : ℕ} (hq : q < n) : ∃ j, j < n ∧ below n r j = q := by
  classical
  have hsub : (Finset.range n).image (below n r) ⊆ Finset.range n := by
    intro x hx
    obtain ⟨j, hj, rfl⟩ := Finset.mem_image.mp hx
    exact Finset.mem_range.mpr (below_lt h (Finset.mem_range.mp hj))
  have hcard : ((Finset.range n).image (below n r)).card = n := by
    rw [Finset.card_image_of_injOn, Finset.card_range]
    intro i hi j hj e
    exact below_inj h (Finset.mem_range.mp hi) (Finset.mem_range.mp hj) e
  have heq := Finset.eq_of_subset_of_card_le hsub (by rw [hcard, Finset.card_range])
  have hm : q ∈ (Finset.range n).image (below n r) := by rw [heq]; exact Finset.mem_range.mpr hq
  obtain ⟨j, hj, e⟩ := Finset.mem_image.mp hm
  exact ⟨j, Finset.mem_range.mp hj, e⟩

end Below

/-! ## One counting pass -/

/-- How many of the items have a digit below `b`. -/
def start (n : ℕ) (D : ℕ → ℕ) (b : ℕ) : ℕ := Nat.count (fun q => D q < b) n

/-- How many of the first `m` items have digit `b`. -/
def hist (D : ℕ → ℕ) (m b : ℕ) : ℕ := Nat.count (fun q => D q = b) m

/-- Where a counting pass puts the item at place `q`. -/
def place (n : ℕ) (D : ℕ → ℕ) (q : ℕ) : ℕ := start n D (D q) + hist D q (D q)

theorem start_zero (n : ℕ) (D : ℕ → ℕ) : start n D 0 = 0 := by
  unfold start
  induction n with
  | zero => rfl
  | succ m ih => rw [Nat.count_succ, ih]; simp

theorem start_succ (n : ℕ) (D : ℕ → ℕ) (b : ℕ) : start n D (b + 1) = start n D b + hist D n b := by
  unfold start hist
  induction n with
  | zero => rfl
  | succ m ih =>
    rw [Nat.count_succ, Nat.count_succ, Nat.count_succ, ih]
    by_cases h1 : D m < b
    · simp only [h1, h1.ne, Nat.lt_succ_of_lt h1, if_true, if_false]; omega
    · by_cases h2 : D m = b
      · simp [h2]; omega
      · have : ¬ D m < b + 1 := by omega
        simp [h1, h2, this]

theorem hist_add (D : ℕ → ℕ) (m k b : ℕ) : hist D (m + k) b = hist D m b + Nat.count (fun l => D (m + l) = b) k := by
  unfold hist; rw [Nat.count_add]

theorem place_eq_below {n : ℕ} (D : ℕ → ℕ) {q : ℕ} (hq : q < n) : place n D q = below n (lex D (· < ·)) q := by
  classical
  unfold place start hist below
  rw [Nat.count_eq_card_filter_range, Nat.count_eq_card_filter_range]
  rw [← Finset.card_union_of_disjoint]
  · refine congrArg Finset.card (Finset.ext fun k => ?_)
    rw [Finset.mem_union, Finset.mem_filter, Finset.mem_filter, Finset.mem_filter, Finset.mem_range, Finset.mem_range]
    simp only [lex]
    constructor
    · rintro (⟨h1, h2⟩ | ⟨h1, h2⟩)
      · exact ⟨h1, .inl h2⟩
      · exact ⟨h1.trans hq, .inr ⟨h2, h1⟩⟩
    · rintro ⟨h1, h2 | ⟨h2, h3⟩⟩
      · exact .inl ⟨h1, h2⟩
      · exact .inr ⟨h3, h2⟩
  · rw [Finset.disjoint_left]
    intro k h1 h2
    have := (Finset.mem_filter.mp h1).2
    have := (Finset.mem_filter.mp h2).2
    omega

theorem place_lt {n : ℕ} (D : ℕ → ℕ) {q : ℕ} (hq : q < n) : place n D q < n := by
  rw [place_eq_below D hq]; exact below_lt ((strict_lt n).lex D) hq

theorem place_inj {n : ℕ} (D : ℕ → ℕ) {p q : ℕ} (hp : p < n) (hq : q < n) (e : place n D p = place n D q) : p = q := by
  rw [place_eq_below D hp, place_eq_below D hq] at e; exact below_inj ((strict_lt n).lex D) hp hq e

/-- The items standing at their places under `r`, a counting pass leaves them at their places under `lex d r`. -/
theorem place_below {n : ℕ} {r : ℕ → ℕ → Prop} (h : Strict n r) (d D : ℕ → ℕ) (hD : ∀ i, i < n → D (below n r i) = d i)
    {j : ℕ} (hj : j < n) : place n D (below n r j) = below n (lex d r) j := by
  classical
  rw [place_eq_below D (below_lt h hj)]
  unfold below
  symm
  refine Finset.card_bij (fun i _ => below n r i) ?_ ?_ ?_
  · intro i hi
    obtain ⟨hi, hl⟩ := Finset.mem_filter.mp hi
    have hi' := Finset.mem_range.mp hi
    refine Finset.mem_filter.mpr ⟨Finset.mem_range.mpr (below_lt h hi'), ?_⟩
    show lex D (· < ·) (below n r i) (below n r j)
    simp only [lex, hD i hi', hD j hj, below_lt_iff h hi' hj]
    exact hl
  · intro i hi k hk e
    exact below_inj h (Finset.mem_range.mp (Finset.mem_filter.mp hi).1) (Finset.mem_range.mp (Finset.mem_filter.mp hk).1) e
  · intro q hq
    obtain ⟨hq, hl⟩ := Finset.mem_filter.mp hq
    obtain ⟨i, hi, rfl⟩ := below_surj h (Finset.mem_range.mp hq)
    refine ⟨i, Finset.mem_filter.mpr ⟨Finset.mem_range.mpr hi, ?_⟩, rfl⟩
    change lex D (· < ·) (below n r i) (below n r j) at hl
    simp only [lex, hD i hi, hD j hj, below_lt_iff h hi hj] at hl
    exact hl

open Classical in
/-- The item that stands at place `p` under `r`. -/
def inv (n : ℕ) (r : ℕ → ℕ → Prop) (p : ℕ) : ℕ := if h : ∃ j, j < n ∧ below n r j = p then h.choose else 0

theorem inv_spec {n : ℕ} {r : ℕ → ℕ → Prop} (h : Strict n r) {p : ℕ} (hp : p < n) : inv n r p < n ∧ below n r (inv n r p) = p := by
  unfold inv
  rw [dif_pos (below_surj h hp)]
  exact (below_surj h hp).choose_spec

theorem inv_below {n : ℕ} {r : ℕ → ℕ → Prop} (h : Strict n r) {j : ℕ} (hj : j < n) : inv n r (below n r j) = j :=
  have hs := inv_spec h (below_lt h hj)
  below_inj h hs.1 hj hs.2

theorem inv_inj {n : ℕ} {r : ℕ → ℕ → Prop} (h : Strict n r) {p q : ℕ} (hp : p < n) (hq : q < n) (e : inv n r p = inv n r q) : p = q := by
  rw [← (inv_spec h hp).2, ← (inv_spec h hq).2, e]

theorem below_id {n j : ℕ} (hj : j < n) : below n (· < ·) j = j := by
  classical
  refine Eq.trans (congrArg Finset.card (Finset.ext fun i => ?_)) (Finset.card_range j)
  simp only [Finset.mem_filter, Finset.mem_range]
  exact ⟨fun h => h.2, fun h => ⟨lt_trans h hj, h⟩⟩

theorem inv_id {n j : ℕ} (hj : j < n) : inv n (· < ·) j = j := by
  conv_lhs => rw [← below_id hj]
  exact inv_below (strict_lt n) hj

/-- The counts of a digit do not depend on the order the items stand in. -/
theorem hist_inv {n : ℕ} {r : ℕ → ℕ → Prop} (h : Strict n r) (d : ℕ → ℕ) (b : ℕ) : hist (fun p => d (inv n r p)) n b = hist d n b := by
  classical
  unfold hist
  rw [Nat.count_eq_card_filter_range, Nat.count_eq_card_filter_range]
  refine Finset.card_bij (fun p _ => inv n r p) ?_ ?_ ?_
  · intro p hp
    obtain ⟨hp, hd⟩ := Finset.mem_filter.mp hp
    exact Finset.mem_filter.mpr ⟨Finset.mem_range.mpr (inv_spec h (Finset.mem_range.mp hp)).1, hd⟩
  · intro p hp q hq e
    exact inv_inj h (Finset.mem_range.mp (Finset.mem_filter.mp hp).1) (Finset.mem_range.mp (Finset.mem_filter.mp hq).1) e
  · intro i hi
    obtain ⟨hi, hd⟩ := Finset.mem_filter.mp hi
    have hi := Finset.mem_range.mp hi
    refine ⟨below n r i, Finset.mem_filter.mpr ⟨Finset.mem_range.mpr (below_lt h hi), ?_⟩, inv_below h hi⟩
    show d (inv n r (below n r i)) = b
    rw [inv_below h hi]; exact hd

/-- A counting pass by the digit `d` from the order `r` puts item `j` at its place under `lex d r`. -/
theorem place_inv {n : ℕ} {r : ℕ → ℕ → Prop} (h : Strict n r) (d : ℕ → ℕ) {j : ℕ} (hj : j < n) :
    place n (fun p => d (inv n r p)) (below n r j) = below n (lex d r) j :=
  place_below h d _ (fun i hi => by show d (inv n r (below n r i)) = d i; rw [inv_below h hi]) hj

/-- Relations that agree on the items count alike. -/
theorem below_congr {n : ℕ} {r s : ℕ → ℕ → Prop} {j : ℕ} (hj : j < n) (h : ∀ i, i < n → (r i j ↔ s i j)) : below n r j = below n s j := by
  classical
  unfold below
  congr 1
  ext i
  simp only [Finset.mem_filter, Finset.mem_range]
  exact and_congr_right fun hi => h i hi

/-! ## Three passes: 11, 11 and 10 bits, lowest first -/

def dig0 (k : ℕ) : ℕ := k % 2048
def dig1 (k : ℕ) : ℕ := k / 2048 % 2048
def dig2 (k : ℕ) : ℕ := k / 4194304 % 1024

/-- By key, and by place among equal keys. -/
def byKey (k : ℕ → ℕ) (i j : ℕ) : Prop := k i < k j ∨ k i = k j ∧ i < j

theorem lex_digits (k : ℕ → ℕ) (hk : ∀ i, k i < 4294967296) (i j : ℕ) :
    lex (fun i => dig2 (k i)) (lex (fun i => dig1 (k i)) (lex (fun i => dig0 (k i)) (· < ·))) i j ↔ byKey k i j := by
  simp only [lex, byKey, dig0, dig1, dig2]
  have h1 := hk i
  have h2 := hk j
  omega

abbrev r1 (k : ℕ → ℕ) : ℕ → ℕ → Prop := lex (fun i => dig0 (k i)) (· < ·)
abbrev r2 (k : ℕ → ℕ) : ℕ → ℕ → Prop := lex (fun i => dig1 (k i)) (r1 k)
abbrev r3 (k : ℕ → ℕ) : ℕ → ℕ → Prop := lex (fun i => dig2 (k i)) (r2 k)

theorem strict_r1 (n : ℕ) (k : ℕ → ℕ) : Strict n (r1 k) := (strict_lt n).lex _
theorem strict_r2 (n : ℕ) (k : ℕ → ℕ) : Strict n (r2 k) := (strict_r1 n k).lex _
theorem strict_r3 (n : ℕ) (k : ℕ → ℕ) : Strict n (r3 k) := (strict_r2 n k).lex _

/-- Where the stable sort by key puts item `j`. -/
def rank (n : ℕ) (k : ℕ → ℕ) (j : ℕ) : ℕ := below n (byKey k) j

theorem rank_eq {n : ℕ} (k : ℕ → ℕ) (hk : ∀ i, k i < 4294967296) {j : ℕ} (hj : j < n) : below n (r3 k) j = rank n k j :=
  below_congr hj fun i _ => lex_digits k hk i j

theorem strict_byKey (n : ℕ) (k : ℕ → ℕ) : Strict n (byKey k) := (strict_lt n).lex k

end Cert.Proof.Radix

end
-- ==== Proof.Lanes.lean ====
/-
  What the vector operations of the sort compute, lane by lane: an indexed store at one element, the
  running count of equal digits, the prefix sum, and from them one step of a histogram and one of a
  counting pass. Contents are words `BitVec.ofNat 32 n`, so that sums need no bounds.
-/
module

public import Idealize.ShloMosaic.PureOps
public import Idealize.ShloMosaic.Lib.SparseCore
public import proofs.«01_k».proof.Proof.Radix

@[expose] public section

noncomputable section

namespace Cert.Proof.Lanes

open Idealize.ShloMosaic Cert.Proof.Radix

variable {F : FTy → Type} [FloatOps F]

abbrev S16 : Shape := ⟨1, ![16]⟩

/-- Lane `k` of a vector of 16. -/
abbrev ln (k : Fin 16) : S16.Idx := Shape.ofLane (d := ![16]) k

theorem ln_val (k : Fin 16) : ((ln k) 0).val = k.val := rfl

theorem exists_ln (x : S16.Idx) : ∃ k : Fin 16, x = ln k :=
  ⟨x 0, funext fun a => by obtain rfl := Fin.eq_zero a; rfl⟩

/-! ## Folds that at most one element changes -/

theorem foldl_none {α β : Type} (p : β → Prop) [DecidablePred p] (u : α → β → α) (l : List β) (a : α) (h : ∀ k ∈ l, ¬ p k) :
    l.foldl (fun g k => if p k then u g k else g) a = a := by
  induction l generalizing a with
  | nil => rfl
  | cons k l ih =>
    rw [List.foldl_cons, if_neg (h k List.mem_cons_self)]
    exact ih a fun k' hk' => h k' (List.mem_cons_of_mem _ hk')

theorem foldl_one {α β : Type} (p : β → Prop) [DecidablePred p] (u : α → β → α) (l : List β) (a : α) (hl : l.Nodup) (k₀ : β) (h₀ : k₀ ∈ l)
    (hp : p k₀) (h : ∀ k ∈ l, p k → k = k₀) : l.foldl (fun g k => if p k then u g k else g) a = u a k₀ := by
  induction l generalizing a with
  | nil => simp at h₀
  | cons k l ih =>
    rw [List.foldl_cons]
    rcases List.mem_cons.mp h₀ with rfl | h₁
    · rw [if_pos hp]
      refine foldl_none p u l _ fun k' hk' hpk => ?_
      have := h k' (List.mem_cons_of_mem _ hk') hpk
      exact (List.nodup_cons.mp hl).1 (this ▸ hk')
    · have hk : ¬ p k := fun hpk => (List.nodup_cons.mp hl).1 (h k List.mem_cons_self hpk ▸ h₁)
      rw [if_neg hk]
      exact ih a (List.nodup_cons.mp hl).2 h₁ fun k' hk' => h k' (List.mem_cons_of_mem _ hk')

/-! ## The indexed store at one element -/

section Store

variable {N : ℕ} {e : EltTy}

/-- A lane's write, seen at one element of the base. -/
theorem storeIdx_apply (f : Vec F ⟨1, ![N]⟩ e) (ix : IVec S16 32) (v : Vec F S16 e) (mask : IVec S16 1) (add : Bool)
    (h : ∀ a x, ((![ix] : Fin 1 → IVec S16 32) a x).toNat < (⟨1, ![N]⟩ : Shape).size a) (j : (⟨1, ![N]⟩ : Shape).Idx) :
    storeIdx (d := ![16]) f ![ix] v mask add h j
      = (List.finRange 16).foldl (fun g k => if mask (ln k) = 1 ∧ (j 0).val = (ix (ln k)).toNat then (if add then Elt.idxAdd e g (v (ln k)) else v (ln k)) else g) (f j) := by
  suffices H : ∀ (l : List (Fin 16)) (f : Vec F ⟨1, ![N]⟩ e),
      l.foldl (fun g (k : Fin 16) => if mask (ln k) = 1 then
          fun j => if (∀ a, (j a).val = (idxAt (s := ⟨1, ![N]⟩) ![ix] h (ln k) a).val) then
            (if add then Elt.idxAdd e (g (idxAt (s := ⟨1, ![N]⟩) ![ix] h (ln k))) (v (ln k)) else v (ln k)) else g j
          else g) f j
        = l.foldl (fun g k => if mask (ln k) = 1 ∧ (j 0).val = (ix (ln k)).toNat then (if add then Elt.idxAdd e g (v (ln k)) else v (ln k)) else g) (f j)
    from H (List.finRange 16) f
  intro l f
  induction l generalizing f with
  | nil => rfl
  | cons k l ih =>
    rw [List.foldl_cons, List.foldl_cons, ih]
    congr 1
    by_cases hm : mask (ln k) = 1
    · simp only [hm, true_and, if_true]
      have hiff : (∀ a, (j a).val = (idxAt (s := ⟨1, ![N]⟩) ![ix] h (ln k) a).val) ↔ (j 0).val = (ix (ln k)).toNat :=
        ⟨fun hh => hh 0, fun hh a => by obtain rfl := Fin.eq_zero a; exact hh⟩
      by_cases hj : (j 0).val = (ix (ln k)).toNat
      · rw [if_pos (hiff.mpr hj), if_pos hj]
        have : idxAt (s := ⟨1, ![N]⟩) ![ix] h (ln k) = j := by
          funext a; obtain rfl := Fin.eq_zero a; exact Fin.ext hj.symm
        rw [this]
      · rw [if_neg (fun hh => hj (hiff.mp hh)), if_neg hj]
    · simp only [hm, false_and, if_false]

theorem storeIdx_miss (f : Vec F ⟨1, ![N]⟩ e) (ix : IVec S16 32) (v : Vec F S16 e) (mask : IVec S16 1) (add : Bool)
    (h : ∀ a x, ((![ix] : Fin 1 → IVec S16 32) a x).toNat < (⟨1, ![N]⟩ : Shape).size a) (j : (⟨1, ![N]⟩ : Shape).Idx)
    (hj : ∀ k, mask (ln k) = 1 → (j 0).val ≠ (ix (ln k)).toNat) :
    storeIdx (d := ![16]) f ![ix] v mask add h j = f j := by
  rw [storeIdx_apply]
  exact foldl_none _ _ _ _ fun k _ hk => hj k hk.1 hk.2

theorem storeIdx_hit (f : Vec F ⟨1, ![N]⟩ e) (ix : IVec S16 32) (v : Vec F S16 e) (mask : IVec S16 1) (add : Bool)
    (h : ∀ a x, ((![ix] : Fin 1 → IVec S16 32) a x).toNat < (⟨1, ![N]⟩ : Shape).size a) (j : (⟨1, ![N]⟩ : Shape).Idx)
    (k : Fin 16) (hm : mask (ln k) = 1) (hk : (j 0).val = (ix (ln k)).toNat)
    (hu : ∀ k', mask (ln k') = 1 → (j 0).val = (ix (ln k')).toNat → k' = k) :
    storeIdx (d := ![16]) f ![ix] v mask add h j = if add then Elt.idxAdd e (f j) (v (ln k)) else v (ln k) := by
  rw [storeIdx_apply]
  exact foldl_one _ (fun g k => if add then Elt.idxAdd e g (v (ln k)) else v (ln k)) _ _ (List.nodup_finRange 16) k (List.mem_finRange k) ⟨hm, hk⟩
    fun k' _ hk' => hu k' hk'.1 hk'.2

end Store

/-! ## The running count of equal digits -/

/-- The mask of a vector of all lanes. -/
abbrev ones : IVec S16 1 := fun _ => 1

theorem count_zero (p : ℕ → Prop) [DecidablePred p] (m : ℕ) (h : ∀ l, l < m → ¬ p l) : Nat.count p m = 0 := by
  rw [Nat.count_eq_card_filter_range, Finset.card_eq_zero, Finset.filter_eq_empty_iff]
  exact fun l hl => h l (Finset.mem_range.mp hl)

theorem card_lanes (p : ℕ → Prop) [DecidablePred p] (q : S16.Idx → Prop) [DecidablePred q] (m : ℕ) (hm : m ≤ 16)
    (h : ∀ k : Fin 16, q (ln k) ↔ k.val < m ∧ p k.val) : (Finset.univ.filter q).card = Nat.count p m := by
  rw [Nat.count_eq_card_filter_range]
  refine Finset.card_bij (fun x _ => (x 0).val) ?_ ?_ ?_
  · intro x hx
    have hq := (Finset.mem_filter.mp hx).2
    obtain ⟨k, rfl⟩ := exists_ln x
    rw [h] at hq
    exact Finset.mem_filter.mpr ⟨Finset.mem_range.mpr hq.1, hq.2⟩
  · intro x _ y _ e
    obtain ⟨k, rfl⟩ := exists_ln x
    obtain ⟨k', rfl⟩ := exists_ln y
    rw [show k = k' from Fin.ext e]
  · intro l hl
    obtain ⟨hl, hp⟩ := Finset.mem_filter.mp hl
    have hl := Finset.mem_range.mp hl
    exact ⟨ln ⟨l, by omega⟩, Finset.mem_filter.mpr ⟨Finset.mem_univ _, (h _).mpr ⟨hl, hp⟩⟩, rfl⟩

theorem rowMajor_ln (k : Fin 16) : (S16.rowMajor (ln k)).val = k.val := Shape.rowMajor_val_one _

section Count

variable (v : IVec S16 32) (D : ℕ → ℕ) (hv : ∀ k : Fin 16, (v (ln k)).toNat = D k.val)
include hv

theorem lane_eq (k k' : Fin 16) : v (ln k') = v (ln k) ↔ D k'.val = D k.val := by
  rw [← hv k, ← hv k']; exact ⟨fun h => by rw [h], BitVec.eq_of_toNat_eq⟩

theorem counts_apply (k : Fin 16) : (scanCount ones v).2 (ln k) = BitVec.ofNat 32 (Nat.count (fun l => D l = D k.val) (k.val + 1)) := by
  unfold scanCount
  simp only [if_true]
  congr 1
  refine card_lanes _ _ _ (by omega) fun k' => ?_
  rw [rowMajor_ln, rowMajor_ln, lane_eq v D hv k k']
  simp only [true_and]
  omega

theorem last_apply (k : Fin 16) : (scanCount ones v).1 (ln k) = 1 ↔ ∀ k' : Fin 16, k.val < k'.val → D k'.val ≠ D k.val := by
  unfold scanCount
  simp only [true_and]
  constructor
  · intro h k' hk' e
    by_cases hc : ∀ j : S16.Idx, (S16.rowMajor (ln k)).val < (S16.rowMajor j).val → ¬ v j = v (ln k)
    · refine hc (ln k') ?_ ((lane_eq v D hv k k').mpr e)
      rw [rowMajor_ln, rowMajor_ln]; exact hk'
    · rw [if_neg hc] at h; exact absurd h (by decide)
  · intro h
    rw [if_pos]
    intro j hj e
    obtain ⟨k', rfl⟩ := exists_ln j
    rw [rowMajor_ln, rowMajor_ln] at hj
    exact h k' hj ((lane_eq v D hv k k').mp e)

/-- Among the lanes of one digit, there is a last one. -/
theorem exists_last (b : ℕ) (hb : ∃ k : Fin 16, D k.val = b) : ∃ k : Fin 16, D k.val = b ∧ ∀ k' : Fin 16, k.val < k'.val → D k'.val ≠ D k.val := by
  classical
  obtain ⟨k₀, hk₀⟩ := hb
  let S := (Finset.univ : Finset (Fin 16)).filter fun k => D k.val = b
  have hS : S.Nonempty := ⟨k₀, Finset.mem_filter.mpr ⟨Finset.mem_univ _, hk₀⟩⟩
  refine ⟨S.max' hS, (Finset.mem_filter.mp (S.max'_mem hS)).2, fun k' hk' e => ?_⟩
  have hm : k' ∈ S := Finset.mem_filter.mpr ⟨Finset.mem_univ _, e.trans (Finset.mem_filter.mp (S.max'_mem hS)).2⟩
  exact absurd (S.le_max' k' hm) (not_le.mpr hk')

/-- Adding the running counts at the last lane of each digit adds to each element how many lanes name it. -/
theorem storeIdx_counts {N : ℕ} (f : Vec F ⟨1, ![N]⟩ .i32)
    (h : ∀ a x, ((![v] : Fin 1 → IVec S16 32) a x).toNat < (⟨1, ![N]⟩ : Shape).size a) (j : (⟨1, ![N]⟩ : Shape).Idx) :
    storeIdx (F := F) (e := .i32) (d := ![16]) f ![v] (scanCount ones v).2 (scanCount ones v).1 true h j
      = f j + BitVec.ofNat 32 (Nat.count (fun l => D l = (j 0).val) 16) := by
  by_cases hb : ∃ k : Fin 16, D k.val = (j 0).val
  · obtain ⟨k, hk, hl⟩ := exists_last v D hv _ hb
    have hl' := hl
    rw [storeIdx_hit (e := .i32) f v _ _ true h j k ((last_apply v D hv k).mpr hl) (by rw [hv, hk])]
    · simp only [if_true, Elt.idxAdd_i32]
      rw [counts_apply v D hv k, hk]
      congr 2
      have h16 : (16 : ℕ) = k.val + 1 + (15 - k.val) := by omega
      conv_rhs => rw [h16, Nat.count_add]
      rw [count_zero (fun l => D (k.val + 1 + l) = (j 0).val) _ fun l hl e =>
        hl' ⟨k.val + 1 + l, by omega⟩ (by show k.val < k.val + 1 + l; omega) (e.trans hk.symm)]
      exact (Nat.add_zero _).symm
    · intro k' hm' hk'
      rw [hv] at hk'
      have h1 := (last_apply v D hv k').mp hm'
      rcases lt_trichotomy k.val k'.val with h2 | h2 | h2
      · exact absurd (hk'.symm.trans hk.symm) (hl k' h2)
      · exact Fin.ext h2.symm
      · exact absurd (hk.trans hk') (h1 k h2)
  · have hno : ∀ k : Fin 16, D k.val ≠ (j 0).val := fun k hk => hb ⟨k, hk⟩
    rw [storeIdx_miss (e := .i32) f v _ _ true h j fun k _ hk => hno k (by rw [hk, hv])]
    rw [count_zero (fun l => D l = (j 0).val) 16 fun l hl => hno ⟨l, hl⟩]; simp

end Count

/-! ## The prefix sum -/

theorem foldl_ofNat (l : List (Fin 16)) (x : ℕ → ℕ) (v : IVec S16 32) (hv : ∀ k : Fin 16, v (ln k) = BitVec.ofNat 32 (x k.val)) (a : ℕ) :
    l.foldl (fun r k => ScanKind.step .sum r (v (ln k))) (BitVec.ofNat 32 a) = BitVec.ofNat 32 (a + (l.map fun k => x k.val).sum) := by
  induction l generalizing a with
  | nil => simp
  | cons k l ih =>
    rw [List.foldl_cons, hv k]
    show List.foldl _ (BitVec.ofNat 32 a + BitVec.ofNat 32 (x k.val)) l = _
    rw [← BitVec.ofNat_add, ih, List.map_cons, List.sum_cons, Nat.add_assoc]

/-- The inclusive prefix sums of `x`. -/
def psum (x : ℕ → ℕ) : ℕ → ℕ
  | 0 => 0
  | m + 1 => psum x m + x m

theorem sum_lanes (x : ℕ → ℕ) (k : Fin 16) :
    x 0 + (((List.finRange 16).filter fun l => decide (0 < l.val ∧ l.val ≤ k.val)).map fun l => x l.val).sum = psum x (k.val + 1) := by
  fin_cases k <;> simp [List.finRange_succ, psum, List.filter] <;> omega

theorem scan_apply (x : ℕ → ℕ) (v : IVec S16 32) (hv : ∀ k : Fin 16, v (ln k) = BitVec.ofNat 32 (x k.val)) (k : Fin 16) :
    scan (d := ![16]) .sum v (ln k) = BitVec.ofNat 32 (psum x (k.val + 1)) := by
  rw [← sum_lanes x k, ← foldl_ofNat _ x v hv (x 0), show BitVec.ofNat 32 (x 0) = v (ln 0) from (hv 0).symm]
  rfl

end Cert.Proof.Lanes

end
-- ==== Proof.Rules.lean ====
/-
  A memref held outright with what it reads, and the vector-subcore operations over it: a load and a
  store of 16 consecutive elements, the indexed load and the indexed store, each stated by the
  function the memref reads.
-/
module

public import proofs.«01_k».proof.Proof.Lanes
public import Idealize.ShloMosaic.Lib.SparseCore.Ops
public import Idealize.ShloMosaic.Lib.Tactic
public import Idealize.ShloMosaic.Rules

@[expose] public section

noncomputable section

namespace Cert.Proof.Own

open Idealize.ShloMosaic Cert.Proof.Lanes
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s : Shape} {e : EltTy} {α : Type} {Q : α → sProp (MT nD τ sig Ix (Elt F) Name U Lvl)}

local notation "𝕄" => MT nD τ sig Ix (Elt F) Name U Lvl

/-- The memref's elements held outright, reading `g`. -/
def own (c : Thread nD τ) (m : Memref sig c.2.kind .vmem s e) (g : s.Idx → Elt F e) : sProp (MT nD τ sig Ix (Elt F) Name U Lvl) :=
  iprop(∃ f : Buf (Elt F) (m.view.loc c), ⌜m.view.read (Elt F) f = g⌝ ∗ m.view.loc c ↦[m.view.set]{fullShare} f)

variable (N : ℕ)

/-- The 16 elements from `o` on, inside a base of `N`. -/
def window {N : ℕ} (g : (⟨1, ![N]⟩ : Shape).Idx → Elt F e) (o : ℕ) (ho : o + 16 ≤ N) : S16.Idx → Elt F e :=
  fun x => g (fun a => ⟨o + (x 0).val, by obtain rfl := Fin.eq_zero a; have : (x 0).val < 16 := (x 0).isLt; show o + (x 0).val < N; omega⟩)

/-- The base with its 16 elements from `o` on replaced. -/
def patch {N : ℕ} (g : (⟨1, ![N]⟩ : Shape).Idx → Elt F e) (o : ℕ) (w : S16.Idx → Elt F e) : (⟨1, ![N]⟩ : Shape).Idx → Elt F e :=
  fun j => if h : o ≤ (j 0).val ∧ (j 0).val < o + 16 then w (ln ⟨(j 0).val - o, by omega⟩) else g j

variable {N}

theorem wp_load16 {m : Memref sig c.2.kind .vmem (⟨1, ![N]⟩ : Shape) e} {off : Fin 1 → ℕ} {inb : ∀ a, off a + S16.size a ≤ (⟨1, ![N]⟩ : Shape).size a}
    {hl : m.view.LoadsAt (Rect.unit (s := ⟨1, ![N]⟩) off S16.size inb).toLoadRect}
    {k : (S16.Idx → Elt F e) → Prog (TpuEff nD τ sig (Elt F) Λ c.2) α} {g : (⟨1, ![N]⟩ : Shape).Idx → Elt F e} (o : ℕ) (ho : off 0 = o) (hN : o + 16 ≤ N) :
    own c m g ⊢ iprop((own c m g -∗ wp (M := 𝕄) frame (wpE defs 𝒱 c bd) E (k (window g o hN)) Q)
        -∗ wp frame (wpE defs 𝒱 c bd) E (.op (.load m (Rect.unit (s := ⟨1, ![N]⟩) off S16.size inb).toLoadRect hl) k) Q) := by
  subst ho
  unfold own
  iintro ⟨%f, %hf, H⟩ Hk
  iapply (wp_load 𝒱 c bd E (Q := Q) (q := fullShare) (f := f) (S := m.view.set) (m.view.setOn_subset_set _)) $$ H
  iintro H
  have hr : m.view.readAt (Elt F) (Rect.unit (s := ⟨1, ![N]⟩) off S16.size inb).toLoadRect f = window g (off 0) hN := by
    funext x
    rw [View.readAt_apply, hf]
    unfold window
    congr 1
    funext a
    obtain rfl := Fin.eq_zero a
    refine Fin.ext ?_
    show off 0 + 1 * (x 0).val = off 0 + (x 0).val
    rw [Nat.one_mul]
  rw [hr]
  iapply Hk
  iexists f
  isplitr [H]
  · ipureintro; exact hf
  · iexact H

theorem wp_store16 {m : Memref sig c.2.kind .vmem (⟨1, ![N]⟩ : Shape) e} {off : Fin 1 → ℕ} {inb : ∀ a, off a + S16.size a ≤ (⟨1, ![N]⟩ : Shape).size a}
    {w : S16.Idx → Elt F e} {hx : (m.access (Rect.unit (s := ⟨1, ![N]⟩) off S16.size inb)).Stores Finset.univ}
    {hm : (Finset.univ : Finset (Rect.unit (s := ⟨1, ![N]⟩) off S16.size inb).shape.Idx) = Finset.univ ∨ ∀ a, (Rect.unit (s := ⟨1, ![N]⟩) off S16.size inb).stride a = 1}
    {k : PUnit → Prog (TpuEff nD τ sig (Elt F) Λ c.2) α} {g : (⟨1, ![N]⟩ : Shape).Idx → Elt F e} (o : ℕ) (ho : off 0 = o) :
    own c m g ⊢ iprop((own c m (patch g o w) -∗ wp (M := 𝕄) frame (wpE defs 𝒱 c bd) E (k ⟨⟩) Q)
        -∗ wp frame (wpE defs 𝒱 c bd) E (.op (.store m (Rect.unit (s := ⟨1, ![N]⟩) off S16.size inb) w Finset.univ hx hm) k) Q) := by
  subst ho
  unfold own
  iintro ⟨%f, %hf, H⟩ Hk
  iapply (wp_store 𝒱 c bd E (Q := Q) (m := m) (r := Rect.unit (s := ⟨1, ![N]⟩) off S16.size inb) (Mk := Finset.univ) (w := w)
    (hx := hx) (hm := hm) (k := k) (f := f) (S := m.view.set) (m.view.set_slice_subset _)) $$ H
  iintro H
  iapply Hk
  iexists ((m.access (Rect.unit (s := ⟨1, ![N]⟩) off S16.size inb)).write (Elt F) f w Finset.univ)
  isplitr [H]
  · ipureintro
    funext j
    unfold patch
    by_cases h : off 0 ≤ (j 0).val ∧ (j 0).val < off 0 + 16
    · rw [dif_pos h]
      have hj : (Rect.unit (s := ⟨1, ![N]⟩) off S16.size inb).emb (ln ⟨(j 0).val - off 0, by omega⟩) = j := by
        funext a
        obtain rfl := Fin.eq_zero a
        refine Fin.ext ?_
        show off 0 + 1 * ((j 0).val - off 0) = (j 0).val
        omega
      have := View.read_slice_write_emb (v := m.view) (Rect.unit (s := ⟨1, ![N]⟩) off S16.size inb) f w (M := Finset.univ)
        (x := ln ⟨(j 0).val - off 0, by omega⟩) (Finset.mem_univ _)
      rw [hj] at this
      exact this
    · rw [dif_neg h, ← hf]
      refine View.read_slice_write_of_not_mem (v := m.view) (Rect.unit (s := ⟨1, ![N]⟩) off S16.size inb) f w Finset.univ fun hm => h ?_
      rw [Rect.map_emb_univ, Rect.mem_set_unit] at hm
      exact hm 0
  · iexact H

theorem wp_loadIdx {m : Memref sig c.2.kind .vmem (⟨1, ![N]⟩ : Shape) e} {ix : IVec S16 32}
    {h : ∀ a x, ((![ix] : Fin 1 → IVec S16 32) a x).toNat < (⟨1, ![N]⟩ : Shape).size a} {hl : m.view.Loads}
    {k : (S16.Idx → Elt F e) → Prog (TpuEff nD τ sig (Elt F) Λ c.2) α} {g : (⟨1, ![N]⟩ : Shape).Idx → Elt F e} :
    own c m g ⊢ iprop((own c m g -∗ wp (M := 𝕄) frame (wpE defs 𝒱 c bd) E (k (loadIdx g ![ix] h)) Q)
        -∗ wp frame (wpE defs 𝒱 c bd) E (SparseCore.vectorLoadIdx m ![ix] h hl >>= k) Q) := by
  rw [SparseCore.vectorLoadIdx_bind]
  unfold own
  iintro ⟨%f, %hf, H⟩ Hk
  iapply (wp_load 𝒱 c bd E (Q := Q) (q := fullShare) (f := f) (S := m.view.set) (m.view.setOn_subset_set _)) $$ H
  iintro H
  have hr : m.view.readAt (Elt F) (LoadRect.whole ⟨1, ![N]⟩) f = g := by
    rw [← hf]
    funext x
    rw [View.readAt_apply]
    congr 1
    funext a
    refine Fin.ext ?_
    show 0 + 1 * (x a).val = (x a).val
    omega
  rw [hr]
  iapply Hk
  iexists f
  isplitr [H]
  · ipureintro; exact hf
  · iexact H

theorem wp_storeIdx {m : Memref sig c.2.kind .vmem (⟨1, ![N]⟩ : Shape) e} {ix : IVec S16 32} {v : Vec F S16 e} {mask : IVec S16 1} {add : Bool}
    {h : ∀ a x, ((![ix] : Fin 1 → IVec S16 32) a x).toNat < (⟨1, ![N]⟩ : Shape).size a} {hs : (m.access (Rect.whole ⟨1, ![N]⟩)).Stores Finset.univ}
    {k : PUnit → Prog (TpuEff nD τ sig (Elt F) Λ c.2) α} {g : (⟨1, ![N]⟩ : Shape).Idx → Elt F e} :
    own c m g ⊢ iprop((own c m (storeIdx (d := ![16]) g ![ix] v mask add h) -∗ wp (M := 𝕄) frame (wpE defs 𝒱 c bd) E (k ⟨⟩) Q)
        -∗ wp frame (wpE defs 𝒱 c bd) E (SparseCore.vectorStoreIdx m ![ix] v mask add h hs >>= k) Q) := by
  unfold own
  iintro ⟨%f, %hf, H⟩ Hk
  have hset : (m.access (Rect.whole ⟨1, ![N]⟩)).set = m.view.set := by
    rw [View.set_slice, Rect.set_whole]; rfl
  have hr : (m.access (Rect.whole ⟨1, ![N]⟩)).read (Elt F) f = g := by
    rw [← hf]; funext x
    show m.view.read (Elt F) f ((Rect.whole ⟨1, ![N]⟩).emb x) = _
    rw [Rect.emb_whole_apply]
  rw [← hset]
  iapply (SparseCore.wp_vectorStoreIdx 𝒱 c bd E (Q := Q) (base := m) (f := f)) $$ H
  iintro H
  iapply Hk
  iexists ((m.access (Rect.whole ⟨1, ![N]⟩)).write (Elt F) f (storeIdx ((m.access (Rect.whole ⟨1, ![N]⟩)).read (Elt F) f) ![ix] v mask add h) Finset.univ)
  isplitr [H]
  · ipureintro
    funext j
    have := View.read_slice_write_emb (v := m.view) (Rect.whole ⟨1, ![N]⟩) f (storeIdx ((m.access (Rect.whole ⟨1, ![N]⟩)).read (Elt F) f) ![ix] v mask add h) (M := Finset.univ)
        (x := j) (Finset.mem_univ _)
    rw [Rect.emb_whole_apply] at this
    rw [← hr]
    exact this
  · iexact H

end Cert.Proof.Own

end
-- ==== Proof.Steps.lean ====
/-
  One step of each loop of the sort, on the contents of the buffers: 16 elements of a histogram, of its
  prefix sums, of a counting pass.
-/
module

public import proofs.«01_k».proof.Proof.Rules

@[expose] public section

noncomputable section

namespace Cert.Proof.Steps

open Idealize.ShloMosaic Cert.Proof.Radix Cert.Proof.Lanes Cert.Proof.Own

variable {F : FTy → Type} [FloatOps F] {e : EltTy} {N : ℕ}

/-- The first `M` words of a buffer are the numbers `x`. -/
def Words (M : ℕ) (g : Vec F ⟨1, ![N]⟩ .i32) (x : ℕ → ℕ) : Prop :=
  ∀ j : (⟨1, ![N]⟩ : Shape).Idx, (j 0).val < M → g j = BitVec.ofNat 32 (x (j 0).val)

/-- The first `m` values `X` stand at the addresses `A`. -/
def Filled (A : ℕ → ℕ) (X : ℕ → Elt F e) (m : ℕ) (g : Vec F ⟨1, ![N]⟩ e) : Prop :=
  ∀ q, q < m → ∀ j : (⟨1, ![N]⟩ : Shape).Idx, (j 0).val = A q → g j = X q

theorem Words.congr {M : ℕ} {g : Vec F ⟨1, ![N]⟩ .i32} {x y : ℕ → ℕ} (h : Words M g x) (hxy : ∀ b, b < M → x b = y b) : Words M g y :=
  fun j hj => by rw [h j hj, hxy _ hj]

theorem words_hist {M : ℕ} {g : Vec F ⟨1, ![N]⟩ .i32} {base D : ℕ → ℕ} {m : ℕ} (hg : Words M g fun b => base b + hist D m b)
    (v : IVec S16 32) (hv : ∀ k : Fin 16, (v (ln k)).toNat = D (m + k.val))
    (h : ∀ a x, ((![v] : Fin 1 → IVec S16 32) a x).toNat < (⟨1, ![N]⟩ : Shape).size a) :
    Words M (storeIdx (F := F) (e := .i32) (d := ![16]) g ![v] (scanCount ones v).2 (scanCount ones v).1 true h) fun b => base b + hist D (m + 16) b := by
  intro j hj
  rw [storeIdx_counts v (fun l => D (m + l)) hv g h j, hg j hj]
  beta_reduce
  rw [hist_add, ← Nat.add_assoc]
  exact (BitVec.ofNat_add _ _).symm

theorem filled_step {A : ℕ → ℕ} {X : ℕ → Elt F e} {m n : ℕ} {g : Vec F ⟨1, ![N]⟩ e} (hg : Filled A X m g) (hm : m + 16 ≤ n)
    (hA : ∀ p q, p < n → q < n → A p = A q → p = q) (p : IVec S16 32) (hp : ∀ k : Fin 16, (p (ln k)).toNat = A (m + k.val))
    (v : Vec F S16 e) (hv : ∀ k : Fin 16, v (ln k) = X (m + k.val))
    (h : ∀ a x, ((![p] : Fin 1 → IVec S16 32) a x).toNat < (⟨1, ![N]⟩ : Shape).size a) :
    Filled A X (m + 16) (storeIdx (d := ![16]) g ![p] v (fun _ => 1#1) false h) := by
  intro q hq j hj
  by_cases hqm : q < m
  · rw [storeIdx_miss g p v _ false h j]
    · exact hg q hqm j hj
    · intro k _ e
      rw [hj, hp] at e
      have := hA _ _ (by omega) (by have := k.isLt; omega) e
      omega
  · have hk : q = m + (q - m) := by omega
    rw [storeIdx_hit g p v _ false h j ⟨q - m, by omega⟩ rfl]
    · rw [if_neg (by decide), hv]
      congr 1; exact hk.symm
    · rw [hj, hp]; exact congrArg A hk
    · intro k' _ e
      rw [hj, hp] at e
      have := hA _ _ (by omega) (by have := k'.isLt; omega) e
      exact Fin.ext (by show k'.val = q - m; omega)

/-- Where the lanes of a counting pass go. -/
def posOf (v : IVec S16 32) (b : IVec S16 32) : IVec S16 32 :=
  subi (addi b (scanCount ones v).2) (broadcast S16 1#32)

theorem posOf_lane {M n : ℕ} {g : Vec F ⟨1, ![N]⟩ .i32} {D : ℕ → ℕ} {m : ℕ} (hg : Words M g fun b => start n D b + hist D m b)
    (hM : ∀ q, D q < M) (hn : n ≤ 4294967296) (hm : m + 16 ≤ n) (v : IVec S16 32) (hv : ∀ k : Fin 16, (v (ln k)).toNat = D (m + k.val))
    (h : ∀ a x, ((![v] : Fin 1 → IVec S16 32) a x).toNat < (⟨1, ![N]⟩ : Shape).size a) (k : Fin 16) :
    (posOf v (loadIdx (F := F) (e := .i32) g ![v] h) (ln k)).toNat = place n D (m + k.val) := by
  have h1 : loadIdx (F := F) (e := .i32) g ![v] h (ln k) = BitVec.ofNat 32 (start n D (D (m + k.val)) + hist D m (D (m + k.val))) := by
    unfold loadIdx
    have hv' : ((idxAt (s := ⟨1, ![N]⟩) ![v] h (ln k)) 0).val = D (m + k.val) := hv k
    rw [hg _ (by rw [hv']; exact hM _), hv']
  have h2 : posOf v (loadIdx (F := F) (e := .i32) g ![v] h) (ln k) = BitVec.ofNat 32 (place n D (m + k.val)) := by
    show loadIdx (F := F) (e := .i32) g ![v] h (ln k) + (scanCount ones v).2 (ln k) - 1#32 = _
    rw [h1, counts_apply v (fun l => D (m + l)) hv k, ← BitVec.ofNat_add]
    unfold place
    rw [hist_add, Nat.count_succ, if_pos rfl, ← Nat.add_assoc, ← Nat.add_assoc, BitVec.ofNat_add _ 1]
    exact BitVec.add_sub_cancel _ _
  rw [h2, BitVec.toNat_ofNat, Nat.mod_eq_of_lt]
  have := place_lt D (n := n) (q := m + k.val) (by have := k.isLt; omega)
  omega

/-! ## The exclusive prefix sums -/

theorem start_add (n : ℕ) (D : ℕ → ℕ) (o : ℕ) (l : ℕ) : start n D (o + l) = start n D o + psum (fun i => hist D n (o + i)) l := by
  induction l with
  | zero => rfl
  | succ l ih => rw [← Nat.add_assoc, start_succ, ih, psum, Nat.add_assoc]

/-- The 16 prefix sums a trip stores, on top of the carry. -/
def exclOf (carry : BitVec 32) (v : IVec S16 32) : IVec S16 32 := addi (subi (scan (d := ![16]) .sum v) v) (broadcast S16 carry)

theorem patch_in {g : Vec F ⟨1, ![N]⟩ e} {o : ℕ} {w : S16.Idx → Elt F e} {j : (⟨1, ![N]⟩ : Shape).Idx} (k : Fin 16) (h : (j 0).val = o + k.val) :
    patch g o w j = w (ln k) := by
  unfold patch
  rw [dif_pos (by have := k.isLt; omega)]
  congr 2
  exact Fin.ext (by show (j 0).val - o = k.val; omega)

theorem patch_out {g : Vec F ⟨1, ![N]⟩ e} {o : ℕ} {w : S16.Idx → Elt F e} {j : (⟨1, ![N]⟩ : Shape).Idx} (h : (j 0).val < o ∨ o + 16 ≤ (j 0).val) :
    patch g o w j = g j := by
  unfold patch
  rw [dif_neg (by omega)]

theorem window_ln {g : Vec F ⟨1, ![N]⟩ e} {o : ℕ} (ho : o + 16 ≤ N) (k : Fin 16) (X : Elt F e)
    (h : ∀ j : (⟨1, ![N]⟩ : Shape).Idx, (j 0).val = o + k.val → g j = X) : window g o ho (ln k) = X := h _ rfl

section Scan

variable {M n : ℕ} {D : ℕ → ℕ} {g : Vec F ⟨1, ![N]⟩ .i32} {o : ℕ} (ho : o + 16 ≤ N) (hM : o + 16 ≤ M)
variable (hg : Words M g fun b => if b < o then start n D b else hist D n b)
include hM hg

theorem scan_window (k : Fin 16) : window (F := F) (e := .i32) g o ho (ln k) = BitVec.ofNat 32 (hist D n (o + k.val)) :=
  window_ln (F := F) (e := .i32) ho k _ fun j hj => by
    have := k.isLt
    rw [hg j (by omega), hj]
    beta_reduce
    rw [if_neg (by omega)]

theorem scan_words : Words M (patch (F := F) (e := .i32) g o (exclOf (BitVec.ofNat 32 (start n D o)) (window (F := F) (e := .i32) g o ho)))
    fun b => if b < o + 16 then start n D b else hist D n b := by
  intro j hj
  by_cases h : o ≤ (j 0).val ∧ (j 0).val < o + 16
  · have hk : (j 0).val = o + ((⟨(j 0).val - o, by omega⟩ : Fin 16).val) := by show (j 0).val = o + ((j 0).val - o); omega
    generalize (⟨(j 0).val - o, by omega⟩ : Fin 16) = k at hk
    rw [patch_in (F := F) (e := .i32) k hk]
    beta_reduce
    rw [if_pos h.2, hk, start_add]
    show scan (d := ![16]) .sum (window (F := F) (e := .i32) g o ho) (ln k) - window (F := F) (e := .i32) g o ho (ln k) + BitVec.ofNat 32 (start n D o) = _
    rw [scan_apply (fun i => hist D n (o + i)) _ (scan_window ho hM hg), scan_window ho hM hg k, psum, BitVec.ofNat_add, BitVec.add_sub_cancel,
      ← BitVec.ofNat_add, Nat.add_comm]
  · rw [patch_out (F := F) (e := .i32) (by omega), hg j hj]
    beta_reduce
    by_cases h1 : (j 0).val < o
    · rw [if_pos h1, if_pos (by omega)]
    · rw [if_neg h1, if_neg (by omega)]

theorem scan_carry (hp : ∀ a, (![15] : Fin 1 → ℕ) a < S16.size a) : Scalar.addi (BitVec.ofNat 32 (start n D o)) (extractAt ![15] (scan (d := ![16]) .sum (window (F := F) (e := .i32) g o ho)) hp)
    = BitVec.ofNat 32 (start n D (o + 16)) := by
  have h := scan_apply (fun i => hist D n (o + i)) _ (scan_window ho hM hg) 15
  rw [start_add, BitVec.ofNat_add]
  exact congrArg (BitVec.ofNat 32 (start n D o) + ·) h

end Scan

/-! ## Zeroing -/

theorem zero_words {g : Vec F ⟨1, ![N]⟩ .i32} {o : ℕ} (hg : Words o g fun _ => 0) :
    Words (o + 16) (patch (F := F) (e := .i32) g o (broadcast S16 0#32)) fun _ => 0 := by
  intro j hj
  by_cases h : o ≤ (j 0).val
  · rw [patch_in (F := F) (e := .i32) ⟨(j 0).val - o, by omega⟩ (by show (j 0).val = o + ((j 0).val - o); omega)]; rfl
  · rw [patch_out (F := F) (e := .i32) (by omega)]; exact hg j (by omega)

end Cert.Proof.Steps

end
-- ==== Proof.Halves.lean ====
/-
  The loops of the sort over the program's own buffers: each trip as a program of its operations, and what
  it does to the buffers, stated on the numbers they hold.
-/
module

public import proofs.«01_k».proof.Defs
public import proofs.«01_k».proof.Proof.Steps
public import proofs.«01_k».proof.Proof.Gen.KernelIdeal

@[expose] public section

noncomputable section

namespace Cert.Proof.Halves

open Cert.KernelIdeal Cert.KernelIdeal.Gen
open Idealize.ShloMosaic Cert.Proof.Radix Cert.Proof.Own Cert.Proof.Steps
open Cert.Proof.Lanes hiding S16
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] {α : Type} (cc : Fin τ.nSC) (ss : Fin τ.nSub)

/-- A vector subcore's programs. -/
abbrev TP (F : FTy → Type) (cc : Fin τ.nSC) (ss : Fin τ.nSub) (α : Type) := Prog (TpuEff nD τ sig (Elt F) Λ₀ (.scVector cc ss)) α

/-- Every lane names an element of a base of `N`. -/
abbrev Chk (N : ℕ) (v : IVec S16 32) : Prop := ∀ a x, ((![v] : Fin 1 → IVec S16 32) a x).toNat < (⟨1, ![N]⟩ : Shape).size a

theorem chk_of {N : ℕ} {v : IVec S16 32} (h : ∀ k : Fin 16, (v (ln k)).toNat < N) : Chk N v := fun a x => by
  obtain rfl := Fin.eq_zero a
  obtain ⟨k, rfl⟩ := exists_ln x
  exact h k

abbrev MI (n : ℕ) : Type := Memref sig .scVector .vmem (⟨1, ![n]⟩ : Shape) .i32
abbrev MF (n : ℕ) : Type := Memref sig .scVector .vmem (⟨1, ![n]⟩ : Shape) .f32

section Progs

variable (d1 : ∀ v : IVec S16 32, Decidable (Chk 2048 v)) (d11 : ∀ v : IVec S16 32, Decidable (Chk 2048 v ∧ Chk 2048 v))
variable (d2 : ∀ v : IVec S16 32, Decidable (Chk 8192 v)) (d22 : ∀ v : IVec S16 32, Decidable (Chk 8192 v ∧ Chk 8192 v))

/-- Add 16 digits to a histogram. -/
def countP (h : MI 2048) (v : IVec S16 32) (hv : Chk 2048 v) (k : PUnit → TP F cc ss α) : TP F cc ss α :=
  SparseCore.vectorStoreIdx (F := F) h ![v] (scanCount (broadcast S16 1#1) v).2 (scanCount (broadcast S16 1#1) v).1 true hv (View.stores_vmem_bits_univ h_S2048 rfl) >>= k

/-- Zero 16 words. -/
def zeroP (h : MI 2048) (off : Fin 1 → ℕ) (inb : ∀ a, off a + S16.size a ≤ S2048.size a) (k : PUnit → TP F cc ss α) : TP F cc ss α :=
  .op (.load h (Rect.unit (s := S2048) off S16.size inb).toLoadRect (View.loadsAt_vmem h_S16)) fun _ =>
  .op (.store h (Rect.unit (s := S2048) off S16.size inb) (broadcast S16 0#32) Finset.univ (View.stores_vmem_bits_univ h_S16 rfl) (.inl rfl)) k

/-- Replace 16 counts by their exclusive prefix sums. -/
def scanP (h : MI 2048) (off : Fin 1 → ℕ) (inb : ∀ a, off a + S16.size a ≤ S2048.size a) (carry : BitVec 32) (k : BitVec 32 → TP F cc ss α) : TP F cc ss α :=
  .op (.load h (Rect.unit (s := S2048) off S16.size inb).toLoadRect (View.loadsAt_vmem h_S16)) fun (v : Vec F S16 .i32) =>
  .op (.load h (Rect.unit (s := S2048) off S16.size inb).toLoadRect (View.loadsAt_vmem h_S16)) fun _ =>
  .op (.store h (Rect.unit (s := S2048) off S16.size inb) (Steps.exclOf carry v) Finset.univ (View.stores_vmem_bits_univ h_S16 rfl) (.inl rfl)) fun _ =>
  k (Scalar.addi carry (extractAt ![15] (scan (d := ![16]) .sum v) inpos_S16_p15))

/-- The sort key of 16 words. -/
def keyVec (v : IVec S16 32) : IVec S16 32 :=
  xori (xori v (ori (shrsi v (broadcast S16 31#32)) (broadcast S16 2147483648#32))) (broadcast S16 4294967295#32)

/-- Replace 16 words by their keys and count the keys' digits. -/
def prepP (ka : MI 8192) (h : MI 2048) (dig : IVec S16 32 → IVec S16 32) (off : Fin 1 → ℕ) (inb : ∀ a, off a + S16.size a ≤ S8192.size a)
    (k : PUnit → TP F cc ss α) : TP F cc ss α :=
  .op (.load ka (Rect.unit (s := S8192) off S16.size inb).toLoadRect (View.loadsAt_vmem h_S16)) fun (v : Vec F S16 .i32) =>
  .op (.load ka (Rect.unit (s := S8192) off S16.size inb).toLoadRect (View.loadsAt_vmem h_S16)) fun _ =>
  .op (.store ka (Rect.unit (s := S8192) off S16.size inb) (keyVec v) Finset.univ (View.stores_vmem_bits_univ h_S16 rfl) (.inl rfl)) fun _ =>
  .op (.assume (Chk 2048 (dig (keyVec v))) (d1 (dig (keyVec v)))) fun h1 =>
  countP cc ss h (dig (keyVec v)) h1.down k

/-- One counting step: 16 keys and their indices to their places, and the next digits counted. -/
def coreP (hin hout : MI 2048) (kout iout : MI 8192) (dig dig' : IVec S16 32 → IVec S16 32) (key idx : IVec S16 32)
    (k : PUnit → TP F cc ss α) : TP F cc ss α :=
  .op (.assume (Chk 2048 (dig key) ∧ Chk 2048 (dig key)) (d11 (dig key))) fun h1 =>
  SparseCore.vectorLoadIdx (F := F) hin ![dig key] h1.down.1 (View.loads_vmem h_S2048) >>= fun (b : Vec F S16 .i32) =>
  .op (.assume (Chk 8192 (posOf (dig key) b) ∧ Chk 8192 (posOf (dig key) b)) (d22 (posOf (dig key) b))) fun h2 =>
  SparseCore.vectorStoreIdx (F := F) kout ![posOf (dig key) b] key (fun _ => 1#1) false h2.down.1 (View.stores_vmem_bits_univ h_S8192 rfl) >>= fun _ =>
  SparseCore.vectorStoreIdx (F := F) iout ![posOf (dig key) b] idx (fun _ => 1#1) false h2.down.2 (View.stores_vmem_bits_univ h_S8192 rfl) >>= fun _ =>
  countP cc ss hin (dig key) h1.down.2 fun _ =>
  .op (.assume (Chk 2048 (dig' key)) (d1 (dig' key))) fun h3 =>
  countP cc ss hout (dig' key) h3.down k

/-- The first pass's step: the index is the item's own. -/
def pass0P (ka : MI 8192) (hin hout : MI 2048) (kout iout : MI 8192) (dig dig' : IVec S16 32 → IVec S16 32) (idx : IVec S16 32)
    (off : Fin 1 → ℕ) (inb : ∀ a, off a + S16.size a ≤ S8192.size a) (k : PUnit → TP F cc ss α) : TP F cc ss α :=
  .op (.load ka (Rect.unit (s := S8192) off S16.size inb).toLoadRect (View.loadsAt_vmem h_S16)) fun (key : Vec F S16 .i32) =>
  coreP cc ss d1 d11 d22 hin hout kout iout dig dig' key idx k

/-- The middle pass's step. -/
def pass1P (ka ia : MI 8192) (hin hout : MI 2048) (kout iout : MI 8192) (dig dig' : IVec S16 32 → IVec S16 32)
    (off : Fin 1 → ℕ) (inb : ∀ a, off a + S16.size a ≤ S8192.size a) (k : PUnit → TP F cc ss α) : TP F cc ss α :=
  .op (.load ka (Rect.unit (s := S8192) off S16.size inb).toLoadRect (View.loadsAt_vmem h_S16)) fun (key : Vec F S16 .i32) =>
  .op (.load ia (Rect.unit (s := S8192) off S16.size inb).toLoadRect (View.loadsAt_vmem h_S16)) fun (idx : Vec F S16 .i32) =>
  coreP cc ss d1 d11 d22 hin hout kout iout dig dig' key idx k

/-- The last pass's step: the threshold at each item's place, stored at the item. -/
def pass2P (dp : ∀ v : IVec S16 32, Decidable (Chk 8192 v)) (ka ia : MI 8192) (hin : MI 2048) (th out : MF 8192) (dig : IVec S16 32 → IVec S16 32)
    (off : Fin 1 → ℕ) (inb : ∀ a, off a + S16.size a ≤ S8192.size a) (k : PUnit → TP F cc ss α) : TP F cc ss α :=
  .op (.load ka (Rect.unit (s := S8192) off S16.size inb).toLoadRect (View.loadsAt_vmem h_S16)) fun (key : Vec F S16 .i32) =>
  .op (.load ia (Rect.unit (s := S8192) off S16.size inb).toLoadRect (View.loadsAt_vmem h_S16)) fun (idx : Vec F S16 .i32) =>
  .op (.assume (Chk 8192 idx) (d2 idx)) fun h0 =>
  .op (.assume (Chk 2048 (dig key) ∧ Chk 2048 (dig key)) (d11 (dig key))) fun h1 =>
  SparseCore.vectorLoadIdx (F := F) hin ![dig key] h1.down.1 (View.loads_vmem h_S2048) >>= fun (b : Vec F S16 .i32) =>
  .op (.assume (Chk 8192 (posOf (dig key) b)) (dp (posOf (dig key) b))) fun h2 =>
  SparseCore.vectorLoadIdx (F := F) th ![posOf (dig key) b] h2.down (View.loads_vmem h_S8192) >>= fun t =>
  SparseCore.vectorStoreIdx (F := F) out ![idx] t (fun _ => 1#1) false h0.down (View.stores_vmem_bits_univ h_S8192 rfl) >>= fun _ =>
  countP cc ss hin (dig key) h1.down.2 k

end Progs

/-! ## What each step does -/

section Wp

variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)
variable {Q : α → sProp (MT nD τ sig Ix (Elt F) Name U Lvl)}

local notation "𝕄" => MT nD τ sig Ix (Elt F) Name U Lvl
local notation "WP" => wp (M := MT nD τ sig Ix (Elt F) Name U Lvl) frame (wpE defs 𝒱 (V d cc ss) bd) E
/-- A subcore's memref held outright, reading `g`. -/
abbrev ow (F : FTy → Type) (Ix Name U Lvl : Type) [DecidableEq Ix] [DecidableEq Name] [URA U] [Preorder Lvl] (cc : Fin τ.nSC) (ss : Fin τ.nSub) (d : Dev nD) {s : Shape} {e : EltTy} (m : Memref sig .scVector .vmem s e) (g : s.Idx → Elt F e) :
    sProp (MT nD τ sig Ix (Elt F) Name U Lvl) := own (V d cc ss) m g

local notation "OW" => ow F Ix Name U Lvl cc ss d

/-- A histogram whose first `M` words are the numbers `x`. -/
def nums (m : MI 2048) (M : ℕ) (x : ℕ → ℕ) : sProp 𝕄 := iprop(∃ g : Vec F S2048 .i32, ⌜Words M g x⌝ ∗ OW m g)

/-- A buffer with the first `m` values `X` at the addresses `A`. -/
def filled {e : EltTy} (b : Memref sig .scVector .vmem S8192 e) (A : ℕ → ℕ) (X : ℕ → Elt F e) (m : ℕ) : sProp 𝕄 :=
  iprop(∃ g : Vec F S8192 e, ⌜Filled A X m g⌝ ∗ OW b g)

/-- A buffer reading `X`. -/
def reads {e : EltTy} (b : Memref sig .scVector .vmem S8192 e) (X : ℕ → Elt F e) : sProp 𝕄 := OW b fun j => X (j 0).val

local notation "NUMS" => nums (F := F) (Ix := Ix) (Name := Name) (U := U) (Lvl := Lvl) cc ss d
local notation "FILLED" => filled (F := F) (Ix := Ix) (Name := Name) (U := U) (Lvl := Lvl) cc ss d
local notation "READS" => reads (F := F) (Ix := Ix) (Name := Name) (U := U) (Lvl := Lvl) cc ss d

theorem wp_countP {h : MI 2048} {v : IVec S16 32} {hv : Chk 2048 v} {k : PUnit → TP F cc ss α} {M : ℕ} {base D : ℕ → ℕ} {m : ℕ}
    (hD : ∀ k : Fin 16, (v (ln k)).toNat = D (m + k.val)) :
    NUMS h M (fun b => base b + hist D m b)
      ⊢ iprop((NUMS h M (fun b => base b + hist D (m + 16) b) -∗ WP (k ⟨⟩) Q) -∗ WP (countP cc ss h v hv k) Q) := by
  unfold nums countP
  iintro ⟨%g, %hg, H⟩ Hk
  iapply (wp_storeIdx (F := F) 𝒱 (V d cc ss) bd E (Q := Q) (m := h) (g := g)) $$ H
  iintro H
  iapply Hk
  iexists _
  isplitr [H]
  · ipureintro; exact words_hist hg v hD hv
  · iexact H

theorem wp_zeroP {h : MI 2048} {off : Fin 1 → ℕ} {inb : ∀ a, off a + S16.size a ≤ S2048.size a} {k : PUnit → TP F cc ss α} (o : ℕ) (ho : off 0 = o) :
    NUMS h o (fun _ => 0) ⊢ iprop((NUMS h (o + 16) (fun _ => 0) -∗ WP (k ⟨⟩) Q) -∗ WP (zeroP cc ss h off inb k) Q) := by
  have hN : o + 16 ≤ 2048 := by have := inb 0; rw [ho] at this; exact this
  unfold nums zeroP
  iintro ⟨%g, %hg, H⟩ Hk
  iapply (wp_load16 (F := F) 𝒱 (V d cc ss) bd E (Q := Q) (m := h) (g := g) o ho hN) $$ H
  iintro H
  iapply (wp_store16 (F := F) 𝒱 (V d cc ss) bd E (Q := Q) (m := h) (g := g) o ho) $$ H
  iintro H
  iapply Hk
  iexists _
  isplitr [H]
  · ipureintro; exact zero_words hg
  · iexact H

theorem wp_scanP {h : MI 2048} {off : Fin 1 → ℕ} {inb : ∀ a, off a + S16.size a ≤ S2048.size a} {k : BitVec 32 → TP F cc ss α} {M : ℕ} {D : ℕ → ℕ}
    (o : ℕ) (ho : off 0 = o) (hM : o + 16 ≤ M) :
    NUMS h M (fun b => if b < o then start 8192 D b else hist D 8192 b)
      ⊢ iprop((NUMS h M (fun b => if b < o + 16 then start 8192 D b else hist D 8192 b) -∗ WP (k (BitVec.ofNat 32 (start 8192 D (o + 16)))) Q)
        -∗ WP (scanP cc ss h off inb (BitVec.ofNat 32 (start 8192 D o)) k) Q) := by
  have hN : o + 16 ≤ 2048 := by have := inb 0; rw [ho] at this; exact this
  unfold nums scanP
  iintro ⟨%g, %hg, H⟩ Hk
  iapply (wp_load16 (F := F) 𝒱 (V d cc ss) bd E (Q := Q) (m := h) (g := g) o ho hN) $$ H
  iintro H
  iapply (wp_load16 (F := F) 𝒱 (V d cc ss) bd E (Q := Q) (m := h) (g := g) o ho hN) $$ H
  iintro H
  iapply (wp_store16 (F := F) 𝒱 (V d cc ss) bd E (Q := Q) (m := h) (g := g) o ho) $$ H
  iintro H
  rw [scan_carry hN hM hg]
  iapply Hk
  iexists _
  isplitr [H]
  · ipureintro; exact scan_words hN hM hg
  · iexact H

/-- Where the preparation stands after `m` items: their keys stored and their digits counted. -/
def prepSt (ka : MI 8192) (h : MI 2048) (u kw : ℕ → BitVec 32) (D : ℕ → ℕ) (m : ℕ) : sProp 𝕄 :=
  iprop((OW ka fun j => if (j 0).val < m then kw (j 0).val else u (j 0).val) ∗ NUMS h 2048 (fun b => 0 + hist D m b))

theorem wp_prepP {d1 : ∀ v : IVec S16 32, Decidable (Chk 2048 v)} {ka : MI 8192} {h : MI 2048} {dig : IVec S16 32 → IVec S16 32} {off : Fin 1 → ℕ}
    {inb : ∀ a, off a + S16.size a ≤ S8192.size a} {k : PUnit → TP F cc ss α} {u kw : ℕ → BitVec 32} {D : ℕ → ℕ} (m : ℕ) (ho : off 0 = m)
    (hkw : ∀ (v : IVec S16 32) (l : Fin 16) q, v (ln l) = u q → keyVec v (ln l) = kw q)
    (hdig : ∀ (v : IVec S16 32) (l : Fin 16) q, v (ln l) = kw q → (dig v (ln l)).toNat = D q) (hD : ∀ q, D q < 2048) :
    prepSt (F := F) (Ix := Ix) (Name := Name) (U := U) (Lvl := Lvl) cc ss d ka h u kw D m
      ⊢ iprop((prepSt (F := F) (Ix := Ix) (Name := Name) (U := U) (Lvl := Lvl) cc ss d ka h u kw D (m + 16) -∗ WP (k ⟨⟩) Q) -∗ WP (prepP cc ss d1 ka h dig off inb k) Q) := by
  have hN : m + 16 ≤ 8192 := by have := inb 0; rw [ho] at this; exact this
  have hw : ∀ l : Fin 16, (window (F := F) (e := .i32) (N := 8192) (fun j => if (j 0).val < m then kw (j 0).val else u (j 0).val) m hN) (ln l) = u (m + l.val) := fun l =>
    window_ln (F := F) (e := .i32) hN l _ fun j hj => by rw [hj, if_neg (by omega)]
  have hk : ∀ l : Fin 16, keyVec (window (F := F) (e := .i32) (N := 8192) (fun j => if (j 0).val < m then kw (j 0).val else u (j 0).val) m hN) (ln l) = kw (m + l.val) :=
    fun l => hkw _ l _ (hw l)
  have hd : ∀ l : Fin 16, (dig (keyVec (window (F := F) (e := .i32) (N := 8192) (fun j => if (j 0).val < m then kw (j 0).val else u (j 0).val) m hN)) (ln l)).toNat = D (m + l.val) :=
    fun l => hdig _ l _ (hk l)
  unfold prepSt prepP
  iintro ⟨H, Hn⟩ Hk
  iapply (wp_load16 (F := F) 𝒱 (V d cc ss) bd E (Q := Q) (m := ka) m ho hN) $$ H
  iintro H
  iapply (wp_load16 (F := F) 𝒱 (V d cc ss) bd E (Q := Q) (m := ka) m ho hN) $$ H
  iintro H
  iapply (wp_store16 (F := F) 𝒱 (V d cc ss) bd E (Q := Q) (m := ka) m ho) $$ H
  iintro H
  iapply (wp_assume 𝒱 (V d cc ss) bd E (chk_of fun l => by rw [hd]; exact hD _))
  iapply (wp_countP cc ss 𝒱 d bd E (base := fun _ => 0) hd) $$ Hn
  iintro Hn
  iapply Hk
  isplitr [Hn]
  · have : (patch (F := F) (e := .i32) (N := 8192) (fun j => if (j 0).val < m then kw (j 0).val else u (j 0).val) m
        (keyVec (window (F := F) (e := .i32) (N := 8192) (fun j => if (j 0).val < m then kw (j 0).val else u (j 0).val) m hN)))
        = fun j => if (j 0).val < m + 16 then kw (j 0).val else u (j 0).val := by
      funext j
      by_cases h : m ≤ (j 0).val ∧ (j 0).val < m + 16
      · have hj : (j 0).val = m + ((⟨(j 0).val - m, by omega⟩ : Fin 16).val) := by show (j 0).val = m + ((j 0).val - m); omega
        rw [patch_in (F := F) (e := .i32) _ hj, hk, ← hj, if_pos h.2]
      · rw [patch_out (F := F) (e := .i32) (by omega)]
        by_cases h1 : (j 0).val < m
        · rw [if_pos h1, if_pos (by omega)]
        · rw [if_neg h1, if_neg (by omega)]
    rw [← this]
    iexact H
  · iexact Hn

/-- Where a counting pass stands after `m` items. -/
def passSt (hin hout : MI 2048) (kout iout : MI 8192) (M : ℕ) (M' : ℕ) (D D' : ℕ → ℕ) (X Y : ℕ → BitVec 32) (m : ℕ) : sProp 𝕄 :=
  iprop(NUMS hin M (fun b => start 8192 D b + hist D m b) ∗ NUMS hout M' (fun b => 0 + hist D' m b)
    ∗ FILLED kout (place 8192 D) X m ∗ FILLED iout (place 8192 D) Y m)

theorem wp_coreP {d1 : ∀ v : IVec S16 32, Decidable (Chk 2048 v)} {d11 : ∀ v : IVec S16 32, Decidable (Chk 2048 v ∧ Chk 2048 v)}
    {d22 : ∀ v : IVec S16 32, Decidable (Chk 8192 v ∧ Chk 8192 v)} {hin hout : MI 2048} {kout iout : MI 8192} {dig dig' : IVec S16 32 → IVec S16 32}
    {key idx : IVec S16 32} {k : PUnit → TP F cc ss α} {M M' : ℕ} {D D' : ℕ → ℕ} {X Y : ℕ → BitVec 32} {m : ℕ} (hm : m + 16 ≤ 8192)
    (hX : ∀ l : Fin 16, key (ln l) = X (m + l.val)) (hY : ∀ l : Fin 16, idx (ln l) = Y (m + l.val))
    (hdig : ∀ (v : IVec S16 32) (l : Fin 16) q, v (ln l) = X q → (dig v (ln l)).toNat = D q) (hdig' : ∀ (v : IVec S16 32) (l : Fin 16) q, v (ln l) = X q → (dig' v (ln l)).toNat = D' q)
    (hM : M ≤ 2048) (hM' : M' ≤ 2048) (hD : ∀ q, D q < M) (hD' : ∀ q, D' q < M') :
    passSt (F := F) (Ix := Ix) (Name := Name) (U := U) (Lvl := Lvl) cc ss d hin hout kout iout M M' D D' X Y m
      ⊢ iprop((passSt (F := F) (Ix := Ix) (Name := Name) (U := U) (Lvl := Lvl) cc ss d hin hout kout iout M M' D D' X Y (m + 16) -∗ WP (k ⟨⟩) Q)
        -∗ WP (coreP cc ss d1 d11 d22 hin hout kout iout dig dig' key idx k) Q) := by
  have hd : ∀ l : Fin 16, (dig key (ln l)).toNat = D (m + l.val) := fun l => hdig _ l _ (hX l)
  have hd' : ∀ l : Fin 16, (dig' key (ln l)).toNat = D' (m + l.val) := fun l => hdig' _ l _ (hX l)
  have hc : Chk 2048 (dig key) := chk_of fun l => by rw [hd]; exact lt_of_lt_of_le (hD _) hM
  have hc' : Chk 2048 (dig' key) := chk_of fun l => by rw [hd']; exact lt_of_lt_of_le (hD' _) hM'
  have hinj : ∀ p q, p < 8192 → q < 8192 → place 8192 D p = place 8192 D q → p = q := fun p q hp hq e => place_inj D hp hq e
  unfold passSt coreP nums filled
  iintro ⟨⟨%gh, %hgh, Hh⟩, ⟨⟨%go, %hgo, Ho⟩, ⟨⟨%gk, %hgk, HK⟩, ⟨%gi, %hgi, HI⟩⟩⟩⟩ Hk
  have hpos := posOf_lane hgh hD (by omega) hm (dig key) hd hc
  have hcp : Chk 8192 (posOf (dig key) (loadIdx (F := F) (e := .i32) gh ![dig key] hc)) :=
    chk_of fun l => by rw [hpos]; exact place_lt D (by have := l.isLt; omega)
  iapply (wp_assume 𝒱 (V d cc ss) bd E ⟨hc, hc⟩)
  iapply (wp_loadIdx (F := F) 𝒱 (V d cc ss) bd E (Q := Q) (m := hin) (g := gh)) $$ Hh
  iintro Hh
  iapply (wp_assume 𝒱 (V d cc ss) bd E ⟨hcp, hcp⟩)
  iapply (wp_storeIdx (F := F) 𝒱 (V d cc ss) bd E (Q := Q) (m := kout) (g := gk)) $$ HK
  iintro HK
  iapply (wp_storeIdx (F := F) 𝒱 (V d cc ss) bd E (Q := Q) (m := iout) (g := gi)) $$ HI
  iintro HI
  iapply (wp_countP cc ss 𝒱 d bd E (M := M) (base := fun b => start 8192 D b) (m := m) hd) $$ [Hh]
  · unfold nums
    iexists gh
    isplitr [Hh]
    · ipureintro; exact hgh
    · iexact Hh
  iintro Hh
  iapply (wp_assume 𝒱 (V d cc ss) bd E hc')
  iapply (wp_countP cc ss 𝒱 d bd E (M := M') (base := fun b => 0) (m := m) hd') $$ [Ho]
  · unfold nums
    iexists go
    isplitr [Ho]
    · ipureintro; exact hgo
    · iexact Ho
  iintro Ho
  iapply Hk
  unfold nums
  isplitl [Hh]; · iexact Hh
  isplitl [Ho]; · iexact Ho
  isplitl [HK]
  · iexists _
    isplitr [HK]
    · ipureintro; exact filled_step hgk hm hinj _ hpos key hX hcp
    · iexact HK
  · iexists _
    isplitr [HI]
    · ipureintro; exact filled_step hgi hm hinj _ hpos idx hY hcp
    · iexact HI

theorem window_reads {X : ℕ → Elt F .i32} {o : ℕ} (ho : o + 16 ≤ 8192) (l : Fin 16) :
    window (F := F) (e := .i32) (N := 8192) (fun j => X (j 0).val) o ho (ln l) = X (o + l.val) := rfl

theorem wp_pass0P {d1 : ∀ v : IVec S16 32, Decidable (Chk 2048 v)} {d11 : ∀ v : IVec S16 32, Decidable (Chk 2048 v ∧ Chk 2048 v)}
    {d22 : ∀ v : IVec S16 32, Decidable (Chk 8192 v ∧ Chk 8192 v)} {ka : MI 8192} {hin hout : MI 2048} {kout iout : MI 8192} {dig dig' : IVec S16 32 → IVec S16 32}
    {idx : IVec S16 32} {off : Fin 1 → ℕ} {inb : ∀ a, off a + S16.size a ≤ S8192.size a}
    {k : PUnit → TP F cc ss α} {M M' : ℕ} {D D' : ℕ → ℕ} {X Y : ℕ → BitVec 32} (m : ℕ) (ho : off 0 = m)
    (hY : ∀ l : Fin 16, idx (ln l) = Y (m + l.val))
    (hdig : ∀ (v : IVec S16 32) (l : Fin 16) q, v (ln l) = X q → (dig v (ln l)).toNat = D q) (hdig' : ∀ (v : IVec S16 32) (l : Fin 16) q, v (ln l) = X q → (dig' v (ln l)).toNat = D' q)
    (hM : M ≤ 2048) (hM' : M' ≤ 2048) (hD : ∀ q, D q < M) (hD' : ∀ q, D' q < M') :
    iprop(READS ka X ∗ passSt (F := F) (Ix := Ix) (Name := Name) (U := U) (Lvl := Lvl) cc ss d hin hout kout iout M M' D D' X Y m)
      ⊢ iprop((READS ka X ∗ passSt (F := F) (Ix := Ix) (Name := Name) (U := U) (Lvl := Lvl) cc ss d hin hout kout iout M M' D D' X Y (m + 16) -∗ WP (k ⟨⟩) Q)
        -∗ WP (pass0P cc ss d1 d11 d22 ka hin hout kout iout dig dig' idx off inb k) Q) := by
  have hN : m + 16 ≤ 8192 := by have := inb 0; rw [ho] at this; exact this
  unfold pass0P reads
  iintro ⟨H, HS⟩ Hk
  iapply (wp_load16 (F := F) 𝒱 (V d cc ss) bd E (Q := Q) (m := ka) m ho hN) $$ H
  iintro H
  iapply (wp_coreP cc ss 𝒱 d bd E hN (window_reads (F := F) (X := X) hN) hY hdig hdig' hM hM' hD hD') $$ HS
  iintro HS
  iapply Hk
  isplitl [H] <;> iassumption

theorem wp_pass1P {d1 : ∀ v : IVec S16 32, Decidable (Chk 2048 v)} {d11 : ∀ v : IVec S16 32, Decidable (Chk 2048 v ∧ Chk 2048 v)}
    {d22 : ∀ v : IVec S16 32, Decidable (Chk 8192 v ∧ Chk 8192 v)} {ka ia : MI 8192} {hin hout : MI 2048} {kout iout : MI 8192} {dig dig' : IVec S16 32 → IVec S16 32}
    {off : Fin 1 → ℕ} {inb : ∀ a, off a + S16.size a ≤ S8192.size a}
    {k : PUnit → TP F cc ss α} {M M' : ℕ} {D D' : ℕ → ℕ} {X Y : ℕ → BitVec 32} (m : ℕ) (ho : off 0 = m)
    (hdig : ∀ (v : IVec S16 32) (l : Fin 16) q, v (ln l) = X q → (dig v (ln l)).toNat = D q) (hdig' : ∀ (v : IVec S16 32) (l : Fin 16) q, v (ln l) = X q → (dig' v (ln l)).toNat = D' q)
    (hM : M ≤ 2048) (hM' : M' ≤ 2048) (hD : ∀ q, D q < M) (hD' : ∀ q, D' q < M') :
    iprop((READS ka X ∗ READS ia Y) ∗ passSt (F := F) (Ix := Ix) (Name := Name) (U := U) (Lvl := Lvl) cc ss d hin hout kout iout M M' D D' X Y m)
      ⊢ iprop(((READS ka X ∗ READS ia Y) ∗ passSt (F := F) (Ix := Ix) (Name := Name) (U := U) (Lvl := Lvl) cc ss d hin hout kout iout M M' D D' X Y (m + 16) -∗ WP (k ⟨⟩) Q)
        -∗ WP (pass1P cc ss d1 d11 d22 ka ia hin hout kout iout dig dig' off inb k) Q) := by
  have hN : m + 16 ≤ 8192 := by have := inb 0; rw [ho] at this; exact this
  unfold pass1P reads
  iintro ⟨⟨H, HI⟩, HS⟩ Hk
  iapply (wp_load16 (F := F) 𝒱 (V d cc ss) bd E (Q := Q) (m := ka) m ho hN) $$ H
  iintro H
  iapply (wp_load16 (F := F) 𝒱 (V d cc ss) bd E (Q := Q) (m := ia) m ho hN) $$ HI
  iintro HI
  iapply (wp_coreP cc ss 𝒱 d bd E hN (window_reads (F := F) (X := X) hN) (window_reads (F := F) (X := Y) hN) hdig hdig' hM hM' hD hD') $$ HS
  iintro HS
  iapply Hk
  isplitr [HS]
  · isplitl [H] <;> iassumption
  · iassumption

/-- Where the last pass stands after `m` items. -/
def lastSt (ka ia : MI 8192) (hin : MI 2048) (th out : MF 8192) (M : ℕ) (D : ℕ → ℕ) (X Y : ℕ → BitVec 32) (T : ℕ → Elt F .f32) (m : ℕ) : sProp 𝕄 :=
  iprop((READS ka X ∗ READS ia Y ∗ READS th T) ∗ NUMS hin M (fun b => start 8192 D b + hist D m b)
    ∗ FILLED out (fun q => (Y q).toNat) (fun q => T (place 8192 D q)) m)

theorem wp_pass2P {d11 : ∀ v : IVec S16 32, Decidable (Chk 2048 v ∧ Chk 2048 v)}
    {d2 dp : ∀ v : IVec S16 32, Decidable (Chk 8192 v)} {ka ia : MI 8192} {hin : MI 2048} {th out : MF 8192} {dig : IVec S16 32 → IVec S16 32}
    {off : Fin 1 → ℕ} {inb : ∀ a, off a + S16.size a ≤ S8192.size a}
    {k : PUnit → TP F cc ss α} {M : ℕ} {D : ℕ → ℕ} {X Y : ℕ → BitVec 32} {T : ℕ → Elt F .f32} (m : ℕ) (ho : off 0 = m)
    (hdig : ∀ (v : IVec S16 32) (l : Fin 16) q, v (ln l) = X q → (dig v (ln l)).toNat = D q)
    (hM : M ≤ 2048) (hD : ∀ q, D q < M) (hY : ∀ q, q < 8192 → (Y q).toNat < 8192)
    (hYi : ∀ p q, p < 8192 → q < 8192 → (Y p).toNat = (Y q).toNat → p = q) :
    lastSt (Ix := Ix) (Name := Name) (U := U) (Lvl := Lvl) cc ss d ka ia hin th out M D X Y T m
      ⊢ iprop((lastSt (Ix := Ix) (Name := Name) (U := U) (Lvl := Lvl) cc ss d ka ia hin th out M D X Y T (m + 16) -∗ WP (k ⟨⟩) Q)
        -∗ WP (pass2P cc ss d11 d2 dp ka ia hin th out dig off inb k) Q) := by
  have hN : m + 16 ≤ 8192 := by have := inb 0; rw [ho] at this; exact this
  unfold pass2P lastSt reads nums filled
  have hX : ∀ l : Fin 16, window (F := F) (e := .i32) (N := 8192) (fun j => X (j 0).val) m hN (ln l) = X (m + l.val) := window_reads (F := F) hN
  have hYw : ∀ l : Fin 16, window (F := F) (e := .i32) (N := 8192) (fun j => Y (j 0).val) m hN (ln l) = Y (m + l.val) := window_reads (F := F) hN
  generalize hkey : window (F := F) (e := .i32) (N := 8192) (fun j => X (j 0).val) m hN = key at hX
  generalize hidx : window (F := F) (e := .i32) (N := 8192) (fun j => Y (j 0).val) m hN = idx at hYw
  have hd : ∀ l : Fin 16, (dig key (ln l)).toNat = D (m + l.val) := fun l => hdig _ l _ (hX l)
  have hc : Chk 2048 (dig key) := chk_of fun l => by rw [hd]; exact lt_of_lt_of_le (hD _) hM
  have hci : Chk 8192 idx := chk_of fun l => by rw [hYw]; exact hY _ (by have := l.isLt; omega)
  iintro ⟨⟨H, HI, HT⟩, ⟨%gh, %hgh, Hh⟩, ⟨%go, %hgo, Ho⟩⟩ Hk
  have hpos := posOf_lane hgh hD (by omega) hN (dig key) hd hc
  have hcp : Chk 8192 (posOf (dig key) (loadIdx (F := F) (e := .i32) gh ![dig key] hc)) :=
    chk_of fun l => by rw [hpos]; exact place_lt D (by have := l.isLt; omega)
  iapply (wp_load16 (F := F) 𝒱 (V d cc ss) bd E (Q := Q) (m := ka) m ho hN) $$ H
  iintro H
  iapply (wp_load16 (F := F) 𝒱 (V d cc ss) bd E (Q := Q) (m := ia) m ho hN) $$ HI
  iintro HI
  rw [hkey, hidx]
  iapply (wp_assume 𝒱 (V d cc ss) bd E hci)
  iapply (wp_assume 𝒱 (V d cc ss) bd E ⟨hc, hc⟩)
  iapply (wp_loadIdx (F := F) 𝒱 (V d cc ss) bd E (Q := Q) (m := hin) (g := gh)) $$ Hh
  iintro Hh
  iapply (wp_assume 𝒱 (V d cc ss) bd E hcp)
  iapply (wp_loadIdx (F := F) 𝒱 (V d cc ss) bd E (Q := Q) (m := th)) $$ HT
  iintro HT
  iapply (wp_storeIdx (F := F) 𝒱 (V d cc ss) bd E (Q := Q) (m := out) (g := go)) $$ Ho
  iintro Ho
  iapply (wp_countP cc ss 𝒱 d bd E (M := M) (base := fun b => start 8192 D b) (m := m) hd) $$ [Hh]
  · unfold nums
    iexists gh
    isplitr [Hh]
    · ipureintro; exact hgh
    · iexact Hh
  iintro Hh
  iapply Hk
  unfold nums
  isplitl [H HI HT]
  · isplitl [H]; · iexact H
    isplitl [HI]; · iexact HI
    iexact HT
  isplitl [Hh]; · iexact Hh
  iexists _
  isplitr [Ho]
  · ipureintro
    refine filled_step (e := .f32) hgo hN hYi idx (fun l => by rw [hYw])
      (loadIdx (F := F) (e := .f32) (s := S8192) (fun j => T (j 0).val) ![posOf (dig key) (loadIdx (F := F) (e := .i32) gh ![dig key] hc)] hcp) (fun l => ?_) hci
    show T (posOf (dig key) (loadIdx (F := F) (e := .i32) gh ![dig key] hc) (ln l)).toNat = _
    rw [hpos]
  · iexact Ho

end Wp

end Cert.Proof.Halves

end
-- ==== Proof.Loops.lean ====
/-
  The counted loops of one row, and the row's ten loops in order: whatever the buffers held, they leave at
  each item the threshold at its rank.
-/
module

public import proofs.«01_k».proof.Proof.Halves
public import Idealize.ShloMosaic.Lib.Scf

@[expose] public section

noncomputable section

namespace Cert.Proof.Loops

open Cert.KernelIdeal Cert.KernelIdeal.Gen
open Idealize.ShloMosaic Cert.Proof.Radix Cert.Proof.Own Cert.Proof.Steps Cert.Proof.Halves
open Cert.Proof.Lanes hiding S16
open Idealize.ShloMosaic.SparseCore (V)
open Idealize.SL Idealize.SL.RA Idealize.SL.BI
open scoped Idealize.SL.BI
open Idealize.SL.BI.BIBase Idealize.SL.BI.Laws Idealize.SL.ProofMode Idealize.SL.Sem

/-! ## The digits of a key -/

/-- The low 11 bits. -/
def digA (v : IVec S16 32) : IVec S16 32 := andi v (broadcast S16 2047#32)
/-- The middle 11 bits. -/
def digB (v : IVec S16 32) : IVec S16 32 := andi (shrui v (broadcast S16 11#32)) (broadcast S16 2047#32)
/-- The high 10 bits. -/
def digC (v : IVec S16 32) : IVec S16 32 := andi (shrui v (broadcast S16 22#32)) (broadcast S16 1023#32)

/-- The key of a word: ascending keys are descending floats. -/
def keyWord (u : BitVec 32) : BitVec 32 := (u ^^^ (u.sshiftRight 31 ||| 2147483648#32)) ^^^ 4294967295#32

theorem keyVec_lane {v : IVec S16 32} {l : Fin 16} {u : BitVec 32} (h : v (ln l) = u) : keyVec v (ln l) = keyWord u := by
  subst h; rfl

theorem and_low (k : BitVec 32) (n : ℕ) (hn : n < 32) (m : BitVec 32) (hm : m.toNat = 2 ^ n - 1) : (k &&& m).toNat = k.toNat % 2 ^ n := by
  rw [BitVec.toNat_and, hm, Nat.and_two_pow_sub_one_eq_mod]

theorem digA_lane {v : IVec S16 32} {l : Fin 16} {k : BitVec 32} (h : v (ln l) = k) : (digA v (ln l)).toNat = dig0 k.toNat := by
  subst h; exact and_low _ 11 (by decide) _ rfl

theorem digB_lane {v : IVec S16 32} {l : Fin 16} {k : BitVec 32} (h : v (ln l) = k) : (digB v (ln l)).toNat = dig1 k.toNat := by
  subst h
  refine (and_low _ 11 (by decide) 2047#32 rfl).trans ?_
  show (v (ln l) >>> 11).toNat % 2048 = _
  rw [BitVec.toNat_ushiftRight, Nat.shiftRight_eq_div_pow]; rfl

theorem digC_lane {v : IVec S16 32} {l : Fin 16} {k : BitVec 32} (h : v (ln l) = k) : (digC v (ln l)).toNat = dig2 k.toNat := by
  subst h
  refine (and_low _ 10 (by decide) 1023#32 rfl).trans ?_
  show (v (ln l) >>> 22).toNat % 1024 = _
  rw [BitVec.toNat_ushiftRight, Nat.shiftRight_eq_div_pow]; rfl

/-! ## A pass makes the next order -/

theorem filled_next {e : EltTy} {F : FTy → Type} {r : ℕ → ℕ → Prop} (h : Strict 8192 r) (d : ℕ → ℕ) {X : ℕ → Elt F e} {g : Vec F S8192 e}
    (hg : Filled (place 8192 fun p => d (inv 8192 r p)) (fun p => X (inv 8192 r p)) 8192 g) (j : S8192.Idx) : g j = X (inv 8192 (lex d r) (j 0).val) := by
  have hj : (j 0).val < 8192 := (j 0).isLt
  obtain ⟨hq, hb⟩ := inv_spec (h.lex d) hj
  have := hg (below 8192 r (inv 8192 (lex d r) (j 0).val)) (below_lt h hq) j (by rw [place_inv h d hq, hb])
  rw [this]
  show X (inv 8192 r (below 8192 r _)) = _
  rw [inv_below h hq]

theorem filled_ranked {F : FTy → Type} (k : ℕ → ℕ) (hk : ∀ i, k i < 4294967296) {T : ℕ → Elt F .f32} {g : Vec F S8192 .f32}
    (hg : Filled (fun q => (BitVec.ofNat 32 (inv 8192 (r2 k) q)).toNat) (fun q => T (place 8192 (fun p => dig2 (k (inv 8192 (r2 k) p))) q)) 8192 g) (j : S8192.Idx) :
    g j = T (rank 8192 k (j 0).val) := by
  have hj : (j 0).val < 8192 := (j 0).isLt
  have h2 := strict_r2 8192 k
  have := hg (below 8192 (r2 k) (j 0).val) (below_lt h2 hj) j (by
    show _ = (BitVec.ofNat 32 (inv 8192 (r2 k) (below 8192 (r2 k) (j 0).val))).toNat
    rw [inv_below h2 hj, BitVec.toNat_ofNat, Nat.mod_eq_of_lt (by omega)])
  rw [this]
  show T (place 8192 (fun p => dig2 (k (inv 8192 (r2 k) p))) (below 8192 (r2 k) (j 0).val)) = _
  rw [place_inv h2 (fun i => dig2 (k i)) hj, rank_eq k hk hj]

/-! ## The loops -/

variable {F : FTy → Type} [FloatOps F] {α : Type} (cc : Fin τ.nSC) (ss : Fin τ.nSub)

/-- A loop body of a vector subcore. -/
abbrev Body (F : FTy → Type) (cc : Fin τ.nSC) (ss : Fin τ.nSub) (l : Scf.Loop 32) := Fin l.trips → BitVec 32 → TP F cc ss (BitVec 32)

/-- The loop zeroes `16 * n` words. -/
def IsZero (h : MI 2048) (n : ℕ) (l : Scf.Loop 32) (b : Body F cc ss l) : Prop :=
  l.trips = n ∧ ∃ (off : Fin l.trips → Fin 1 → ℕ) (inb : ∀ t a, off t a + S16.size a ≤ S2048.size a),
    (∀ t, off t 0 = 16 * t.val) ∧ ∀ t acc, b t acc = zeroP cc ss h (off t) (inb t) fun _ => .ret 0#32

/-- The loop replaces `16 * n` counts by their exclusive prefix sums. -/
def IsScan (h : MI 2048) (n : ℕ) (l : Scf.Loop 32) (b : Body F cc ss l) : Prop :=
  l.trips = n ∧ ∃ (off : Fin l.trips → Fin 1 → ℕ) (inb : ∀ t a, off t a + S16.size a ≤ S2048.size a),
    (∀ t, off t 0 = 16 * t.val) ∧ ∀ t acc, b t acc = scanP cc ss h (off t) (inb t) acc fun c => .ret c

/-- Two halves of one step per trip. -/
def IsTwo (l : Scf.Loop 32) (b : Body F cc ss l)
    (p : Fin l.trips → Fin 2 → (off : Fin 1 → ℕ) → (∀ a, off a + S16.size a ≤ S8192.size a) → (PUnit → TP F cc ss (BitVec 32)) → TP F cc ss (BitVec 32)) : Prop :=
  l.trips = 256 ∧ ∃ (off : Fin l.trips → Fin 2 → Fin 1 → ℕ) (inb : ∀ t h a, off t h a + S16.size a ≤ S8192.size a),
    (∀ t h, off t h 0 = 32 * t.val + 16 * h.val) ∧ ∀ t acc, b t acc = p t 0 (off t 0) (inb t 0) fun _ => p t 1 (off t 1) (inb t 1) fun _ => .ret 0#32

def IsPrep (ka : MI 8192) (h : MI 2048) (l : Scf.Loop 32) (b : Body F cc ss l) : Prop :=
  ∃ d1 : Fin 2 → ∀ v : IVec S16 32, Decidable (Chk 2048 v),
    IsTwo cc ss l b fun _ x off inb k => prepP cc ss (d1 x) ka h digA off inb k

def IsPass0 (ka : MI 8192) (hin hout : MI 2048) (kout iout : MI 8192) (l : Scf.Loop 32) (b : Body F cc ss l) : Prop :=
  ∃ (d1 : Fin 2 → ∀ v : IVec S16 32, Decidable (Chk 2048 v)) (d11 : Fin 2 → ∀ v : IVec S16 32, Decidable (Chk 2048 v ∧ Chk 2048 v))
    (d22 : Fin 2 → ∀ v : IVec S16 32, Decidable (Chk 8192 v ∧ Chk 8192 v)) (it : Fin l.trips → Fin 2 → IVec S16 32),
    (∀ t h (k : Fin 16), it t h (ln k) = BitVec.ofNat 32 (32 * t.val + 16 * h.val + k.val))
    ∧ IsTwo cc ss l b fun t x off inb k => pass0P cc ss (d1 x) (d11 x) (d22 x) ka hin hout kout iout digA digB (it t x) off inb k

def IsPass1 (ka ia : MI 8192) (hin hout : MI 2048) (kout iout : MI 8192) (l : Scf.Loop 32) (b : Body F cc ss l) : Prop :=
  ∃ (d1 : Fin 2 → ∀ v : IVec S16 32, Decidable (Chk 2048 v)) (d11 : Fin 2 → ∀ v : IVec S16 32, Decidable (Chk 2048 v ∧ Chk 2048 v))
    (d22 : Fin 2 → ∀ v : IVec S16 32, Decidable (Chk 8192 v ∧ Chk 8192 v)),
    IsTwo cc ss l b fun _ x off inb k => pass1P cc ss (d1 x) (d11 x) (d22 x) ka ia hin hout kout iout digB digC off inb k

def IsPass2 (ka ia : MI 8192) (hin : MI 2048) (th out : MF 8192) (l : Scf.Loop 32) (b : Body F cc ss l) : Prop :=
  ∃ (d11 : Fin 2 → ∀ v : IVec S16 32, Decidable (Chk 2048 v ∧ Chk 2048 v)) (d2 dp : Fin 2 → ∀ v : IVec S16 32, Decidable (Chk 8192 v)),
    IsTwo cc ss l b fun _ x off inb k => pass2P cc ss (d11 x) (d2 x) (dp x) ka ia hin th out digC off inb k

section Wp

variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)
variable {Q : α → sProp (MT nD τ sig Ix (Elt F) Name U Lvl)}

local notation "𝕄" => MT nD τ sig Ix (Elt F) Name U Lvl
local notation "WP" => wp (M := MT nD τ sig Ix (Elt F) Name U Lvl) frame (wpE defs 𝒱 (V d cc ss) bd) E
local notation "OW" => ow F Ix Name U Lvl cc ss d
local notation "NUMS" => nums (F := F) (Ix := Ix) (Name := Name) (U := U) (Lvl := Lvl) cc ss d
local notation "FILLED" => filled (F := F) (Ix := Ix) (Name := Name) (U := U) (Lvl := Lvl) cc ss d
local notation "READS" => reads (F := F) (Ix := Ix) (Name := Name) (U := U) (Lvl := Lvl) cc ss d
local notation "PREP" => prepSt (F := F) (Ix := Ix) (Name := Name) (U := U) (Lvl := Lvl) cc ss d
local notation "PASS" => passSt (F := F) (Ix := Ix) (Name := Name) (U := U) (Lvl := Lvl) cc ss d
local notation "LAST" => lastSt (F := F) (Ix := Ix) (Name := Name) (U := U) (Lvl := Lvl) cc ss d

/-- A buffer held outright, whatever it reads. -/
def held {s : Shape} {e : EltTy} (m : Memref sig .scVector .vmem s e) : sProp 𝕄 := iprop(∃ g : Vec F s e, OW m g)

local notation "HELD" => held (F := F) (Ix := Ix) (Name := Name) (U := U) (Lvl := Lvl) cc ss d

/-- The counted loop at the head of a program, its trip count known. -/
theorem wp_counted {l : Scf.Loop 32} {hok : l.OK} {init : BitVec 32} {b : Body F cc ss l} {kk : BitVec 32 → TP F cc ss α} (n : ℕ) (hn : l.trips = n)
    (I : ℕ → BitVec 32 → sProp 𝕄) (hb : ∀ (t : Fin l.trips) acc, I t.val acc ⊢ WP (b t acc) (I (t.val + 1))) :
    I 0 init ⊢ iprop((∀ acc, I n acc -∗ WP (kk acc) Q) -∗ WP (l.for hok init b >>= kk) Q) := by
  subst hn
  exact Scf.wp_for_bind frame (wpE defs 𝒱 (V d cc ss) bd) E l.lb l.ub l.st hok init b I hb

theorem wp_zeroLoop {l : Scf.Loop 32} {hok : l.OK} {init : BitVec 32} {b : Body F cc ss l} {kk : BitVec 32 → TP F cc ss α} {h : MI 2048} {n : ℕ}
    (hz : IsZero cc ss h n l b) :
    HELD h ⊢ iprop((∀ acc, NUMS h (16 * n) (fun _ => 0) -∗ WP (kk acc) Q) -∗ WP (l.for hok init b >>= kk) Q) := by
  obtain ⟨hn, off, inb, ho, hb⟩ := hz
  iintro H
  iapply (wp_counted cc ss 𝒱 d bd E n hn (fun t _ => NUMS h (16 * t) (fun _ => 0)) fun t acc => ?_)
  · rw [hb]
    iintro H
    iapply (wp_zeroP cc ss 𝒱 d bd E _ (ho t)) $$ H
    iintro H
    rw [wp_ret]
    iexact H
  · unfold held nums
    icases H with ⟨%g, H⟩
    iexists g
    isplitr [H]
    · ipureintro; intro j hj; exact absurd hj (by omega)
    · iexact H

theorem wp_scanLoop {l : Scf.Loop 32} {hok : l.OK} {b : Body F cc ss l} {kk : BitVec 32 → TP F cc ss α} {h : MI 2048} {n : ℕ} {D : ℕ → ℕ}
    (hz : IsScan cc ss h n l b) :
    NUMS h (16 * n) (fun b => 0 + hist D 8192 b)
      ⊢ iprop((∀ acc, NUMS h (16 * n) (fun b => start 8192 D b + hist D 0 b) -∗ WP (kk acc) Q) -∗ WP (l.for hok 0#32 b >>= kk) Q) := by
  obtain ⟨hn, off, inb, ho, hb⟩ := hz
  iintro H Hk
  iapply (wp_counted cc ss 𝒱 d bd E (init := 0#32) n hn
    (fun t acc => iprop(⌜acc = BitVec.ofNat 32 (start 8192 D (16 * t))⌝ ∗ NUMS h (16 * n) (fun b => if b < 16 * t then start 8192 D b else hist D 8192 b))) fun t acc => ?_) $$ [H]
  · rw [hb]
    iintro ⟨%e, H⟩
    subst e
    iapply (wp_scanP cc ss 𝒱 d bd E _ (ho t) (by have := t.isLt; omega)) $$ H
    iintro H
    rw [wp_ret]
    isplitr [H]
    · ipureintro; rfl
    · iexact H
  · isplitr [H]
    · ipureintro; rw [show 16 * 0 = 0 from rfl, start_zero]
    · simp only [Nat.mul_zero, Nat.not_lt_zero, if_false, Nat.zero_add]
      iexact H
  · iintro %acc ⟨-, H⟩
    iapply Hk
    unfold nums
    icases H with ⟨%g, %hg, H⟩
    iexists g
    isplitr [H]
    · ipureintro
      refine hg.congr fun b hb => ?_
      beta_reduce
      rw [if_pos hb, show hist D 0 b = 0 from Nat.count_zero _, Nat.add_zero]
    · iexact H

/-- A loop of two halves a trip, from what one half does. -/
theorem wp_twoLoop {l : Scf.Loop 32} {hok : l.OK} {init : BitVec 32} {b : Body F cc ss l} {kk : BitVec 32 → TP F cc ss α}
    {p : Fin l.trips → Fin 2 → (off : Fin 1 → ℕ) → (∀ a, off a + S16.size a ≤ S8192.size a) → (PUnit → TP F cc ss (BitVec 32)) → TP F cc ss (BitVec 32)}
    (hz : IsTwo cc ss l b p) (St : ℕ → sProp 𝕄)
    (hp : ∀ t x off inb k (Q : BitVec 32 → sProp 𝕄), off 0 = 32 * t.val + 16 * x.val →
      St (32 * t.val + 16 * x.val) ⊢ iprop((St (32 * t.val + 16 * x.val + 16) -∗ WP (k ⟨⟩) Q) -∗ WP (p t x off inb k) Q)) :
    St 0 ⊢ iprop((∀ acc, St 8192 -∗ WP (kk acc) Q) -∗ WP (l.for hok init b >>= kk) Q) := by
  obtain ⟨hn, off, inb, ho, hb⟩ := hz
  have h0 : St 0 = St (32 * 0) := by rw [Nat.mul_zero]
  have h1 : St 8192 = St (32 * 256) := congrArg St (by norm_num)
  rw [h0, h1]
  refine wp_counted cc ss 𝒱 d bd E (init := init) (hok := hok) (kk := kk) 256 hn (fun t _ => St (32 * t)) fun t acc => ?_
  rw [hb]
  iintro H
  iapply (hp t 0 _ (inb t 0) _ _ (ho t 0)) $$ H
  iintro H
  iapply (hp t 1 _ (inb t 1) _ _ (ho t 1)) $$ H
  iintro H
  rw [wp_ret]
  iexact H

theorem hist_zero (D : ℕ → ℕ) : (fun b => 0 + hist D 0 b) = fun _ => 0 := by
  funext b; rw [show hist D 0 b = 0 from Nat.count_zero _]

theorem filled_zero {e : EltTy} {m : Memref sig .scVector .vmem S8192 e} (A : ℕ → ℕ) (X : ℕ → Elt F e) : HELD m ⊢ FILLED m A X 0 := by
  unfold held filled
  iintro ⟨%g, H⟩
  iexists g
  isplitr [H]
  · ipureintro; intro q hq; exact absurd hq (by omega)
  · iexact H

theorem held_of_nums {m : MI 2048} {M : ℕ} {x : ℕ → ℕ} : NUMS m M x ⊢ HELD m := by
  unfold held nums
  iintro ⟨%g, -, H⟩
  iexists g; iexact H

theorem held_of_reads {e : EltTy} {m : Memref sig .scVector .vmem S8192 e} {X : ℕ → Elt F e} : READS m X ⊢ HELD m := by
  unfold held reads
  iintro H
  iexists _; iexact H

/-- What a pass leaves is the next order. -/
theorem reads_next {e : EltTy} {m : Memref sig .scVector .vmem S8192 e} {r : ℕ → ℕ → Prop} (h : Strict 8192 r) (dg : ℕ → ℕ) (X : ℕ → Elt F e) :
    FILLED m (place 8192 fun p => dg (inv 8192 r p)) (fun p => X (inv 8192 r p)) 8192 ⊢ READS m fun p => X (inv 8192 (lex dg r) p) := by
  unfold filled reads
  iintro ⟨%g, %hg, H⟩
  rw [show g = fun j => X (inv 8192 (lex dg r) (j 0).val) from funext (filled_next h dg hg)]
  iexact H

/-- The same counts in another order. -/
theorem nums_reorder {m : MI 2048} {M : ℕ} {r s : ℕ → ℕ → Prop} (hr : Strict 8192 r) (hs : Strict 8192 s) (dg : ℕ → ℕ) :
    NUMS m M (fun b => 0 + hist (fun p => dg (inv 8192 r p)) 8192 b) ⊢ NUMS m M (fun b => 0 + hist (fun p => dg (inv 8192 s p)) 8192 b) := by
  rw [show (fun b => 0 + hist (fun p => dg (inv 8192 r p)) 8192 b) = fun b => 0 + hist (fun p => dg (inv 8192 s p)) 8192 b from
    funext fun b => by rw [hist_inv hr, hist_inv hs]]

theorem wp_prepLoop {l : Scf.Loop 32} {hok : l.OK} {init : BitVec 32} {b : Body F cc ss l} {kk : BitVec 32 → TP F cc ss α} {ka : MI 8192} {h : MI 2048}
    (hz : IsPrep cc ss ka h l b) (u : ℕ → BitVec 32) :
    iprop(READS ka u ∗ NUMS h 2048 (fun _ => 0))
      ⊢ iprop((∀ acc, READS ka (fun q => keyWord (u q)) ∗ NUMS h 2048 (fun b => 0 + hist (fun q => dig0 (keyWord (u q)).toNat) 8192 b) -∗ WP (kk acc) Q)
        -∗ WP (l.for hok init b >>= kk) Q) := by
  obtain ⟨d1, hz⟩ := hz
  iintro ⟨HA, HN⟩ Hk
  iapply (wp_twoLoop cc ss 𝒱 d bd E hz (PREP ka h u (fun q => keyWord (u q)) (fun q => dig0 (keyWord (u q)).toNat))
    fun t x off inb k Q ho => wp_prepP cc ss 𝒱 d bd E _ ho (fun v l q hv => keyVec_lane hv) (fun v l q hv => digA_lane hv) (fun q => Nat.mod_lt _ (by decide))) $$ [HA HN]
  · unfold prepSt reads
    rw [hist_zero]
    simp only [Nat.not_lt_zero, if_false]
    isplitl [HA] <;> iassumption
  · iintro %acc H
    iapply Hk
    unfold prepSt reads
    rw [show (fun j : S8192.Idx => if (j 0).val < 8192 then keyWord (u (j 0).val) else u (j 0).val) = fun j => keyWord (u (j 0).val) from
      funext fun j => if_pos (j 0).isLt]
    iexact H

section Row

variable (k : ℕ → BitVec 32)

/-- The keys as numbers. -/
abbrev num (q : ℕ) : ℕ := (k q).toNat

theorem num_lt (q : ℕ) : num k q < 4294967296 := (k q).isLt

theorem pass_start {h0 h1 : MI 2048} {kb ib : MI 8192} {M M' : ℕ} (D D' : ℕ → ℕ) (X Y : ℕ → BitVec 32) :
    iprop((HELD kb ∗ HELD ib) ∗ NUMS h0 M (fun b => start 8192 D b + hist D 0 b) ∗ NUMS h1 M' (fun _ => 0)) ⊢ PASS h0 h1 kb ib M M' D D' X Y 0 := by
  unfold passSt
  rw [hist_zero]
  iintro ⟨⟨HK, HI⟩, H0, H1⟩
  isplitl [H0]; · iexact H0
  isplitl [H1]; · iexact H1
  isplitl [HK]
  · iapply (filled_zero (F := F) (e := .i32) cc ss d (place 8192 D) X) $$ HK
  · iapply (filled_zero (F := F) (e := .i32) cc ss d (place 8192 D) Y) $$ HI

theorem pass_end {h0 h1 : MI 2048} {kb ib : MI 8192} {M M' : ℕ} {r : ℕ → ℕ → Prop} (h : Strict 8192 r) (dg : ℕ → ℕ) (D' : ℕ → ℕ) (X Y : ℕ → BitVec 32) :
    PASS h0 h1 kb ib M M' (fun p => dg (inv 8192 r p)) D' (fun p => X (inv 8192 r p)) (fun p => Y (inv 8192 r p)) 8192
      ⊢ iprop((READS kb (fun p => X (inv 8192 (lex dg r) p)) ∗ READS ib (fun p => Y (inv 8192 (lex dg r) p))) ∗ HELD h0 ∗ NUMS h1 M' (fun b => 0 + hist D' 8192 b)) := by
  unfold passSt
  iintro ⟨H0, H1, HK, HI⟩
  isplitl [HK HI]
  · isplitl [HK]
    · iapply (reads_next (F := F) (e := .i32) cc ss d h dg X) $$ HK
    · iapply (reads_next (F := F) (e := .i32) cc ss d h dg Y) $$ HI
  · isplitl [H0]
    · iapply (held_of_nums cc ss d) $$ H0
    · iexact H1

/-- The first order is the items' own. -/
theorem reads_first {e : EltTy} {m : Memref sig .scVector .vmem S8192 e} (X : ℕ → Elt F e) : READS m X ⊢ READS m fun p => X (inv 8192 (· < ·) p) := by
  unfold reads
  rw [show (fun j : S8192.Idx => X (inv 8192 (· < ·) (j 0).val)) = fun j => X (j 0).val from funext fun j => by rw [inv_id (n := 8192) (j 0).isLt]]

theorem wp_pass0Loop {l : Scf.Loop 32} {hok : l.OK} {init : BitVec 32} {b : Body F cc ss l} {kk : BitVec 32 → TP F cc ss α} {ka kb ib : MI 8192} {h0 h1 : MI 2048}
    (hz : IsPass0 cc ss ka h0 h1 kb ib l b) :
    iprop(READS ka k ∗ (HELD kb ∗ HELD ib) ∗ NUMS h0 2048 (fun b => start 8192 (fun p => dig0 (num k (inv 8192 (· < ·) p))) b + hist (fun p => dig0 (num k (inv 8192 (· < ·) p))) 0 b) ∗ NUMS h1 2048 (fun _ => 0))
      ⊢ iprop((∀ acc, HELD ka ∗ (READS kb (fun p => k (inv 8192 (r1 (num k)) p)) ∗ READS ib (fun p => BitVec.ofNat 32 (inv 8192 (r1 (num k)) p)))
          ∗ HELD h0 ∗ NUMS h1 2048 (fun b => 0 + hist (fun p => dig1 (num k (inv 8192 (· < ·) p))) 8192 b) -∗ WP (kk acc) Q)
        -∗ WP (l.for hok init b >>= kk) Q) := by
  obtain ⟨d1, d11, d22, it, hit, hz⟩ := hz
  iintro ⟨HA, HS⟩ Hk
  ihave HA := (reads_first (F := F) (e := .i32) cc ss d k) $$ HA
  ihave HS := (pass_start cc ss d (fun p => dig0 (num k (inv 8192 (· < ·) p))) (fun p => dig1 (num k (inv 8192 (· < ·) p)))
    (fun p => k (inv 8192 (· < ·) p)) (fun p => BitVec.ofNat 32 (inv 8192 (· < ·) p))) $$ HS
  iapply (wp_twoLoop cc ss 𝒱 d bd E hz (fun m => iprop(READS ka (fun p => k (inv 8192 (· < ·) p)) ∗ PASS h0 h1 kb ib 2048 2048 (fun p => dig0 (num k (inv 8192 (· < ·) p))) (fun p => dig1 (num k (inv 8192 (· < ·) p)))
    (fun p => k (inv 8192 (· < ·) p)) (fun p => BitVec.ofNat 32 (inv 8192 (· < ·) p)) m))
    fun t x off inb kq Q ho => wp_pass0P cc ss 𝒱 d bd E _ ho (fun lane => ?_) (fun v l q hv => digA_lane hv) (fun v l q hv => digB_lane hv) le_rfl le_rfl
      (fun q => Nat.mod_lt _ (by decide)) (fun q => Nat.mod_lt _ (by decide))) $$ [HA HS]
  · rw [hit]
    have := inb 0
    rw [ho] at this
    have hl := lane.isLt
    beta_reduce
    rw [inv_id (by show _ < 8192; change _ + 16 ≤ 8192 at this; omega)]
  · isplitl [HA] <;> iassumption
  · iintro %acc ⟨HA, HS⟩
    iapply Hk
    isplitl [HA]
    · iapply (held_of_reads cc ss d) $$ HA
    · iapply (pass_end cc ss d (strict_lt 8192) (fun q => dig0 (num k q)) _ k (fun q => BitVec.ofNat 32 q)) $$ HS

theorem wp_pass1Loop {l : Scf.Loop 32} {hok : l.OK} {init : BitVec 32} {b : Body F cc ss l} {kk : BitVec 32 → TP F cc ss α} {ka ia kb ib : MI 8192} {h0 h1 : MI 2048}
    (hz : IsPass1 cc ss ka ia h0 h1 kb ib l b) {r : ℕ → ℕ → Prop} (hr : Strict 8192 r) :
    iprop((READS ka (fun p => k (inv 8192 r p)) ∗ READS ia (fun p => BitVec.ofNat 32 (inv 8192 r p))) ∗ (HELD kb ∗ HELD ib)
        ∗ NUMS h0 2048 (fun b => start 8192 (fun p => dig1 (num k (inv 8192 r p))) b + hist (fun p => dig1 (num k (inv 8192 r p))) 0 b) ∗ NUMS h1 1024 (fun _ => 0))
      ⊢ iprop((∀ acc, (HELD ka ∗ HELD ia) ∗ (READS kb (fun p => k (inv 8192 (lex (fun q => dig1 (num k q)) r) p)) ∗ READS ib (fun p => BitVec.ofNat 32 (inv 8192 (lex (fun q => dig1 (num k q)) r) p)))
          ∗ HELD h0 ∗ NUMS h1 1024 (fun b => 0 + hist (fun p => dig2 (num k (inv 8192 r p))) 8192 b) -∗ WP (kk acc) Q)
        -∗ WP (l.for hok init b >>= kk) Q) := by
  obtain ⟨d1, d11, d22, hz⟩ := hz
  iintro ⟨HA, HS⟩ Hk
  ihave HS := (pass_start cc ss d (fun p => dig1 (num k (inv 8192 r p))) (fun p => dig2 (num k (inv 8192 r p)))
    (fun p => k (inv 8192 r p)) (fun p => BitVec.ofNat 32 (inv 8192 r p))) $$ HS
  iapply (wp_twoLoop cc ss 𝒱 d bd E hz (fun m => iprop((READS ka (fun p => k (inv 8192 r p)) ∗ READS ia (fun p => BitVec.ofNat 32 (inv 8192 r p)))
      ∗ PASS h0 h1 kb ib 2048 1024 (fun p => dig1 (num k (inv 8192 r p))) (fun p => dig2 (num k (inv 8192 r p)))
    (fun p => k (inv 8192 r p)) (fun p => BitVec.ofNat 32 (inv 8192 r p)) m))
    fun t x off inb kq Q ho => wp_pass1P cc ss 𝒱 d bd E _ ho (fun v l q hv => digB_lane hv) (fun v l q hv => digC_lane hv) le_rfl (by decide)
      (fun q => Nat.mod_lt _ (by decide)) (fun q => Nat.mod_lt _ (by decide))) $$ [HA HS]
  · isplitl [HA] <;> iassumption
  · iintro %acc ⟨⟨HA, HI⟩, HS⟩
    iapply Hk
    isplitl [HA HI]
    · isplitl [HA]
      · iapply (held_of_reads cc ss d) $$ HA
      · iapply (held_of_reads cc ss d) $$ HI
    · iapply (pass_end cc ss d hr (fun q => dig1 (num k q)) _ k (fun q => BitVec.ofNat 32 q)) $$ HS

theorem wp_pass2Loop {l : Scf.Loop 32} {hok : l.OK} {init : BitVec 32} {b : Body F cc ss l} {kk : BitVec 32 → TP F cc ss α} {ka ia : MI 8192} {h0 : MI 2048} {th out : MF 8192}
    (hz : IsPass2 cc ss ka ia h0 th out l b) (T : ℕ → Elt F .f32) :
    iprop((READS ka (fun p => k (inv 8192 (r2 (num k)) p)) ∗ READS ia (fun p => BitVec.ofNat 32 (inv 8192 (r2 (num k)) p)) ∗ READS th T)
        ∗ NUMS h0 1024 (fun b => start 8192 (fun p => dig2 (num k (inv 8192 (r2 (num k)) p))) b + hist (fun p => dig2 (num k (inv 8192 (r2 (num k)) p))) 0 b) ∗ HELD out)
      ⊢ iprop((∀ acc, (HELD ka ∗ HELD ia ∗ READS th T) ∗ HELD h0 ∗ READS out (fun q => T (rank 8192 (num k) q)) -∗ WP (kk acc) Q)
        -∗ WP (l.for hok init b >>= kk) Q) := by
  obtain ⟨d11, d2, dp, hz⟩ := hz
  have h2 := strict_r2 8192 (num k)
  have hY : ∀ q, q < 8192 → (BitVec.ofNat 32 (inv 8192 (r2 (num k)) q)).toNat = inv 8192 (r2 (num k)) q := fun q hq => by
    have := (inv_spec h2 hq).1
    rw [BitVec.toNat_ofNat, Nat.mod_eq_of_lt (by omega)]
  iintro ⟨HA, HN, HO⟩ Hk
  ihave HO := (filled_zero (F := F) (e := .f32) cc ss d (fun q => (BitVec.ofNat 32 (inv 8192 (r2 (num k)) q)).toNat)
    (fun q => T (place 8192 (fun p => dig2 (num k (inv 8192 (r2 (num k)) p))) q))) $$ HO
  iapply (wp_twoLoop cc ss 𝒱 d bd E hz (LAST ka ia h0 th out 1024 (fun p => dig2 (num k (inv 8192 (r2 (num k)) p))) (fun p => k (inv 8192 (r2 (num k)) p))
      (fun p => BitVec.ofNat 32 (inv 8192 (r2 (num k)) p)) T)
    fun t x off inb kq Q ho => wp_pass2P cc ss 𝒱 d bd E _ ho (fun v l q hv => digC_lane hv) (by decide) (fun q => Nat.mod_lt _ (by decide))
      (fun q hq => by rw [hY q hq]; exact (inv_spec h2 hq).1) (fun p q hp hq e => inv_inj h2 hp hq (by rw [hY p hp, hY q hq] at e; exact e))) $$ [HA HN HO]
  · unfold lastSt
    isplitl [HA]; · iexact HA
    isplitl [HN] <;> iassumption
  · iintro %acc H
    unfold lastSt
    icases H with ⟨⟨HA, HI, HT⟩, HN, HO⟩
    iapply Hk
    isplitl [HA HI HT]
    · isplitl [HA]
      · iapply (held_of_reads cc ss d) $$ HA
      isplitl [HI]
      · iapply (held_of_reads cc ss d) $$ HI
      · iexact HT
    isplitl [HN]
    · iapply (held_of_nums cc ss d) $$ HN
    · unfold filled reads
      icases HO with ⟨%g, %hg, HO⟩
      rw [show g = fun j => T (rank 8192 (num k) (j 0).val) from funext (filled_ranked (num k) (num_lt k) hg)]
      iexact HO

end Row

/-- The ten loops of one row. -/
theorem wp_row {l1 l2 l3 l4 l5 l6 l7 l8 l9 l10 : Scf.Loop 32} {o1 : l1.OK} {o2 : l2.OK} {o3 : l3.OK} {o4 : l4.OK} {o5 : l5.OK} {o6 : l6.OK} {o7 : l7.OK} {o8 : l8.OK} {o9 : l9.OK} {o10 : l10.OK}
    {i1 i2 i3 i5 i6 i8 i10 : BitVec 32} {b1 : Body F cc ss l1} {b2 : Body F cc ss l2} {b3 : Body F cc ss l3} {b4 : Body F cc ss l4} {b5 : Body F cc ss l5}
    {b6 : Body F cc ss l6} {b7 : Body F cc ss l7} {b8 : Body F cc ss l8} {b9 : Body F cc ss l9} {b10 : Body F cc ss l10} {kk : TP F cc ss α}
    {ka ia kb ib : MI 8192} {h0 h1 : MI 2048} {th out : MF 8192}
    (z1 : IsZero cc ss h0 128 l1 b1) (z2 : IsPrep cc ss ka h0 l2 b2) (z3 : IsZero cc ss h1 128 l3 b3) (z4 : IsScan cc ss h0 128 l4 b4)
    (z5 : IsPass0 cc ss ka h0 h1 kb ib l5 b5) (z6 : IsZero cc ss h0 64 l6 b6) (z7 : IsScan cc ss h1 128 l7 b7) (z8 : IsPass1 cc ss kb ib h1 h0 ka ia l8 b8)
    (z9 : IsScan cc ss h0 64 l9 b9) (z10 : IsPass2 cc ss ka ia h0 th out l10 b10) (u : ℕ → BitVec 32) (T : ℕ → Elt F .f32) :
    iprop(READS ka u ∗ HELD ia ∗ HELD kb ∗ HELD ib ∗ READS th T ∗ HELD out ∗ HELD h0 ∗ HELD h1)
      ⊢ iprop((HELD ka ∗ HELD ia ∗ HELD kb ∗ HELD ib ∗ READS th T ∗ READS out (fun q => T (rank 8192 (num fun q => keyWord (u q)) q)) ∗ HELD h0 ∗ HELD h1 -∗ WP kk Q)
        -∗ WP (l1.for o1 i1 b1 >>= fun _ => l2.for o2 i2 b2 >>= fun _ => l3.for o3 i3 b3 >>= fun _ => l4.for o4 0#32 b4 >>= fun _ => l5.for o5 i5 b5 >>= fun _ =>
          l6.for o6 i6 b6 >>= fun _ => l7.for o7 0#32 b7 >>= fun _ => l8.for o8 i8 b8 >>= fun _ => l9.for o9 0#32 b9 >>= fun _ => l10.for o10 i10 b10 >>= fun _ => kk) Q) := by
  have hs0 := strict_lt 8192
  have hs1 := strict_r1 8192 (num fun q => keyWord (u q))
  have hs2 := strict_r2 8192 (num fun q => keyWord (u q))
  iintro ⟨HA, HIA, HB, HIB, HT, HO, H0, H1⟩ Hk
  iapply (wp_zeroLoop cc ss 𝒱 d bd E z1) $$ H0
  iintro %a1 H0
  iapply (wp_prepLoop cc ss 𝒱 d bd E z2 u) $$ [HA H0]
  · isplitl [HA] <;> iassumption
  iintro %a2 ⟨HA, H0⟩
  iapply (wp_zeroLoop cc ss 𝒱 d bd E z3) $$ H1
  iintro %a3 H1
  iapply (wp_scanLoop cc ss 𝒱 d bd E (D := fun p => dig0 (num (fun q => keyWord (u q)) (inv 8192 (· < ·) p))) z4) $$ [H0]
  · rw [show (fun b => 0 + hist (fun p => dig0 (num (fun q => keyWord (u q)) (inv 8192 (· < ·) p))) 8192 b)
        = fun b => 0 + hist (fun q => dig0 (keyWord (u q)).toNat) 8192 b from funext fun b => by rw [hist_inv hs0 (fun q => dig0 (num (fun q => keyWord (u q)) q))]]
    iexact H0
  iintro %a4 H0
  iapply (wp_pass0Loop cc ss 𝒱 d bd E (fun q => keyWord (u q)) z5) $$ [HA HB HIB H0 H1]
  · isplitl [HA]; · iexact HA
    isplitl [HB HIB]
    · isplitl [HB] <;> iassumption
    isplitl [H0] <;> iassumption
  iintro %a5 ⟨HA, ⟨HB, HIB⟩, H0, H1⟩
  iapply (wp_zeroLoop cc ss 𝒱 d bd E z6) $$ H0
  iintro %a6 H0
  ihave H1 := (nums_reorder cc ss d hs0 hs1 (fun q => dig1 (num (fun q => keyWord (u q)) q))) $$ H1
  iapply (wp_scanLoop cc ss 𝒱 d bd E z7) $$ H1
  iintro %a7 H1
  iapply (wp_pass1Loop cc ss 𝒱 d bd E (fun q => keyWord (u q)) z8 hs1) $$ [HB HIB HA HIA H0 H1]
  · isplitl [HB HIB]
    · isplitl [HB] <;> iassumption
    isplitl [HA HIA]
    · isplitl [HA] <;> iassumption
    isplitl [H1] <;> iassumption
  iintro %a8 ⟨⟨HB, HIB⟩, ⟨HA, HIA⟩, H1, H0⟩
  ihave H0 := (nums_reorder cc ss d hs1 hs2 (fun q => dig2 (num (fun q => keyWord (u q)) q))) $$ H0
  iapply (wp_scanLoop cc ss 𝒱 d bd E z9) $$ H0
  iintro %a9 H0
  iapply (wp_pass2Loop cc ss 𝒱 d bd E (fun q => keyWord (u q)) z10 T) $$ [HA HIA HT H0 HO]
  · isplitl [HA HIA HT]
    · isplitl [HA]; · iexact HA
      isplitl [HIA] <;> iassumption
    isplitl [H0] <;> iassumption
  iintro %a10 ⟨⟨HA, HIA, HT⟩, H0, HO⟩
  iapply Hk
  isplitl [HA]; · iexact HA
  isplitl [HIA]; · iexact HIA
  isplitl [HB]; · iexact HB
  isplitl [HIB]; · iexact HIB
  isplitl [HT]; · iexact HT
  isplitl [HO]; · iexact HO
  isplitl [H0] <;> iassumption

end Wp

end Cert.Proof.Loops

end
-- ==== Proof.Copies.lean ====
/-
  A copy started and waited for on one semaphore, into a held memref and out of one.
-/
module

public import proofs.«01_k».proof.Proof.Rules
public import Idealize.ShloMosaic.Lib.Transfers

@[expose] public section

noncomputable section

namespace Cert.Proof.Copies

open Idealize.ShloMosaic Idealize.ShloMosaic.Transfers Cert.Proof.Own
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix]
variable {F : FTy → Type} [FloatOps F] {Name : Type} [DecidableEq Name] [Infinite Name]
variable {U : Type} [URA U] [CountersIn U] {Lvl : Type} [Preorder Lvl] {Λ : Labels}
variable {defs : Defs nD τ sig (Elt F) Λ} (𝒱 : Variants) (c : Thread nD τ) (bd : Option 𝒱.V)
variable {s : Shape} {e : EltTy} {α : Type}

local notation "𝕄" => MT nD τ sig Ix (Elt F) Name U Lvl

variable {Q : α → sProp (MT nD τ sig Ix (Elt F) Name U Lvl)} {O : CellTallies nD τ sig Ix} {W : Waits sig Ix} {k : PUnit → Prog (TpuEff nD τ sig (Elt F) Λ c.2) α}

/-- A source's elements copied into a memref held outright: it reads what the source reads. -/
theorem wp_in {sp : Space} {src : Memref sig c.2.kind sp s e} {dst : Memref sig c.2.kind .vmem s e} {sem : DmaSem sig}
    {hs : src.view.WordExact} {hd : dst.view.WordExact} {ht : DmaTarget.Typed (nD := nD) sp (.dma sem) (.here dst)}
    {hs' : src.view.WordExact} {hd' : dst.view.WordExact}
    (hn : 0 < s.numel) (ι : Ix) {q : PosShare TreeShare} {f : Buf (Elt F) (src.view.loc c)} {g : s.Idx → Elt F e} :
    iprop((src.view.loc c ↦[src.view.set]{q} f) ∗ own c dst g ∗ semVal (c, .dma sem) 0 ∗ owes c O W ∗ MayWait c (.dma sem) ι O)
      ⊢ iprop(((src.view.loc c ↦[src.view.set]{q} f) ∗ own c dst (src.view.read (Elt F) f) ∗ semVal (c, .dma sem) 0
            ∗ owes c O (insert (SemLoc.dma sem, ι) W) -∗ wp (M := 𝕄) frame (wpE defs 𝒱 c bd) Set.univ (k ⟨⟩) Q)
          -∗ wp frame (wpE defs 𝒱 c bd) Set.univ
              (.op (.enqueueDma src (.here dst) (.dma sem) hs hd ht) fun _ => .op (.waitDma2 sem src dst hs' hd') k) Q) := by
  unfold Own.own
  iintro ⟨Hs, ⟨%fd, -, Hd⟩, Hv, HO, Hmw⟩ Hk
  iapply (wp_dmaLocal countersEmb 𝒱 c bd ι _ rfl (View.amount_pos _ _ hn) (Finset.Subset.refl _)) $$ [Hs Hd Hv]
  · isplitl [Hs]; · iexact Hs
    isplitl [Hd] <;> iassumption
  iintro Hf
  iapply (wp_waitLocalO countersEmb 𝒱 c bd ι rfl) $$ [Hf HO Hmw]
  · isplitl [Hf]; · iexact Hf
    isplitl [HO] <;> iassumption
  iintro ⟨⟨Hd, Hs⟩, Hv, HO⟩
  iapply Hk
  isplitl [Hs]; · iexact Hs
  isplitl [Hd]
  · iexists (dst.view.write (Elt F) fd (src.view.read (Elt F) f) Finset.univ)
    isplitr [Hd]
    · ipureintro
      exact View.read_write_univ (v := dst.view) (Val := Elt F) _ _
    · iexact Hd
  isplitl [Hv] <;> iassumption

/-- A memref held outright copied over a destination's elements. -/
theorem wp_out {sp : Space} {src : Memref sig c.2.kind .vmem s e} {dst : Memref sig c.2.kind sp s e} {sem : DmaSem sig}
    {hs : src.view.WordExact} {hd : dst.view.WordExact} {ht : DmaTarget.Typed (nD := nD) .vmem (.dma sem) (.here dst)}
    {hs' : src.view.WordExact} {hd' : dst.view.WordExact}
    (hn : 0 < s.numel) (ι : Ix) {f : Buf (Elt F) (dst.view.loc c)} {g : s.Idx → Elt F e} :
    iprop(own c src g ∗ (dst.view.loc c ↦[dst.view.set]{fullShare} f) ∗ semVal (c, .dma sem) 0 ∗ owes c O W ∗ MayWait c (.dma sem) ι O)
      ⊢ iprop((own c src g ∗ (dst.view.loc c ↦[dst.view.set]{fullShare} dst.view.write (Elt F) f g Finset.univ) ∗ semVal (c, .dma sem) 0
            ∗ owes c O (insert (SemLoc.dma sem, ι) W) -∗ wp (M := 𝕄) frame (wpE defs 𝒱 c bd) Set.univ (k ⟨⟩) Q)
          -∗ wp frame (wpE defs 𝒱 c bd) Set.univ
              (.op (.enqueueDma src (.here dst) (.dma sem) hs hd ht) fun _ => .op (.waitDma2 sem src dst hs' hd') k) Q) := by
  unfold Own.own
  iintro ⟨⟨%fs, %hg, Hs⟩, Hd, Hv, HO, Hmw⟩ Hk
  iapply (wp_dmaLocal countersEmb 𝒱 c bd ι _ rfl (View.amount_pos _ _ hn) (Finset.Subset.refl _)) $$ [Hs Hd Hv]
  · isplitl [Hs]; · iexact Hs
    isplitl [Hd] <;> iassumption
  iintro Hf
  iapply (wp_waitLocalO countersEmb 𝒱 c bd ι rfl) $$ [Hf HO Hmw]
  · isplitl [Hf]; · iexact Hf
    isplitl [HO] <;> iassumption
  iintro ⟨⟨Hd, Hs⟩, Hv, HO⟩
  iapply Hk
  isplitl [Hs]
  · iexists fs
    isplitr [Hs]
    · ipureintro; exact hg
    · iexact Hs
  isplitl [Hd]
  · rw [← hg]; iexact Hd
  isplitl [Hv] <;> iassumption

end Cert.Proof.Copies
-- ==== Proof.Trip.lean ====
/-
  One row on a tile: fetched, sorted by the ten loops, written out.
-/
module

public import proofs.«01_k».proof.Proof.Loops
public import proofs.«01_k».proof.Proof.Copies

@[expose] public section

noncomputable section

namespace Cert.Proof.Trip

open Cert.KernelIdeal Cert.KernelIdeal.Gen
open Idealize.ShloMosaic Cert.Proof.Radix Cert.Proof.Own Cert.Proof.Halves Cert.Proof.Loops Cert.Proof.Copies
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F] {α : Type} (cc : Fin τ.nSC) (ss : Fin τ.nSub)
variable {Ix : Type} [DecidableEq Ix] {Name : Type} [DecidableEq Name] [Infinite Name] {U : Type} [URA U] [CountersIn U] {Lvl : Type} [Preorder Lvl]
variable {defs : Defs nD τ sig (Elt F) Λ₀} (𝒱 : Variants) (d : Dev nD) (bd : Option 𝒱.V)
variable {Q : α → sProp (MT nD τ sig Ix (Elt F) Name U Lvl)} {O : CellTallies nD τ sig Ix} {W : Waits sig Ix}

local notation "WP" => wp (M := MT nD τ sig Ix (Elt F) Name U Lvl) frame (wpE defs 𝒱 (V d cc ss) bd) Set.univ
local notation "READS" => reads (F := F) (Ix := Ix) (Name := Name) (U := U) (Lvl := Lvl) cc ss d
local notation "HELD" => held (F := F) (Ix := Ix) (Name := Name) (U := U) (Lvl := Lvl) cc ss d

/-- One row's fetch, loops and write-out. -/
theorem wp_trip {l1 l2 l3 l4 l5 l6 l7 l8 l9 l10 : Scf.Loop 32} {o1 : l1.OK} {o2 : l2.OK} {o3 : l3.OK} {o4 : l4.OK} {o5 : l5.OK} {o6 : l6.OK} {o7 : l7.OK} {o8 : l8.OK} {o9 : l9.OK} {o10 : l10.OK}
    {i1 i2 i3 i5 i6 i8 i10 : BitVec 32} {b1 : Body F cc ss l1} {b2 : Body F cc ss l2} {b3 : Body F cc ss l3} {b4 : Body F cc ss l4} {b5 : Body F cc ss l5}
    {b6 : Body F cc ss l6} {b7 : Body F cc ss l7} {b8 : Body F cc ss l8} {b9 : Body F cc ss l9} {b10 : Body F cc ss l10} {kk : PUnit → TP F cc ss α}
    {ka ia kb ib : MI 8192} {h0 h1 : MI 2048} {th out : MF 8192}
    (z1 : IsZero cc ss h0 128 l1 b1) (z2 : IsPrep cc ss ka h0 l2 b2) (z3 : IsZero cc ss h1 128 l3 b3) (z4 : IsScan cc ss h0 128 l4 b4)
    (z5 : IsPass0 cc ss ka h0 h1 kb ib l5 b5) (z6 : IsZero cc ss h0 64 l6 b6) (z7 : IsScan cc ss h1 128 l7 b7) (z8 : IsPass1 cc ss kb ib h1 h0 ka ia l8 b8)
    (z9 : IsScan cc ss h0 64 l9 b9) (z10 : IsPass2 cc ss ka ia h0 th out l10 b10)
    {src : Memref sig .scVector .hbm S8192 .i32} {dst : Memref sig .scVector .hbm S8192 .f32} {s1 s2 : DmaSem sig}
    {a1 : src.view.WordExact} {a2 : ka.view.WordExact} {a3 : DmaTarget.Typed (nD := nD) (p := .scVector cc ss) .hbm (.dma s1) (.here ka)} {a4 : src.view.WordExact} {a5 : ka.view.WordExact}
    {e1 : out.view.WordExact} {e2 : dst.view.WordExact} {e3 : DmaTarget.Typed (nD := nD) (p := .scVector cc ss) .vmem (.dma s2) (.here dst)} {e4 : out.view.WordExact} {e5 : dst.view.WordExact}
    (ι : Ix) {q : PosShare TreeShare} {f : Buf (Elt F) (src.view.loc (V d cc ss))} {g : Buf (Elt F) (dst.view.loc (V d cc ss))} (u : ℕ → BitVec 32) (T : ℕ → Elt F .f32)
    (hu : src.view.read (Elt F) f = fun j => u (j 0).val) :
    iprop((HELD ka ∗ HELD ia ∗ HELD kb ∗ HELD ib ∗ READS th T ∗ HELD out ∗ HELD h0 ∗ HELD h1)
        ∗ (src.view.loc (V d cc ss) ↦[src.view.set]{q} f) ∗ (dst.view.loc (V d cc ss) ↦[dst.view.set]{fullShare} g)
        ∗ (semVal (V d cc ss, .dma s1) 0 ∗ semVal (V d cc ss, .dma s2) 0)
        ∗ (MayWait (V d cc ss) (.dma s1) ι O ∗ MayWait (V d cc ss) (.dma s2) ι O) ∗ owes (V d cc ss) O W)
      ⊢ iprop(((HELD ka ∗ HELD ia ∗ HELD kb ∗ HELD ib ∗ READS th T ∗ HELD out ∗ HELD h0 ∗ HELD h1)
            ∗ (src.view.loc (V d cc ss) ↦[src.view.set]{q} f)
            ∗ (dst.view.loc (V d cc ss) ↦[dst.view.set]{fullShare} dst.view.write (Elt F) g (fun j => T (rank 8192 (num fun q => keyWord (u q)) (j 0).val)) Finset.univ)
            ∗ (semVal (V d cc ss, .dma s1) 0 ∗ semVal (V d cc ss, .dma s2) 0)
            ∗ owes (V d cc ss) O (insert (SemLoc.dma s2, ι) (insert (SemLoc.dma s1, ι) W)) -∗ WP (kk ⟨⟩) Q)
        -∗ WP (.op (.enqueueDma src (.here ka) (.dma s1) a1 a2 a3) fun _ => .op (.waitDma2 s1 src ka a4 a5) fun _ =>
          l1.for o1 i1 b1 >>= fun _ => l2.for o2 i2 b2 >>= fun _ => l3.for o3 i3 b3 >>= fun _ => l4.for o4 0#32 b4 >>= fun _ => l5.for o5 i5 b5 >>= fun _ =>
          l6.for o6 i6 b6 >>= fun _ => l7.for o7 0#32 b7 >>= fun _ => l8.for o8 i8 b8 >>= fun _ => l9.for o9 0#32 b9 >>= fun _ => l10.for o10 i10 b10 >>= fun _ =>
          .op (.enqueueDma out (.here dst) (.dma s2) e1 e2 e3) fun _ => .op (.waitDma2 s2 out dst e4 e5) kk) Q) := by
  have hn : 0 < S8192.numel := by decide
  iintro ⟨⟨HA, HIA, HB, HIB, HT, HO, H0, H1⟩, Hs, Hd, ⟨Hv1, Hv2⟩, ⟨Hm1, Hm2⟩, Ho⟩ Hk
  unfold held
  icases HA with ⟨%ga, HA⟩
  iapply (wp_in 𝒱 (V d cc ss) bd hn ι) $$ [Hs HA Hv1 Ho Hm1]
  · isplitl [Hs]; · iexact Hs
    isplitl [HA]; · iexact HA
    isplitl [Hv1]; · iexact Hv1
    isplitl [Ho] <;> iassumption
  iintro ⟨Hs, HA, Hv1, Ho⟩
  rw [hu]
  iapply (wp_row cc ss 𝒱 d bd Set.univ z1 z2 z3 z4 z5 z6 z7 z8 z9 z10 u T) $$ [HA HIA HB HIB HT HO H0 H1]
  · unfold held
    isplitl [HA]; · unfold reads; iexact HA
    isplitl [HIA]; · iexact HIA
    isplitl [HB]; · iexact HB
    isplitl [HIB]; · iexact HIB
    isplitl [HT]; · iexact HT
    isplitl [HO]; · iexact HO
    isplitl [H0] <;> iassumption
  iintro ⟨HA, HIA, HB, HIB, HT, HO, H0, H1⟩
  ihave HO := (show READS out _ ⊢ ow F Ix Name U Lvl cc ss d out (fun j => T (rank 8192 (num fun q => keyWord (u q)) (j 0).val)) from Entails.of_eq (by unfold reads; with_reducible rfl)) $$ HO
  iapply (wp_out 𝒱 (V d cc ss) bd hn ι) $$ [Hd HO Hv2 Ho Hm2]
  · isplitl [HO]; · iexact HO
    isplitl [Hd]; · iexact Hd
    isplitl [Hv2]; · iexact Hv2
    isplitl [Ho] <;> iassumption
  iintro ⟨HO, Hd, Hv2, Ho⟩
  iapply Hk
  isplitl [HA HIA HB HIB HT HO H0 H1]
  · unfold held
    isplitl [HA]; · iexact HA
    isplitl [HIA]; · iexact HIA
    isplitl [HB]; · iexact HB
    isplitl [HIB]; · iexact HIB
    isplitl [HT]; · iexact HT
    isplitl [HO]; · iexists _; iexact HO
    isplitl [H0] <;> iassumption
  isplitl [Hs]; · iexact Hs
  isplitl [Hd]; · iexact Hd
  isplitl [Hv1 Hv2]
  · isplitl [Hv1] <;> iassumption
  · iexact Ho

end Cert.Proof.Trip
-- ==== Proof.Bodies.lean ====
/-
  Each printed loop body is one of the steps of `Loops`, at its offsets.
-/
module

public import proofs.«01_k».proof.Proof.Loops
public import proofs.«01_k».proof.Proof.Gen.KernelIdeal.Skeleton

@[expose] public section

noncomputable section

namespace Cert.Proof.Bodies

open Cert.KernelIdeal Cert.KernelIdeal.Gen
open Idealize.ShloMosaic Cert.Proof.Halves Cert.Proof.Loops
open Cert.Proof.Lanes hiding S16
open Idealize.ShloMosaic.SparseCore (V)

/-- The SparseCore of a coordinate. -/
abbrev cV (L : grid0.Coords) : Fin τ.nSC := (L 0).castLE hcore0
/-- The tile of a coordinate. -/
abbrev jV (L : grid0.Coords) : Fin τ.nSub := (L 1).castLE hsub0

/-- The lanes' numbers. -/
abbrev lanes : IVec S16 32 := iota .scVector S16 32 [0] iota_S16_d0_w32_scVector

/-- The numbers of the 16 items of half `h` of trip `t`. -/
def items {n : ℕ} (t : Fin n) (h : Fin 2) : IVec S16 32 :=
  addi (broadcast S16 (Scalar.muli (Scalar.addi (Scalar.muli 2#32 (Scf.iv 0#32 1#32 t)) (BitVec.ofNat 32 h.val)) 16#32)) lanes

theorem items_lane {n : ℕ} (t : Fin n) (h : Fin 2) (k : Fin 16) : items t h (ln k) = BitVec.ofNat 32 (32 * t.val + 16 * h.val + k.val) := by
  show (2#32 * (0#32 + BitVec.ofNat 32 t.val * 1#32) + BitVec.ofNat 32 h.val) * 16#32 + BitVec.ofNat 32 (0 * 16 + k.val) = _
  apply BitVec.eq_of_toNat_eq
  simp only [BitVec.toNat_add, BitVec.toNat_mul, BitVec.toNat_ofNat]
  omega

variable {F : FTy → Type} [FloatOps F]
variable (i : grid0.Coords) (arg2 : Memref sig .scVector .hbm S524288 .i32) (harg2 : arg2.IsWhole) (arg3 : Memref sig .scVector .hbm S131072 .f32) (harg3 : arg3.IsWhole) (arg4 : Memref sig .scVector .hbm S524288 .f32) (harg4 : arg4.IsWhole) (arg5 : Memref sig .scVector .vmem S8192 .i32) (harg5 : arg5.IsWhole) (arg6 : Memref sig .scVector .vmem S8192 .i32) (harg6 : arg6.IsWhole) (arg7 : Memref sig .scVector .vmem S8192 .i32) (harg7 : arg7.IsWhole) (arg8 : Memref sig .scVector .vmem S8192 .i32) (harg8 : arg8.IsWhole) (arg9 : Memref sig .scVector .vmem S8192 .f32) (harg9 : arg9.IsWhole) (arg10 : Memref sig .scVector .vmem S8192 .f32) (harg10 : arg10.IsWhole) (arg11 : Memref sig .scVector .vmem S2048 .i32) (harg11 : arg11.IsWhole) (arg12 : Memref sig .scVector .vmem S2048 .i32) (harg12 : arg12.IsWhole) (v61_r0 : DmaSems sig S_) (v61_r1 : DmaSems sig S_) (v61_r2 : DmaSems sig S_) (v61_r3 : DmaSems sig S_) (v61_r4 : DmaSems sig S_)
variable (v1 : BitVec 32) (v13 v14 : IVec S16 32) (v15 c14 c15 : BitVec 32)

theorem t1_is : IsZero (cV i) (jV i) arg11 128 k0_t1_loop
    (k0_t1_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4) :=
  ⟨rfl, fun t => k0_off3 t, fun t => k0_off3_inb t, fun t => by beta_reduce; rw [k0_off3_eq]; rfl, fun _ _ => rfl⟩

theorem t3_is : IsZero (cV i) (jV i) arg12 128 k0_t3_loop
    (k0_t3_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 k0_pay85 v15 c14 c15) :=
  ⟨rfl, fun t => k0_off6 t, fun t => k0_off6_inb t, fun t => by beta_reduce; rw [k0_off6_eq]; rfl, fun _ _ => rfl⟩

theorem t6_is : IsZero (cV i) (jV i) arg11 64 k0_t6_loop
    (k0_t6_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 k0_pay85 v15 c14 c15) :=
  ⟨rfl, fun t => k0_off10 t, fun t => k0_off10_inb t, fun t => by beta_reduce; rw [k0_off10_eq]; rfl, fun _ _ => rfl⟩

theorem t11_is : IsZero (cV i) (jV i) arg11 128 k0_t11_loop
    (k0_t11_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v1 v13 k0_pay85) :=
  ⟨rfl, fun t => k0_off17 t, fun t => k0_off17_inb t, fun t => by beta_reduce; rw [k0_off17_eq]; rfl, fun _ _ => rfl⟩

theorem t13_is : IsZero (cV i) (jV i) arg12 128 k0_t13_loop
    (k0_t13_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v1 v13 k0_pay85) :=
  ⟨rfl, fun t => k0_off20 t, fun t => k0_off20_inb t, fun t => by beta_reduce; rw [k0_off20_eq]; rfl, fun _ _ => rfl⟩

theorem t16_is : IsZero (cV i) (jV i) arg11 64 k0_t16_loop
    (k0_t16_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v1 v13 k0_pay85) :=
  ⟨rfl, fun t => k0_off24 t, fun t => k0_off24_inb t, fun t => by beta_reduce; rw [k0_off24_eq]; rfl, fun _ _ => rfl⟩

theorem t4_is : IsScan (cV i) (jV i) arg11 128 k0_t4_loop
    (k0_t4_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 v14 v15 c14 c15) :=
  ⟨rfl, fun t => k0_off7 t, fun t => k0_off7_inb t, fun t => by beta_reduce; rw [k0_off7_eq]; rfl, fun _ _ => rfl⟩

theorem t7_is : IsScan (cV i) (jV i) arg12 128 k0_t7_loop
    (k0_t7_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 v14 v15 c14 c15) :=
  ⟨rfl, fun t => k0_off11 t, fun t => k0_off11_inb t, fun t => by beta_reduce; rw [k0_off11_eq]; rfl, fun _ _ => rfl⟩

theorem t9_is : IsScan (cV i) (jV i) arg11 64 k0_t9_loop
    (k0_t9_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 v14 v15 c14 c15) :=
  ⟨rfl, fun t => k0_off14 t, fun t => k0_off14_inb t, fun t => by beta_reduce; rw [k0_off14_eq]; rfl, fun _ _ => rfl⟩

theorem t14_is : IsScan (cV i) (jV i) arg11 128 k0_t14_loop
    (k0_t14_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v1 v13 v14) :=
  ⟨rfl, fun t => k0_off21 t, fun t => k0_off21_inb t, fun t => by beta_reduce; rw [k0_off21_eq]; rfl, fun _ _ => rfl⟩

theorem t17_is : IsScan (cV i) (jV i) arg12 128 k0_t17_loop
    (k0_t17_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4) :=
  ⟨rfl, fun t => k0_off25 t, fun t => k0_off25_inb t, fun t => by beta_reduce; rw [k0_off25_eq]; rfl, fun _ _ => rfl⟩

theorem t19_is : IsScan (cV i) (jV i) arg11 64 k0_t19_loop
    (k0_t19_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4) :=
  ⟨rfl, fun t => k0_off28 t, fun t => k0_off28_inb t, fun t => by beta_reduce; rw [k0_off28_eq]; rfl, fun _ _ => rfl⟩

theorem t2_is : IsPrep (cV i) (jV i) arg5 arg11 k0_t2_loop
    (k0_t2_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4) :=
  ⟨![fun v => k0_chk1.dec v, fun v => k0_chk2.dec v], rfl, fun t => ![k0_off4 t, k0_off5 t], fun t => Fin.cases (k0_off4_inb t) fun h => Fin.cases (k0_off5_inb t) (fun h => h.elim0) h,
    fun t => Fin.cases (by show k0_off4 t 0 = _; rw [k0_off4_eq]; rfl) fun h => Fin.cases (by show k0_off5 t 0 = _; rw [k0_off5_eq]; rfl) (fun h => h.elim0) h, fun _ _ => rfl⟩

theorem t12_is : IsPrep (cV i) (jV i) arg5 arg11 k0_t12_loop
    (k0_t12_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v1 v13 v14) :=
  ⟨![fun v => k0_chk21.dec v, fun v => k0_chk22.dec v], rfl, fun t => ![k0_off18 t, k0_off19 t], fun t => Fin.cases (k0_off18_inb t) fun h => Fin.cases (k0_off19_inb t) (fun h => h.elim0) h,
    fun t => Fin.cases (by show k0_off18 t 0 = _; rw [k0_off18_eq]; rfl) fun h => Fin.cases (by show k0_off19 t 0 = _; rw [k0_off19_eq]; rfl) (fun h => h.elim0) h, fun _ _ => rfl⟩

theorem t5_is : IsPass0 (cV i) (jV i) arg5 arg11 arg12 arg7 arg8 k0_t5_loop
    (k0_t5_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 lanes v14 v15 c14 c15) :=
  ⟨![fun v => k0_chk5.dec v, fun v => k0_chk8.dec v], ![fun v => k0_chk3.dec v, fun v => k0_chk6.dec v], ![fun v => k0_chk4.dec v, fun v => k0_chk7.dec v], fun t h => items t h, items_lane, rfl, fun t => ![k0_off8 t, k0_off9 t], fun t => Fin.cases (k0_off8_inb t) fun h => Fin.cases (k0_off9_inb t) (fun h => h.elim0) h,
    fun t => Fin.cases (by show k0_off8 t 0 = _; rw [k0_off8_eq]; rfl) fun h => Fin.cases (by show k0_off9 t 0 = _; rw [k0_off9_eq]; rfl) (fun h => h.elim0) h, fun _ _ => rfl⟩

theorem t15_is : IsPass0 (cV i) (jV i) arg5 arg11 arg12 arg7 arg8 k0_t15_loop
    (k0_t15_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v1 lanes v14) :=
  ⟨![fun v => k0_chk25.dec v, fun v => k0_chk28.dec v], ![fun v => k0_chk23.dec v, fun v => k0_chk26.dec v], ![fun v => k0_chk24.dec v, fun v => k0_chk27.dec v], fun t h => items t h, items_lane, rfl, fun t => ![k0_off22 t, k0_off23 t], fun t => Fin.cases (k0_off22_inb t) fun h => Fin.cases (k0_off23_inb t) (fun h => h.elim0) h,
    fun t => Fin.cases (by show k0_off22 t 0 = _; rw [k0_off22_eq]; rfl) fun h => Fin.cases (by show k0_off23 t 0 = _; rw [k0_off23_eq]; rfl) (fun h => h.elim0) h, fun _ _ => rfl⟩

theorem t8_is : IsPass1 (cV i) (jV i) arg7 arg8 arg12 arg11 arg5 arg6 k0_t8_loop
    (k0_t8_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 v14 v15 c14 c15) :=
  ⟨![fun v => k0_chk11.dec v, fun v => k0_chk14.dec v], ![fun v => k0_chk9.dec v, fun v => k0_chk12.dec v], ![fun v => k0_chk10.dec v, fun v => k0_chk13.dec v], rfl, fun t => ![k0_off12 t, k0_off13 t], fun t => Fin.cases (k0_off12_inb t) fun h => Fin.cases (k0_off13_inb t) (fun h => h.elim0) h,
    fun t => Fin.cases (by show k0_off12 t 0 = _; rw [k0_off12_eq]; rfl) fun h => Fin.cases (by show k0_off13 t 0 = _; rw [k0_off13_eq]; rfl) (fun h => h.elim0) h, fun _ _ => rfl⟩

theorem t18_is : IsPass1 (cV i) (jV i) arg7 arg8 arg12 arg11 arg5 arg6 k0_t18_loop
    (k0_t18_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4) :=
  ⟨![fun v => k0_chk31.dec v, fun v => k0_chk34.dec v], ![fun v => k0_chk29.dec v, fun v => k0_chk32.dec v], ![fun v => k0_chk30.dec v, fun v => k0_chk33.dec v], rfl, fun t => ![k0_off26 t, k0_off27 t], fun t => Fin.cases (k0_off26_inb t) fun h => Fin.cases (k0_off27_inb t) (fun h => h.elim0) h,
    fun t => Fin.cases (by show k0_off26 t 0 = _; rw [k0_off26_eq]; rfl) fun h => Fin.cases (by show k0_off27 t 0 = _; rw [k0_off27_eq]; rfl) (fun h => h.elim0) h, fun _ _ => rfl⟩

theorem t10_is : IsPass2 (cV i) (jV i) arg5 arg6 arg11 arg9 arg10 k0_t10_loop
    (k0_t10_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4 v13 v14 v15 c14 c15) :=
  ⟨![fun v => k0_chk15.dec v, fun v => k0_chk18.dec v], ![fun v => k0_chk17.dec v, fun v => k0_chk20.dec v], ![fun v => k0_chk16.dec v, fun v => k0_chk19.dec v], rfl, fun t => ![k0_off15 t, k0_off16 t], fun t => Fin.cases (k0_off15_inb t) fun h => Fin.cases (k0_off16_inb t) (fun h => h.elim0) h,
    fun t => Fin.cases (by show k0_off15 t 0 = _; rw [k0_off15_eq]; rfl) fun h => Fin.cases (by show k0_off16 t 0 = _; rw [k0_off16_eq]; rfl) (fun h => h.elim0) h, fun _ _ => rfl⟩

theorem t20_is : IsPass2 (cV i) (jV i) arg5 arg6 arg11 arg9 arg10 k0_t20_loop
    (k0_t20_body (F := F) i arg2 harg2 arg3 harg3 arg4 harg4 arg5 harg5 arg6 harg6 arg7 harg7 arg8 harg8 arg9 harg9 arg10 harg10 arg11 harg11 arg12 harg12 v61_r0 v61_r1 v61_r2 v61_r3 v61_r4) :=
  ⟨![fun v => k0_chk35.dec v, fun v => k0_chk38.dec v], ![fun v => k0_chk37.dec v, fun v => k0_chk40.dec v], ![fun v => k0_chk36.dec v, fun v => k0_chk39.dec v], rfl, fun t => ![k0_off29 t, k0_off30 t], fun t => Fin.cases (k0_off29_inb t) fun h => Fin.cases (k0_off30_inb t) (fun h => h.elim0) h,
    fun t => Fin.cases (by show k0_off29 t 0 = _; rw [k0_off29_eq]; rfl) fun h => Fin.cases (by show k0_off30 t 0 = _; rw [k0_off30_eq]; rfl) (fun h => h.elim0) h, fun _ _ => rfl⟩

end Cert.Proof.Bodies

end
-- ==== Proof.Tile.lean ====
/-
  One tile's task: its two rows of the result become the thresholds at the ranks of the rows' items.
-/
module

public import proofs.«01_k».proof.Proof.Trip
public import proofs.«01_k».proof.Proof.Bodies
public import Idealize.ShloMosaic.Lib.SparseCore.Quiescent
public import Idealize.ShloMosaic.Lib.Pipeline.Kit

@[expose] public section

noncomputable section

namespace Cert.Proof.Tile

open Cert.KernelIdeal Cert.KernelIdeal.Gen
open Idealize.ShloMosaic Cert.Proof.Radix Cert.Proof.Own Cert.Proof.Halves Cert.Proof.Loops Cert.Proof.Copies Cert.Proof.Trip Cert.Proof.Bodies
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch's parameters -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays and the values -/

/-- The call's two operands and its result. -/
abbrev xRef : Ref sig .scVector := main_v1_scv
abbrev tRef : Ref sig .scVector := main_v2_scv
abbrev oRef : Ref sig .scVector := main_v3_scv
abbrev xLoc (d : Dev nD) : Loc nD τ sig := (SparseCore.T d).loc main_v1
abbrev tLoc (d : Dev nD) : Loc nD τ sig := (SparseCore.T d).loc main_v2
abbrev oLoc (d : Dev nD) : Loc nD τ sig := (SparseCore.T d).loc main_v3
abbrev xM : Memref sig .scVector .hbm S524288 .i32 := Memref.whole xRef
abbrev tM : Memref sig .scVector .hbm S131072 .f32 := Memref.whole tRef
abbrev oM : Memref sig .scVector .hbm S524288 .f32 := Memref.whole oRef

/-- Element `n` of a flat array, counted around. -/
def flat (N : ℕ) (h : 0 < N) (n : ℕ) : (⟨1, ![N]⟩ : Shape).Idx := fun a => ⟨n % N, by obtain rfl := Fin.eq_zero a; exact Nat.mod_lt _ h⟩

/-- Word `q` of row `n`. -/
def wordAt (X : Vec F S524288 .i32) (n q : ℕ) : BitVec 32 := X (flat 524288 (by decide) (8192 * n + q))
/-- Threshold `q` of row `h`. -/
def thrAt (Y : Vec F S131072 .f32) (h q : ℕ) : Elt F .f32 := Y (flat 131072 (by decide) (8192 * h + q))

/-- The place of item `j` of row `n` in the descending order of the row's floats. -/
def rankAt (X : Vec F S524288 .i32) (n j : ℕ) : ℕ := rank 8192 (num fun q => keyWord (wordAt X n q)) j

/-- The result: each item's threshold is its row's at the item's rank. -/
def result (X : Vec F S524288 .i32) (Y : Vec F S131072 .f32) : Vec F S524288 .f32 :=
  fun p => thrAt Y ((p 0).val / 8192 % 16) (rankAt X ((p 0).val / 8192) ((p 0).val % 8192))

/-! ## Slices of the flat arrays -/

section Slices

variable {off : Fin 1 → ℕ} {n : ℕ}

theorem read_xSlice (inb : ∀ a, off a + S8192.size a ≤ S524288.size a) (ho : off 0 = 8192 * n) (X : Vec F S524288 .i32) :
    (xM.slice (Rect.unit (s := S524288) off S8192.size inb) (fun _ => rfl)).view.read (Elt F) X = fun j => wordAt X n (j 0).val := by
  funext j
  show X _ = X _
  congr 1
  funext a
  obtain rfl := Fin.eq_zero a
  apply Fin.ext
  have h0 : off 0 + 8192 ≤ 524288 := inb 0
  have hj : (j 0).val < 8192 := (j 0).isLt
  show off 0 + 1 * (j 0).val = (8192 * n + (j 0).val) % 524288
  rw [Nat.mod_eq_of_lt (by omega)]; omega

theorem read_tSlice (inb : ∀ a, off a + S8192.size a ≤ S131072.size a) (ho : off 0 = 8192 * n) (Y : Vec F S131072 .f32) :
    (tM.slice (Rect.unit (s := S131072) off S8192.size inb) (fun _ => rfl)).view.read (Elt F) Y = fun j => thrAt Y n (j 0).val := by
  funext j
  show Y _ = Y _
  congr 1
  funext a
  obtain rfl := Fin.eq_zero a
  apply Fin.ext
  have h0 : off 0 + 8192 ≤ 131072 := inb 0
  have hj : (j 0).val < 8192 := (j 0).isLt
  show off 0 + 1 * (j 0).val = (8192 * n + (j 0).val) % 131072
  rw [Nat.mod_eq_of_lt (by omega)]; omega

/-- The elements of row `n` of the result. -/
def rowSet (n : ℕ) : Finset S524288.Idx := Finset.univ.filter fun p => (p 0).val / 8192 = n

theorem set_oSlice (inb : ∀ a, off a + S8192.size a ≤ S524288.size a) (ho : off 0 = 8192 * n) :
    (oM.slice (Rect.unit (s := S524288) off S8192.size inb) (fun _ => rfl)).view.set = rowSet n := by
  refine (View.set_slice_whole oRef (Rect.unit (s := S524288) off S8192.size inb)).trans ?_
  ext p
  have hp : (p 0).val < 524288 := (p 0).isLt
  have h0 : off 0 + 8192 ≤ 524288 := inb 0
  show p ∈ (Rect.unit (s := S524288) off S8192.size inb).toLoadRect.set ↔ _
  rw [LoadRect.mem_set]
  unfold rowSet
  rw [Finset.mem_filter]
  constructor
  · intro h
    obtain ⟨j, hj, e⟩ := h 0
    have hj' : j < 8192 := hj
    have e' : (p 0).val = off 0 + 1 * j := e
    exact ⟨Finset.mem_univ _, by omega⟩
  · rintro ⟨-, h⟩ a
    obtain rfl := Fin.eq_zero a
    exact ⟨(p 0).val - off 0, show (p 0).val - off 0 < 8192 by omega, show (p 0).val = off 0 + 1 * ((p 0).val - off 0) by omega⟩

theorem write_oSlice (inb : ∀ a, off a + S8192.size a ≤ S524288.size a) (ho : off 0 = 8192 * n) (f : Vec F S524288 .f32) (w : Vec F S8192 .f32) (g : Vec F S524288 .f32)
    (hg : ∀ p : S524288.Idx, (p 0).val / 8192 = n → g p = w (flat 8192 (by decide) ((p 0).val % 8192))) :
    ∀ p ∈ rowSet n, (oM.slice (Rect.unit (s := S524288) off S8192.size inb) (fun _ => rfl)).view.write (Elt F) f w Finset.univ p = g p := by
  intro p hp
  have hn : (p 0).val / 8192 = n := (Finset.mem_filter.mp hp).2
  rw [← set_oSlice inb ho] at hp
  obtain ⟨j, -, rfl⟩ := Finset.mem_map.mp hp
  rw [View.write_emb_of_mem _ _ (Finset.mem_univ _), hg _ hn]
  show w j = w _
  congr 1
  funext a
  obtain rfl := Fin.eq_zero a
  apply Fin.ext
  have hj : (j 0).val < 8192 := (j 0).isLt
  show (j 0).val = (off 0 + 1 * (j 0).val) % 8192 % 8192
  omega

end Slices

/-! ## A tile's own cells and buffers -/

section Own

variable (d : Dev nD) (L : grid0.Coords)

/-- The tile's thread. -/
abbrev thr (d : Dev nD) (L : grid0.Coords) : Thread nD τ := V d (cV L) (jV L)

/-- The five copies' semaphores. -/
abbrev sems : Finset (SemLoc sig) := {.dma cc0_scoped0.sem, .dma cc0_scoped1.sem, .dma cc0_scoped2.sem, .dma cc0_scoped3.sem, .dma cc0_scoped4.sem}
/-- The eight buffers. -/
abbrev bufs : Finset (Ref sig .scVector) := {cc0_scratch0, cc0_scratch1, cc0_scratch2, cc0_scratch3, cc0_scratch4, cc0_scratch5, cc0_scratch6, cc0_scratch7}

def semEmb : SemLoc sig ↪ GSem nD τ sig := ⟨fun sm => (thr d L, sm), fun _ _ e => (Prod.mk.inj e).2⟩
def bufEmb : Ref sig .scVector ↪ DevRef τ sig := ⟨fun b => (Proc.scVector (cV L) (jV L)).devRef b, Proc.devRef_injective (.scVector (cV L) (jV L))⟩

theorem sems_scoped : ∀ sm ∈ sems, (sm : SemLoc sig).isScoped .scVector = true := by decide

theorem sems_sub : sems.map (semEmb d L) ⊆ ownCells (thr d L) := by
  intro g hg
  obtain ⟨sm, hsm, rfl⟩ := Finset.mem_map.mp hg
  exact mem_ownCells.mpr ⟨rfl, sems_scoped sm hsm⟩

theorem bufs_owner : ∀ b ∈ bufs, ((Proc.scVector (cV L) (jV L)).devRef b).owner = .proc (.scVector (cV L) (jV L)) := by
  intro b hb
  simp only [bufs, Finset.mem_insert, Finset.mem_singleton] at hb
  rcases hb with rfl | rfl | rfl | rfl | rfl | rfl | rfl | rfl <;> rfl

theorem bufs_sub : bufs.map (bufEmb L) ⊆ ownRefs (τ := τ) (.scVector (cV L) (jV L)) := by
  intro b hb
  obtain ⟨b, hb', rfl⟩ := Finset.mem_map.mp hb
  exact SparseCore.Cfg.mem_ownRefs_of_owner (bufs_owner L b hb')

theorem ownSems0_V : (ownSems0 (thr d L) : sProp 𝕄)
    = iprop((semVal (thr d L, .dma cc0_scoped0.sem) 0 ∗ semVal (thr d L, .dma cc0_scoped1.sem) 0 ∗ semVal (thr d L, .dma cc0_scoped2.sem) 0
        ∗ semVal (thr d L, .dma cc0_scoped3.sem) 0 ∗ semVal (thr d L, .dma cc0_scoped4.sem) 0)
      ∗ bigSep (ownCells (thr d L) \ sems.map (semEmb d L)) fun g => semVal g 0) := by
  unfold SparseCore.Cfg.ownSems0
  rw [SparseCore.bigSep_sdiff_split' (sems_sub d L), bigSep_map, SparseCore.bigSep_insert' (by decide), SparseCore.bigSep_insert' (by decide),
    SparseCore.bigSep_insert' (by decide), SparseCore.bigSep_insert' (by decide), bigSep_singleton]
  rfl

/-- A buffer whole at some contents. -/
abbrev anyBuf (b : Ref sig .scVector) : sProp 𝕄 := iprop(∃ f, (thr d L).loc b ↦{fullShare} f)

theorem ownBufs_V : (ownBufs (thr d L) : sProp 𝕄)
    = iprop((anyBuf d L cc0_scratch0 ∗ anyBuf d L cc0_scratch1 ∗ anyBuf d L cc0_scratch2 ∗ anyBuf d L cc0_scratch3 ∗ anyBuf d L cc0_scratch4
        ∗ anyBuf d L cc0_scratch5 ∗ anyBuf d L cc0_scratch6 ∗ anyBuf (F := F) d L cc0_scratch7)
      ∗ bigSep (ownRefs (τ := τ) (.scVector (cV L) (jV L)) \ bufs.map (bufEmb L)) fun b => iprop(∃ f, ((d, b) : Loc nD τ sig) ↦{fullShare} f)) := by
  unfold SparseCore.Cfg.ownBufs
  rw [show ownRefs (thr d L).2 = ownRefs (τ := τ) (sig := sig) (.scVector (cV L) (jV L)) from rfl, SparseCore.bigSep_sdiff_split' (bufs_sub L), bigSep_map, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

variable [FloatOps F]

local notation "HELD" => held (F := F) (Ix := HIx 1) (Name := ℕ) (U := UU) (Lvl := ℕ) (cV L) (jV L) d
local notation "READS" => reads (F := F) (Ix := HIx 1) (Name := ℕ) (U := UU) (Lvl := ℕ) (cV L) (jV L) d

/-- A whole buffer at some contents is a memref of it held outright. -/
theorem held_intro {s : Shape} {e : EltTy} {m : Memref sig .scVector .vmem s e} (hm : m.view.set = Finset.univ) :
    iprop(∃ f, m.view.loc (thr d L) ↦{fullShare} f) ⊢ HELD m := by
  unfold held ow Own.own
  rw [hm]
  iintro ⟨%f, H⟩
  iexists (m.view.read (Elt F) f), f
  isplitr [H]
  · ipureintro; rfl
  · iexact H

theorem held_elim {s : Shape} {e : EltTy} {m : Memref sig .scVector .vmem s e} (hm : m.view.set = Finset.univ) :
    HELD m ⊢ iprop(∃ f, m.view.loc (thr d L) ↦{fullShare} f) := by
  unfold held ow Own.own
  rw [hm]
  iintro ⟨%g, %f, -, H⟩
  iexists f
  iexact H

abbrev scr0 : MI 8192 := Memref.whole cc0_scratch0
abbrev scr1 : MI 8192 := Memref.whole cc0_scratch1
abbrev scr2 : MI 8192 := Memref.whole cc0_scratch2
abbrev scr3 : MI 8192 := Memref.whole cc0_scratch3
abbrev scr4 : MF 8192 := Memref.whole cc0_scratch4
abbrev scr5 : MF 8192 := Memref.whole cc0_scratch5
abbrev scr6 : MI 2048 := Memref.whole cc0_scratch6
abbrev scr7 : MI 2048 := Memref.whole cc0_scratch7

/-- The eight buffers held outright. -/
def scrHeld : sProp 𝕄 := iprop(HELD scr0 ∗ HELD scr1 ∗ HELD scr2 ∗ HELD scr3 ∗ HELD scr4 ∗ HELD scr5 ∗ HELD scr6 ∗ HELD scr7)

/-- The same, whole at some contents. -/
abbrev scrAny : sProp 𝕄 := iprop(anyBuf (F := F) d L cc0_scratch0 ∗ anyBuf (F := F) d L cc0_scratch1 ∗ anyBuf (F := F) d L cc0_scratch2 ∗ anyBuf (F := F) d L cc0_scratch3
  ∗ anyBuf (F := F) d L cc0_scratch4 ∗ anyBuf (F := F) d L cc0_scratch5 ∗ anyBuf (F := F) d L cc0_scratch6 ∗ anyBuf (F := F) d L cc0_scratch7)

theorem scr_intro : scrAny (F := F) d L ⊢ scrHeld (F := F) d L := by
  unfold scrHeld
  iintro ⟨H0, H1, H2, H3, H4, H5, H6, H7⟩
  isplitl [H0]; · iapply (held_intro d L (m := scr0) (View.set_whole _)) $$ H0
  isplitl [H1]; · iapply (held_intro d L (m := scr1) (View.set_whole _)) $$ H1
  isplitl [H2]; · iapply (held_intro d L (m := scr2) (View.set_whole _)) $$ H2
  isplitl [H3]; · iapply (held_intro d L (m := scr3) (View.set_whole _)) $$ H3
  isplitl [H4]; · iapply (held_intro d L (m := scr4) (View.set_whole _)) $$ H4
  isplitl [H5]; · iapply (held_intro d L (m := scr5) (View.set_whole _)) $$ H5
  isplitl [H6]; · iapply (held_intro d L (m := scr6) (View.set_whole _)) $$ H6
  iapply (held_intro d L (m := scr7) (View.set_whole _)) $$ H7

theorem scr_elim : scrHeld (F := F) d L ⊢ scrAny (F := F) d L := by
  unfold scrHeld
  iintro ⟨H0, H1, H2, H3, H4, H5, H6, H7⟩
  isplitl [H0]; · iapply (held_elim d L (m := scr0) (View.set_whole _)) $$ H0
  isplitl [H1]; · iapply (held_elim d L (m := scr1) (View.set_whole _)) $$ H1
  isplitl [H2]; · iapply (held_elim d L (m := scr2) (View.set_whole _)) $$ H2
  isplitl [H3]; · iapply (held_elim d L (m := scr3) (View.set_whole _)) $$ H3
  isplitl [H4]; · iapply (held_elim d L (m := scr4) (View.set_whole _)) $$ H4
  isplitl [H5]; · iapply (held_elim d L (m := scr5) (View.set_whole _)) $$ H5
  isplitl [H6]; · iapply (held_elim d L (m := scr6) (View.set_whole _)) $$ H6
  iapply (held_elim d L (m := scr7) (View.set_whole _)) $$ H7

/-- Some elements of an array borrowed. -/
theorem borrow {ℓ : Loc nD τ sig} {q : PosShare TreeShare} {f : Buf (Elt F) ℓ} (I : Finset (Idx ℓ)) :
    (ℓ ↦{q} f : sProp 𝕄) ⊢ iprop((ℓ ↦[I]{q} f) ∗ ((ℓ ↦[I]{q} f) -∗ ℓ ↦{q} f)) := by
  iintro H
  ihave H' := (pointsTo_split_subset (Finset.subset_univ I)).1 $$ H
  icases H' with ⟨HI, HR⟩
  isplitl [HI]; · iexact HI
  iintro HI
  iapply (pointsTo_split_subset (Finset.subset_univ I)).2
  isplitl [HI] <;> iassumption

end Own

section Run

variable (d : Dev nD) (L : grid0.Coords) [FloatOps F]

local notation "HELD" => held (F := F) (Ix := HIx 1) (Name := ℕ) (U := UU) (Lvl := ℕ) (cV L) (jV L) d
local notation "READS" => reads (F := F) (Ix := HIx 1) (Name := ℕ) (U := UU) (Lvl := ℕ) (cV L) (jV L) d

/-- The elements of the two rows of tile `s` of SparseCore `c`. -/
def tileSet (c s : ℕ) : Finset S524288.Idx := rowSet (2 * s + c) ∪ rowSet (2 * s + c + 32)

theorem rowSet_disjoint {a b : ℕ} (h : a ≠ b) : Disjoint (rowSet a) (rowSet b) := by
  rw [Finset.disjoint_left]
  intro p ha hb
  exact h ((Finset.mem_filter.mp ha).2.symm.trans (Finset.mem_filter.mp hb).2)

/-- What a tile is handed, the result's rows at `f`. -/
def tileRes (X : Buf (Elt F) (xLoc d)) (Y : Buf (Elt F) (tLoc d)) (qx qt : PosShare TreeShare) (f : Buf (Elt F) (oLoc d)) (c s : ℕ) : sProp 𝕄 :=
  iprop((xLoc d ↦{qx} X) ∗ (tLoc d ↦{qt} Y) ∗ oLoc d ↦[tileSet c s]{fullShare} f)

theorem off1_zero : ∀ L : grid0.Coords, k0_off1 L 0 = 8192 * ((2 * (L 1).val + (L 0).val) % 16) := by decide +kernel

theorem off2_zero : k0_off2 L 0#32 0 = 8192 * (2 * (L 1).val + (L 0).val) := by
  rw [show k0_off2 L 0#32 = _ from k0_off2_eq L 0]
  show 16384 * (L 1).val + 8192 * (L 0).val + 262144 * 0 = _
  omega

theorem off2_one : k0_off2 L 32#32 0 = 8192 * (2 * (L 1).val + (L 0).val + 32) := by
  rw [show k0_off2 L 32#32 = _ from k0_off2_eq L 1]
  show 16384 * (L 1).val + 8192 * (L 0).val + 262144 * 1 = _
  omega

section Row

variable {off : Fin 1 → ℕ} {n : ℕ} (inb : ∀ a, off a + S8192.size a ≤ S524288.size a) (ho : off 0 = 8192 * n)

include ho in
theorem row_eq (f : Buf (Elt F) (oLoc d)) : (oLoc d ↦[rowSet n]{fullShare} f : sProp 𝕄)
    = ((oM.slice (Rect.unit (s := S524288) off S8192.size inb) (fun _ => rfl)).view.loc (thr d L)
        ↦[(oM.slice (Rect.unit (s := S524288) off S8192.size inb) (fun _ => rfl)).view.set]{fullShare} f) := by
  rw [set_oSlice inb ho]

include ho in
/-- A written row holds the result. -/
theorem row_done (X : Buf (Elt F) (xLoc d)) (Y : Buf (Elt F) (tLoc d)) (f : Buf (Elt F) (oLoc d)) {h : ℕ} (hh : n % 16 = h) :
    ((oM.slice (Rect.unit (s := S524288) off S8192.size inb) (fun _ => rfl)).view.loc (thr d L)
        ↦[(oM.slice (Rect.unit (s := S524288) off S8192.size inb) (fun _ => rfl)).view.set]{fullShare}
          (oM.slice (Rect.unit (s := S524288) off S8192.size inb) (fun _ => rfl)).view.write (Elt F) f
            (fun j => thrAt Y h (rank 8192 (num fun q => keyWord (wordAt X n q)) (j 0).val)) Finset.univ : sProp 𝕄)
      = oLoc d ↦[rowSet n]{fullShare} result X Y := by
  rw [set_oSlice inb ho]
  refine pointsTo_congr (write_oSlice inb ho f _ _ fun p hp => ?_)
  show thrAt Y _ _ = thrAt Y _ _
  unfold rankAt
  rw [hp, hh]
  show _ = thrAt Y h (rank 8192 _ ((p 0).val % 8192 % 8192))
  rw [Nat.mod_mod]

end Row

omit [FloatOps F] in
theorem reads_of_own {e : EltTy} (m : Memref sig .scVector .vmem S8192 e) (T : ℕ → Elt F e) :
    (Own.own (thr d L) m (fun j => T (j 0).val) : sProp 𝕄) ⊢ READS m T :=
  Entails.of_eq (by unfold reads; with_reducible rfl)

theorem waits_none {W : Waits sig (HIx 1)} {s0 s1 s2 s3 s4 : SemLoc sig} :
    ∀ p ∈ insert (s4, (none : HIx 1)) (insert (s3, none) (insert (s2, none) (insert (s1, none) (insert (s0, none) W)))), p ∈ W ∨ p.2 = none := by
  intro p hp
  simp only [Finset.mem_insert] at hp
  rcases hp with rfl | rfl | rfl | rfl | rfl | hp
  iterate 5 exact .inr rfl
  exact .inl hp

theorem tile_run (X : Buf (Elt F) (xLoc d)) (Y : Buf (Elt F) (tLoc d)) (f : Buf (Elt F) (oLoc d)) (qx qt : PosShare TreeShare)
    (O : CellTallies nD τ sig (HIx 1)) (W : Waits sig (HIx 1)) (hO : ∀ g, O g none = 0) :
    iprop(levAts (K (F := F)).L (K (F := F)).lev ∗ tileRes d X Y qx qt f (L 0).val (L 1).val ∗ scrHeld (F := F) d L
        ∗ (semVal (thr d L, .dma cc0_scoped0.sem) 0 ∗ semVal (thr d L, .dma cc0_scoped1.sem) 0 ∗ semVal (thr d L, .dma cc0_scoped2.sem) 0
        ∗ semVal (thr d L, .dma cc0_scoped3.sem) 0 ∗ semVal (thr d L, .dma cc0_scoped4.sem) 0) ∗ owes (thr d L) O W)
      ⊢ wp frame (wpE (defs₀ (F := F)) 𝒱₀ (thr d L) none) Set.univ
          (cc0__sc_body L xM (Memref.isWhole_whole _) tM (Memref.isWhole_whole _) oM (Memref.isWhole_whole _) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) cc0_scoped0 cc0_scoped1 cc0_scoped2 cc0_scoped3 cc0_scoped4)
          fun _ => iprop(tileRes d X Y qx qt (result X Y) (L 0).val (L 1).val ∗ scrHeld (F := F) d L
            ∗ (semVal (thr d L, .dma cc0_scoped0.sem) 0 ∗ semVal (thr d L, .dma cc0_scoped1.sem) 0 ∗ semVal (thr d L, .dma cc0_scoped2.sem) 0
            ∗ semVal (thr d L, .dma cc0_scoped3.sem) 0 ∗ semVal (thr d L, .dma cc0_scoped4.sem) 0)
            ∗ ∃ W', ⌜∀ p ∈ W', p ∈ W ∨ p.2 = none⌝ ∗ owes (thr d L) O W') := by
  simp only [cc0__sc_body_eq_skeleton]; unfold cc0__sc_body_skel
  simp only [k0_part7_eq_skeleton, k0_part8_eq_skeleton, k0_part9_eq_skeleton]
  unfold k0_part7_skel k0_part8_skel k0_part9_skel
  simp only [Prog.lift, Prog.bind_op, Prog.bind_ret, Prog.pure_eq_ret, Prog.bind_assoc]
  unfold tileRes tileSet scrHeld
  iintro ⟨#Hlv, ⟨Hx, Ht, Ho⟩, ⟨H0, H1, H2, H3, H4, H5, H6, H7⟩, ⟨Hv0, Hv1, Hv2, Hv3, Hv4⟩, HO⟩
  ihave Ho' := (pointsTo_union (rowSet_disjoint (show 2 * (L 1).val + (L 0).val ≠ 2 * (L 1).val + (L 0).val + 32 by omega))).1 $$ Ho
  icases Ho' with ⟨Ho0, Ho1⟩
  -- the thresholds' row
  ihave Hb := (borrow ((tM.slice (Rect.unit (s := S131072) (k0_off1 L) S8192.size (k0_off1_inb L)) (fun _ => rfl)).view.set)) $$ Ht
  icases Hb with ⟨Hts, Htr⟩
  ihave H4 := (Entails.of_eq (show HELD scr4 = iprop(∃ g : Vec F S8192 .f32, ow F (HIx 1) ℕ UU ℕ (cV L) (jV L) d scr4 g) by unfold held; with_reducible rfl)) $$ H4
  icases H4 with ⟨%g4, H4⟩
  iapply (wp_in 𝒱₀ (thr d L) none (by decide) none) $$ [Hts H4 Hv0 HO]
  · isplitl [Hts]; · iexact Hts
    isplitl [H4]; · iexact H4
    isplitl [Hv0]; · iexact Hv0
    isplitl [HO]; · iexact HO
    iapply ((K (F := F)).mayWait_none (SemLoc.dma cc0_scoped0.sem) hO); iexact Hlv
  iintro ⟨Hts, H4, Hv0, HO⟩
  ihave Ht := Htr $$ Hts
  rw [read_tSlice (k0_off1_inb L) (off1_zero L) Y]
  ihave H4' : READS scr4 (thrAt Y ((2 * (L 1).val + (L 0).val) % 16)) $$ [H4]
  · iapply (reads_of_own d L scr4 (thrAt Y ((2 * (L 1).val + (L 0).val) % 16)))
    iexact H4
  ihave HB : iprop(HELD scr0 ∗ HELD scr1 ∗ HELD scr2 ∗ HELD scr3 ∗ READS scr4 (thrAt Y ((2 * (L 1).val + (L 0).val) % 16)) ∗ HELD scr5 ∗ HELD scr6 ∗ HELD scr7) $$ [H0 H1 H2 H3 H4' H5 H6 H7]
  · isplitl [H0]; · iexact H0
    isplitl [H1]; · iexact H1
    isplitl [H2]; · iexact H2
    isplitl [H3]; · iexact H3
    isplitl [H4']; · iexact H4'
    isplitl [H5]; · iexact H5
    isplitl [H6] <;> iassumption
  -- the first row
  ihave Hb := (borrow ((xM.slice (Rect.unit (s := S524288) (k0_off2 L 0#32) S8192.size (k0_off2_inb L 0)) (fun _ => rfl)).view.set)) $$ Hx
  icases Hb with ⟨Hxs, Hxr⟩
  ihave Hos := (Entails.of_eq (row_eq d L (k0_off2_inb L 0) (off2_zero L) f)) $$ Ho0
  iapply (wp_trip (cV L) (jV L) 𝒱₀ d none (t1_is ..) (t2_is ..) (t3_is ..) (t4_is ..) (t5_is ..) (t6_is ..) (t7_is ..) (t8_is ..) (t9_is ..) (t10_is ..) none (wordAt X (2 * (L 1).val + (L 0).val)) (thrAt Y ((2 * (L 1).val + (L 0).val) % 16)) (read_xSlice (k0_off2_inb L 0) (off2_zero L) X))
    $$ [HB Hxs Hos Hv1 Hv2 HO]
  · isplitl [HB]; · iexact HB
    isplitl [Hxs]; · iexact Hxs
    isplitl [Hos]; · iexact Hos
    isplitl [Hv1 Hv2]
    · isplitl [Hv1] <;> iassumption
    isplitr
    · isplitr
      · iapply ((K (F := F)).mayWait_none (SemLoc.dma cc0_scoped1.sem) hO); iexact Hlv
      · iapply ((K (F := F)).mayWait_none (SemLoc.dma cc0_scoped2.sem) hO); iexact Hlv
    · iexact HO
  iintro ⟨HB, Hxs, Hos, ⟨Hv1, Hv2⟩, HO⟩
  ihave Hx := Hxr $$ Hxs
  ihave Ho0 : (oLoc d ↦[rowSet (2 * (L 1).val + (L 0).val)]{fullShare} result X Y) $$ [Hos]
  · iapply (Entails.of_eq (row_done d L (k0_off2_inb L 0) (off2_zero L) X Y f (h := (2 * (L 1).val + (L 0).val) % 16) (by omega)))
    iexact Hos
  -- the second row
  ihave Hb := (borrow ((xM.slice (Rect.unit (s := S524288) (k0_off2 L 32#32) S8192.size (k0_off2_inb L 1)) (fun _ => rfl)).view.set)) $$ Hx
  icases Hb with ⟨Hxs, Hxr⟩
  ihave Hos := (Entails.of_eq (row_eq d L (k0_off2_inb L 1) (off2_one L) f)) $$ Ho1
  iapply (wp_trip (cV L) (jV L) 𝒱₀ d none (t11_is ..) (t12_is ..) (t13_is ..) (t14_is ..) (t15_is ..) (t16_is ..) (t17_is ..) (t18_is ..) (t19_is ..) (t20_is ..) none (wordAt X (2 * (L 1).val + (L 0).val + 32)) (thrAt Y ((2 * (L 1).val + (L 0).val) % 16)) (read_xSlice (k0_off2_inb L 1) (off2_one L) X))
    $$ [HB Hxs Hos Hv3 Hv4 HO]
  · isplitl [HB]; · iexact HB
    isplitl [Hxs]; · iexact Hxs
    isplitl [Hos]; · iexact Hos
    isplitl [Hv3 Hv4]
    · isplitl [Hv3] <;> iassumption
    isplitr
    · isplitr
      · iapply ((K (F := F)).mayWait_none (SemLoc.dma cc0_scoped3.sem) hO); iexact Hlv
      · iapply ((K (F := F)).mayWait_none (SemLoc.dma cc0_scoped4.sem) hO); iexact Hlv
    · iexact HO
  iintro ⟨HB, Hxs, Hos, ⟨Hv3, Hv4⟩, HO⟩
  ihave Hx := Hxr $$ Hxs
  ihave Ho1 : (oLoc d ↦[rowSet (2 * (L 1).val + (L 0).val + 32)]{fullShare} result X Y) $$ [Hos]
  · iapply (Entails.of_eq (row_done d L (k0_off2_inb L 1) (off2_one L) X Y f (h := (2 * (L 1).val + (L 0).val) % 16) (by omega)))
    iexact Hos
  rw [wp_ret]; imodintro
  icases HB with ⟨H0, H1, H2, H3, H4, H5, H6, H7⟩
  isplitl [Hx Ht Ho0 Ho1]
  · isplitl [Hx]; · iexact Hx
    isplitl [Ht]; · iexact Ht
    iapply (pointsTo_union (rowSet_disjoint (show 2 * (L 1).val + (L 0).val ≠ 2 * (L 1).val + (L 0).val + 32 by omega))).2
    isplitl [Ho0] <;> iassumption
  isplitl [H0 H1 H2 H3 H4 H5 H6 H7]
  · isplitl [H0]; · iexact H0
    isplitl [H1]; · iexact H1
    isplitl [H2]; · iexact H2
    isplitl [H3]; · iexact H3
    isplitl [H4]; · iapply (held_of_reads (cV L) (jV L) d) $$ H4
    isplitl [H5]; · iexact H5
    isplitl [H6] <;> iassumption
  isplitl [Hv0 Hv1 Hv2 Hv3 Hv4]
  · isplitl [Hv0]; · iexact Hv0
    isplitl [Hv1]; · iexact Hv1
    isplitl [Hv2]; · iexact Hv2
    isplitl [Hv3] <;> iassumption
  iexists (insert (SemLoc.dma cc0_scoped4.sem, none) (insert (SemLoc.dma cc0_scoped3.sem, none) (insert (SemLoc.dma cc0_scoped2.sem, none)
    (insert (SemLoc.dma cc0_scoped1.sem, none) (insert (SemLoc.dma cc0_scoped0.sem, none) W)))))
  isplitr
  · ipureintro
    exact waits_none
  · iexact HO

/-- The task from the tile's whole state, to the whole state again. -/
theorem tile_body (hF : (K (F := F)).Facts) (X : Buf (Elt F) (xLoc d)) (Y : Buf (Elt F) (tLoc d)) (f : Buf (Elt F) (oLoc d)) (qx qt : PosShare TreeShare)
    (O : CellTallies nD τ sig (HIx 1)) (W : Waits sig (HIx 1)) (hO : ∀ g, O g none = 0) :
    iprop(levAts (K (F := F)).L (K (F := F)).lev ∗ emp ∗ tileRes d X Y qx qt f (L 0).val (L 1).val
        ∗ scopedBufs (thr d L) ∗ scopedSems0 (thr d L) ∗ owes (thr d L) O W)
      ⊢ wp frame (wpE (defs₀ (F := F)) 𝒱₀ (thr d L) none) Set.univ
          (cc0__sc_body L xM (Memref.isWhole_whole _) tM (Memref.isWhole_whole _) oM (Memref.isWhole_whole _) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) cc0_scoped0 cc0_scoped1 cc0_scoped2 cc0_scoped3 cc0_scoped4)
          fun _ => iprop(tileRes d X Y qx qt (result X Y) (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨Hlv, -, Hres, ⟨Hbufs, Hbr⟩, ⟨Hsems, Hsr⟩, HO⟩
  ihave Hscr := (scr_intro d L) $$ Hbufs
  ihave H := (tile_run d L X Y f qx qt O W hO) $$ [Hlv Hres Hscr Hsems HO]
  · isplitl [Hlv]; · iexact Hlv
    isplitl [Hres]; · iexact Hres
    isplitl [Hscr]; · iexact Hscr
    isplitl [Hsems] <;> iassumption
  iapply (wp_wand frame _ Set.univ) $$ H
  iintro %_ ⟨Hres, Hscr, Hsems, HW⟩
  isplitl [Hres]; · iexact Hres
  isplitl [Hscr Hbr]
  · isplitl [Hscr]
    · iapply (scr_elim d L) $$ Hscr
    · iexact Hbr
  isplitl [Hsems Hsr]
  · isplitl [Hsems] <;> iassumption
  iexact HW

end Run

end Cert.Proof.Tile
-- ==== Proof.Split.lean ====
/-
  The arrays of the SparseCore call dealt out: the result's rows to the tiles that write them, the two operands as read
  shares, and all of it gathered again.
-/
module

public import proofs.«01_k».proof.Proof.Tile

@[expose] public section

noncomputable section

namespace Cert.Proof.Split

open Cert.KernelIdeal Cert.KernelIdeal.Gen
open Idealize.ShloMosaic Idealize.ShloMosaic.Transfers Cert.Proof.Tile
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem mem_rowSet {n : ℕ} {p : S524288.Idx} : p ∈ rowSet n ↔ (p 0).val / 8192 = n := by
  simp [rowSet]

theorem mem_tileSet {c s : ℕ} {p : S524288.Idx} : p ∈ tileSet c s ↔ (p 0).val / 8192 = 2 * s + c ∨ (p 0).val / 8192 = 2 * s + c + 32 := by
  unfold tileSet
  rw [Finset.mem_union, mem_rowSet, mem_rowSet]

/-- The elements of the rows of SparseCore `c`'s tiles. -/
def coreSet (c : ℕ) : Finset S524288.Idx := (Finset.univ : Finset (Fin 16)).biUnion fun s => tileSet c s.val

theorem tiles_disjoint {c : ℕ} (hc : c < 2) : ∀ i ∈ (Finset.univ : Finset (Fin 16)), ∀ j ∈ (Finset.univ : Finset (Fin 16)), i ≠ j →
    Disjoint (tileSet c i.val) (tileSet c j.val) := by
  intro i _ j _ h
  rw [Finset.disjoint_left]
  intro p hi hj
  rw [mem_tileSet] at hi hj
  have := i.isLt
  have := j.isLt
  exact h (Fin.ext (by omega))

theorem mem_coreSet {c : ℕ} {p : S524288.Idx} (hc : c < 2) : p ∈ coreSet c ↔ (p 0).val / 8192 % 2 = c := by
  unfold coreSet
  rw [Finset.mem_biUnion]
  have hp : (p 0).val < 524288 := (p 0).isLt
  constructor
  · rintro ⟨s, -, h⟩
    rw [mem_tileSet] at h
    omega
  · intro h
    refine ⟨⟨(p 0).val / 8192 % 32 / 2, by omega⟩, Finset.mem_univ _, ?_⟩
    rw [mem_tileSet]
    show (p 0).val / 8192 = 2 * ((p 0).val / 8192 % 32 / 2) + c ∨ _ = 2 * ((p 0).val / 8192 % 32 / 2) + c + 32
    omega

theorem cores_disjoint : ∀ i ∈ (Finset.univ : Finset (Fin 2)), ∀ j ∈ (Finset.univ : Finset (Fin 2)), i ≠ j → Disjoint (coreSet i.val) (coreSet j.val) := by
  intro i _ j _ h
  rw [Finset.disjoint_left]
  intro p hi hj
  rw [mem_coreSet i.isLt] at hi
  rw [mem_coreSet j.isLt] at hj
  exact h (Fin.ext (hi.symm.trans hj))

theorem cores_cover : (Finset.univ : Finset (Fin 2)).biUnion (fun c => coreSet c.val) = Finset.univ := by
  refine Finset.eq_univ_of_forall fun p => Finset.mem_biUnion.mpr ⟨⟨(p 0).val / 8192 % 2, by omega⟩, Finset.mem_univ _, ?_⟩
  rw [mem_coreSet (by show (p 0).val / 8192 % 2 < 2; omega)]

variable (d : Dev nD) (X : Buf (Elt F) (xLoc d)) (Y : Buf (Elt F) (tLoc d))

/-- What SparseCore `c` is handed, the result's rows at `f`. -/
def coreRes (qx qt : PosShare TreeShare) (f : Buf (Elt F) (oLoc d)) (c : ℕ) : sProp 𝕄 :=
  iprop((xLoc d ↦{qx} X) ∗ (tLoc d ↦{qt} Y) ∗ oLoc d ↦[coreSet c]{fullShare} f)

/-- A whole array read by `n` at once, and whole again after. -/
theorem lend {ℓ : Loc nD τ sig} {f : Buf (Elt F) ℓ} (q : PosShare TreeShare) (n : ℕ) :
    (ℓ ↦{q} f : sProp 𝕄) ⊢ iprop((bigSep Finset.univ fun i : Fin n => ℓ ↦{shareTok q n i} f) ∗ ((bigSep Finset.univ fun i : Fin n => ℓ ↦{shareTok q n i} f) -∗ ℓ ↦{q} f)) := by
  iintro H
  ihave H' := (pointsTo_toks_split q n) $$ H
  icases H' with ⟨Hr, Ht⟩
  isplitl [Ht]; · iexact Ht
  iintro Ht
  iapply (pointsTo_toks_join q n)
  isplitl [Hr] <;> iassumption

/-- A SparseCore's part is its tiles' parts; what they bring back is its part again. -/
theorem core_split {c : ℕ} (hc : c < 2) (qx qt : PosShare TreeShare) (f g : Buf (Elt F) (oLoc d)) :
    coreRes d X Y qx qt f c ⊢ iprop((bigSep Finset.univ fun i : Fin 16 => tileRes d X Y (shareTok qx 16 i) (shareTok qt 16 i) f c i.val)
      ∗ ((bigSep Finset.univ fun i : Fin 16 => tileRes d X Y (shareTok qx 16 i) (shareTok qt 16 i) g c i.val) -∗ coreRes (F := F) d X Y qx qt g c)) := by
  have ho : ∀ h : Buf (Elt F) (oLoc d), (oLoc d ↦[coreSet c]{fullShare} h : sProp 𝕄) = bigSep Finset.univ fun i : Fin 16 => oLoc d ↦[tileSet c i.val]{fullShare} h :=
    fun h => by unfold coreSet; rw [pointsTo_biUnion Finset.univ (ℓ := oLoc d) (fun i : Fin 16 => tileSet c i.val) (tiles_disjoint hc)]
  unfold coreRes tileRes
  rw [bigSep_sep', bigSep_sep', bigSep_sep', bigSep_sep', ho, ho]
  iintro ⟨Hx, Ht, Ho⟩
  ihave Hx' := (lend qx 16) $$ Hx
  ihave Ht' := (lend qt 16) $$ Ht
  icases Hx' with ⟨Hx, Hxr⟩
  icases Ht' with ⟨Ht, Htr⟩
  isplitl [Hx Ht Ho]
  · isplitl [Hx]; · iexact Hx
    isplitl [Ht] <;> iassumption
  iintro ⟨Hx, Ht, Ho⟩
  isplitl [Hx Hxr]; · iapply Hxr; iexact Hx
  isplitl [Ht Htr]; · iapply Htr; iexact Ht
  iexact Ho

/-- The three arrays are the two SparseCores' parts; what they bring back is the three arrays again. -/
theorem call_split (f g : Buf (Elt F) (oLoc d)) :
    iprop((xLoc d ↦{fullShare} X) ∗ (tLoc d ↦{fullShare} Y) ∗ oLoc d ↦{fullShare} f)
      ⊢ iprop((bigSep Finset.univ fun c : Fin 2 => coreRes d X Y (shareTok fullShare 2 c) (shareTok fullShare 2 c) f c.val)
        ∗ ((bigSep Finset.univ fun c : Fin 2 => coreRes d X Y (shareTok fullShare 2 c) (shareTok fullShare 2 c) g c.val)
          -∗ iprop((xLoc d ↦{fullShare} X) ∗ (tLoc d ↦{fullShare} Y) ∗ oLoc d ↦{fullShare} g) : sProp 𝕄)) := by
  have ho : ∀ h : Buf (Elt F) (oLoc d), (oLoc d ↦{fullShare} h : sProp 𝕄) = bigSep Finset.univ fun c : Fin 2 => oLoc d ↦[coreSet c.val]{fullShare} h :=
    fun h => by rw [← pointsTo_biUnion Finset.univ (ℓ := oLoc d) (fun c : Fin 2 => coreSet c.val) cores_disjoint, cores_cover]; try rfl
  unfold coreRes
  rw [bigSep_sep', bigSep_sep', bigSep_sep', bigSep_sep', ho, ho]
  iintro ⟨Hx, Ht, Ho⟩
  ihave Hx' := (lend fullShare 2) $$ Hx
  ihave Ht' := (lend fullShare 2) $$ Ht
  icases Hx' with ⟨Hx, Hxr⟩
  icases Ht' with ⟨Ht, Htr⟩
  isplitl [Hx Ht Ho]
  · isplitl [Hx]; · iexact Hx
    isplitl [Ht] <;> iassumption
  iintro ⟨Hx, Ht, Ho⟩
  isplitl [Hx Hxr]; · iapply Hxr; iexact Hx
  isplitl [Ht Htr]; · iapply Htr; iexact Ht
  iexact Ho

end Cert.Proof.Split

end
-- ==== Proof.Dense.lean ====
/-
  The TensorCore call's body: one block of scores and indices from one block of similarities, of thresholds and the weights.
-/
module

public import proofs.«01_k».proof.Proof.Tile
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.ValueIdxCore

@[expose] public section

noncomputable section

namespace Cert.Proof.Dense

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ Tile.UU ℕ

/-! ## The block's values -/

/-- Head `h`'s similarities in a block. -/
def simOf (X : S1x16x32x1024.Idx → Elt F .f32) (h : ℕ) : Vec F S1x1x32x1024 .f32 :=
  fun x => X (ValueIdx.ix4 (0 : Fin 1) (⟨h % 16, Nat.mod_lt _ (by decide)⟩ : Fin 16) (x 2) (x 3))
/-- Head `h`'s thresholds in a block. -/
def thrOf (Y : S1x16x1024.Idx → Elt F .f32) (h : ℕ) : Vec F S1x1x1024 .f32 :=
  fun x => Y (ValueIdx.ix3 (0 : Fin 1) (⟨h % 16, Nat.mod_lt _ (by decide)⟩ : Fin 16) (x 2))
/-- Head `h`'s weight. -/
def weightOf (W : S1x16.Idx → Elt F .f32) (h : ℕ) : Elt F .f32 :=
  W (ValueIdx.ix2 (0 : Fin 1) (⟨h % 16, Nat.mod_lt _ (by decide)⟩ : Fin 16))

/-- Head `h`'s differences, rounded. -/
def diff (X : S1x16x32x1024.Idx → Elt F .f32) (Y : S1x16x1024.Idx → Elt F .f32) (h : ℕ) : FVec F S32x1024 .bf16 :=
  truncf .bf16 (subf (shapeCast S32x1024 (simOf X h) shapeCasts_S1x1x32x1024_S32x1024 : FVec F S32x1024 .f32)
    (broadcastTo S32x1024 (shapeCast S1x1024 (shapeCast S1024 (thrOf Y h) shapeCasts_S1x1x1024_S1024 : FVec F S1024 .f32) shapeCasts_S1024_S1x1024 : FVec F S1x1024 .f32)
      broadcasts_S1x1024_S32x1024 : FVec F S32x1024 .f32)) bitsLt_bf16_f32
/-- Head `h`'s weighted differences. -/
def term (X : S1x16x32x1024.Idx → Elt F .f32) (Y : S1x16x1024.Idx → Elt F .f32) (W : S1x16.Idx → Elt F .f32) (h : ℕ) : FVec F S32x1024 .f32 :=
  mulf (extf .f32 (diff X Y h) bitsLt_bf16_f32) (broadcast S32x1024 (weightOf W h))
/-- The weighted differences of heads `0` to `h` summed in order. -/
def sumTo (X : S1x16x32x1024.Idx → Elt F .f32) (Y : S1x16x1024.Idx → Elt F .f32) (W : S1x16.Idx → Elt F .f32) : ℕ → FVec F S32x1024 .f32
  | 0 => term X Y W 0
  | h + 1 => addf (sumTo X Y W h) (term X Y W (h + 1))
/-- The scores of a block. -/
def scoreOf (X : S1x16x32x1024.Idx → Elt F .f32) (Y : S1x16x1024.Idx → Elt F .f32) (W : S1x16.Idx → Elt F .f32) : FVec F S1024 .f32 :=
  mulf (broadcast S1024 (Scalar.ofBits .f32 0x41200000#32)) (tanh (multiReduction .maximumf [0] S1024 (sumTo X Y W 15) 0xFF800000#32 reduces_S32x1024_S1024 (.inl rfl) rfl))
def scoreBlk (X : S1x16x32x1024.Idx → Elt F .f32) (Y : S1x16x1024.Idx → Elt F .f32) (W : S1x16.Idx → Elt F .f32) : S1x1x1024.Idx → Elt F .f32 :=
  k1_pay1 (scoreOf X Y W)
def indexBlk (X : S1x16x32x1024.Idx → Elt F .f32) (Y : S1x16x1024.Idx → Elt F .f32) (W : S1x16.Idx → Elt F .f32) : S1x1x1024.Idx → Elt F .i32 :=
  k1_pay2 (sumTo X Y W 15)

/-! ## Reading one head -/

variable (c : Dev nD) (E : Set ℕ)
  {M0 : Memref sig .tc .vmem S1x16x32x1024 .f32} {M1 : Memref sig .tc .vmem S1x16x1024 .f32} {M2 : Memref sig .tc .smem S1x16 .f32}

theorem wp_sim {X : S1x16x32x1024.Idx → Elt F .f32} (h : ℕ) (hh : h < 16) {off : Fin 4 → ℕ} {inb : ∀ a, off a + S1x1x32x1024.size a ≤ S1x16x32x1024.size a}
    {hl : M0.view.LoadsAt (Rect.unit (s := S1x16x32x1024) off S1x1x32x1024.size inb).toLoadRect}
    {Q : Vec F S1x1x32x1024 .f32 → sProp (MT nD τ sig (HIx 1) (Elt F) ℕ Tile.UU ℕ)} (ho : off = ![0, h, 0, 0]) :
    (owns (c : Thread nD τ) M0 fullShare X : sProp 𝕄) ⊢ iprop(((owns (c : Thread nD τ) M0 fullShare X : sProp 𝕄) -∗ Q (simOf X h))
        -∗ wp frame (wpE (defs₀ (F := F)) Variants.none (c : Thread nD τ) none) E (Prog.lift (.load M0 (Rect.unit (s := S1x16x32x1024) off S1x1x32x1024.size inb).toLoadRect hl)) Q) := by
  subst ho
  unfold owns
  iintro ⟨%f, %hf, H⟩ Hk
  iapply (wp_load Variants.none (c : Thread nD τ) none E (Q := Q) (q := fullShare) (f := f) (S := M0.view.set) (M0.view.setOn_subset_set _)) $$ H
  iintro H
  have hr : M0.view.readAt (Elt F) (Rect.unit (s := S1x16x32x1024) ![0, h, 0, 0] S1x1x32x1024.size inb).toLoadRect f = simOf X h := by
    funext x
    rw [View.readAt_apply, hf]
    unfold simOf
    congr 1
    funext a
    refine Fin.ext ?_
    fin_cases a
    · show 0 + 1 * (x 0).val = 0
      have : (x 0).val < 1 := (x 0).isLt
      omega
    · show h + 1 * (x 1).val = h % 16
      have : (x 1).val < 1 := (x 1).isLt
      rw [Nat.mod_eq_of_lt hh]
      omega
    · show 0 + 1 * (x 2).val = (x 2).val
      omega
    · show 0 + 1 * (x 3).val = (x 3).val
      omega
  rw [hr, wp_ret]
  imodintro
  iapply Hk
  iexists f
  isplitr [H]
  · ipureintro; exact hf
  · iexact H

theorem wp_thr {Y : S1x16x1024.Idx → Elt F .f32} (h : ℕ) (hh : h < 16) {off : Fin 3 → ℕ} {inb : ∀ a, off a + S1x1x1024.size a ≤ S1x16x1024.size a}
    {hl : M1.view.LoadsAt (Rect.unit (s := S1x16x1024) off S1x1x1024.size inb).toLoadRect}
    {Q : Vec F S1x1x1024 .f32 → sProp (MT nD τ sig (HIx 1) (Elt F) ℕ Tile.UU ℕ)} (ho : off = ![0, h, 0]) :
    (owns (c : Thread nD τ) M1 fullShare Y : sProp 𝕄) ⊢ iprop(((owns (c : Thread nD τ) M1 fullShare Y : sProp 𝕄) -∗ Q (thrOf Y h))
        -∗ wp frame (wpE (defs₀ (F := F)) Variants.none (c : Thread nD τ) none) E (Prog.lift (.load M1 (Rect.unit (s := S1x16x1024) off S1x1x1024.size inb).toLoadRect hl)) Q) := by
  subst ho
  unfold owns
  iintro ⟨%f, %hf, H⟩ Hk
  iapply (wp_load Variants.none (c : Thread nD τ) none E (Q := Q) (q := fullShare) (f := f) (S := M1.view.set) (M1.view.setOn_subset_set _)) $$ H
  iintro H
  have hr : M1.view.readAt (Elt F) (Rect.unit (s := S1x16x1024) ![0, h, 0] S1x1x1024.size inb).toLoadRect f = thrOf Y h := by
    funext x
    rw [View.readAt_apply, hf]
    unfold thrOf
    congr 1
    funext a
    refine Fin.ext ?_
    fin_cases a
    · show 0 + 1 * (x 0).val = 0
      have : (x 0).val < 1 := (x 0).isLt
      omega
    · show h + 1 * (x 1).val = h % 16
      have : (x 1).val < 1 := (x 1).isLt
      rw [Nat.mod_eq_of_lt hh]
      omega
    · show 0 + 1 * (x 2).val = (x 2).val
      omega
  rw [hr, wp_ret]
  imodintro
  iapply Hk
  iexists f
  isplitr [H]
  · ipureintro; exact hf
  · iexact H

theorem wp_weight {W : S1x16.Idx → Elt F .f32} (h : ℕ) (hh : h < 16) {off : Fin 2 → ℕ} {inb : ∀ a, off a + S1x1.size a ≤ S1x16.size a}
    {hn : (Rect.unit (s := S1x16) off S1x1.size inb).shape.numel = 1} {hp : EltTy.f32.packing = 1}
    {Q : Elt F .f32 → sProp (MT nD τ sig (HIx 1) (Elt F) ℕ Tile.UU ℕ)} (ho : off = ![0, h]) :
    (owns (c : Thread nD τ) M2 fullShare W : sProp 𝕄) ⊢ iprop(((owns (c : Thread nD τ) M2 fullShare W : sProp 𝕄) -∗ Q (weightOf W h))
        -∗ wp frame (wpE (defs₀ (F := F)) Variants.none (c : Thread nD τ) none) E (smemLoad M2 (Rect.unit (s := S1x16) off S1x1.size inb) hn hp) Q) := by
  subst ho
  unfold owns
  iintro ⟨%f, %hf, H⟩ Hk
  iapply (wp_smemLoadElt Variants.none (c : Thread nD τ) none E (Q := Q) (m := M2) (r := Rect.unit (s := S1x16) ![0, h] S1x1.size inb) (q := fullShare) (f := f) (S := M2.view.set) (View.set_slice_subset M2.view _)) $$ H
  iintro H
  have hr : ∀ x, (M2.access (Rect.unit (s := S1x16) ![0, h] S1x1.size inb)).read (Elt F) f x = weightOf W h := by
    intro x
    have e : (M2.access (Rect.unit (s := S1x16) ![0, h] S1x1.size inb)).read (Elt F) f x = M2.view.read (Elt F) f ((Rect.unit (s := S1x16) ![0, h] S1x1.size inb).emb x) := rfl
    rw [e, hf]
    unfold weightOf
    congr 1
    funext a
    refine Fin.ext ?_
    fin_cases a
    · show 0 + 1 * (x 0).val = 0
      have : (x 0).val < 1 := (x 0).isLt
      omega
    · show h + 1 * (x 1).val = h % 16
      have : (x 1).val < 1 := (x 1).isLt
      rw [Nat.mod_eq_of_lt hh]
      omega
  rw [hr, wp_ret]
  imodintro
  iapply Hk
  iexists f
  isplitr [H]
  · ipureintro; exact hf
  · iexact H

/-- Storing a whole block of one row. -/
theorem wp_row {e : EltTy} {M : Memref sig .tc .vmem S1x1x1024 e} {g w : S1x1x1024.Idx → Elt F e} {inb : ∀ a, (![0, 0, 0] : Fin 3 → ℕ) a + S1x1x1024.size a ≤ S1x1x1024.size a}
    {hx : (M.access (Rect.unit (s := S1x1x1024) ![0, 0, 0] S1x1x1024.size inb)).Stores Finset.univ}
    {hm : (Finset.univ : Finset (Rect.unit (s := S1x1x1024) ![0, 0, 0] S1x1x1024.size inb).shape.Idx) = Finset.univ ∨ ∀ a, (Rect.unit (s := S1x1x1024) ![0, 0, 0] S1x1x1024.size inb).stride a = 1}
    {Q : PUnit → sProp (MT nD τ sig (HIx 1) (Elt F) ℕ Tile.UU ℕ)} :
    (owns (c : Thread nD τ) M fullShare g : sProp 𝕄) ⊢ iprop(((owns (c : Thread nD τ) M fullShare w : sProp 𝕄) -∗ Q ⟨⟩)
        -∗ wp frame (wpE (defs₀ (F := F)) Variants.none (c : Thread nD τ) none) E (Prog.lift (.store M (Rect.unit (s := S1x1x1024) ![0, 0, 0] S1x1x1024.size inb) w Finset.univ hx hm)) Q) := by
  unfold owns
  iintro ⟨%f, %hf, H⟩ Hk
  iapply (wp_store Variants.none (c : Thread nD τ) none E (Q := Q) (m := M) (r := Rect.unit (s := S1x1x1024) ![0, 0, 0] S1x1x1024.size inb) (Mk := Finset.univ) (w := w)
    (hx := hx) (hm := hm) (f := f) (S := M.view.set) (M.view.set_slice_subset _)) $$ H
  iintro H
  rw [wp_ret]
  imodintro
  iapply Hk
  iexists ((M.access (Rect.unit (s := S1x1x1024) ![0, 0, 0] S1x1x1024.size inb)).write (Elt F) f w Finset.univ)
  isplitr [H]
  · ipureintro
    funext j
    have hj : (Rect.unit (s := S1x1x1024) ![0, 0, 0] S1x1x1024.size inb).emb j = j := by
      funext a
      refine Fin.ext ?_
      fin_cases a
      · show 0 + 1 * (j 0).val = (j 0).val
        omega
      · show 0 + 1 * (j 1).val = (j 1).val
        omega
      · show 0 + 1 * (j 2).val = (j 2).val
        omega
    have := View.read_slice_write_emb (v := M.view) (Rect.unit (s := S1x1x1024) ![0, 0, 0] S1x1x1024.size inb) f w (M := Finset.univ) (x := j) (Finset.mem_univ _)
    rw [hj] at this
    exact this
  · iexact H

/-- Reading a block of one row, the value unused. -/
theorem wp_skip {e : EltTy} {M : Memref sig .tc .vmem S1x1x1024 e} {g : S1x1x1024.Idx → Elt F e} {r : Rect S1x1x1024} {hl : M.view.LoadsAt r.toLoadRect}
    {Q : (r.shape.Idx → Elt F e) → sProp (MT nD τ sig (HIx 1) (Elt F) ℕ Tile.UU ℕ)} :
    (owns (c : Thread nD τ) M fullShare g : sProp 𝕄) ⊢ iprop((∀ x, (owns (c : Thread nD τ) M fullShare g : sProp 𝕄) -∗ Q x)
        -∗ wp frame (wpE (defs₀ (F := F)) Variants.none (c : Thread nD τ) none) E (Prog.lift (.load M r.toLoadRect hl)) Q) := by
  unfold owns
  iintro ⟨%f, %hf, H⟩ Hk
  iapply (wp_load Variants.none (c : Thread nD τ) none E (Q := Q) (q := fullShare) (f := f) (S := M.view.set) (M.view.setOn_subset_set _)) $$ H
  iintro H
  rw [wp_ret]
  imodintro
  iapply Hk
  iexists f
  isplitr [H]
  · ipureintro; exact hf
  · iexact H

/-! ## The parts -/

variable {i : grid1.Coords} {X : S1x16x32x1024.Idx → Elt F .f32} {Y : S1x16x1024.Idx → Elt F .f32} {W : S1x16.Idx → Elt F .f32}
  {h0 : M0.IsWhole} {h1 : M1.IsWhole} {h2 : M2.IsWhole}
  {M3 : Memref sig .tc .vmem S1x1x1024 .f32} {h3 : M3.IsWhole} {M4 : Memref sig .tc .vmem S1x1x1024 .i32} {h4 : M4.IsWhole}

/-- The three input blocks owned. -/
def ins (c : Dev nD) (M0 : Memref sig .tc .vmem S1x16x32x1024 .f32) (M1 : Memref sig .tc .vmem S1x16x1024 .f32) (M2 : Memref sig .tc .smem S1x16 .f32)
    (X : S1x16x32x1024.Idx → Elt F .f32) (Y : S1x16x1024.Idx → Elt F .f32) (W : S1x16.Idx → Elt F .f32) : sProp (MT nD τ sig (HIx 1) (Elt F) ℕ Tile.UU ℕ) :=
  iprop(owns (c : Thread nD τ) M0 fullShare X ∗ owns (c : Thread nD τ) M1 fullShare Y ∗ owns (c : Thread nD τ) M2 fullShare W)

theorem run1 {Q : (Σ' (_ : FVec F S32x1024 .f32), FVec F S32x1024 .bf16) → sProp (MT nD τ sig (HIx 1) (Elt F) ℕ Tile.UU ℕ)} :
    iprop(ins c M0 M1 M2 X Y W ∗ (ins c M0 M1 M2 X Y W -∗ Q ⟨sumTo X Y W 1, diff X Y 2⟩))
      ⊢ wp (M := 𝕄) frame (wpE (defs₀ (F := F)) Variants.none (c : Thread nD τ) none) E (k1_part1 i M0 h0 M1 h1 M2 h2 M3 h3 M4 h4) Q := by
  rw [k1_part1_eq_skeleton]
  unfold k1_part1_skel ins
  simp only [wp_bind, wp_pure]
  iintro ⟨⟨HX, HY, HW⟩, Hk⟩
  iapply (wp_sim c E 0 (by decide) rfl) $$ HX
  iintro HX
  iapply (wp_thr c E 0 (by decide) rfl) $$ HY
  iintro HY
  iapply (wp_weight c E 0 (by decide) rfl) $$ HW
  iintro HW
  iapply (wp_sim c E 1 (by decide) rfl) $$ HX
  iintro HX
  iapply (wp_thr c E 1 (by decide) rfl) $$ HY
  iintro HY
  iapply (wp_weight c E 1 (by decide) rfl) $$ HW
  iintro HW
  iapply (wp_sim c E 2 (by decide) rfl) $$ HX
  iintro HX
  iapply (wp_thr c E 2 (by decide) rfl) $$ HY
  iintro HY
  rw [show k1_pay3 (simOf X 0) (thrOf Y 0) (weightOf W 0) (simOf X 1) (thrOf Y 1) (weightOf W 1) = sumTo X Y W 1 from rfl,
    show k1_pay4 (simOf X 2) (thrOf Y 2) = diff X Y 2 from rfl]
  imodintro
  iapply Hk
  isplitl [HX]; · iexact HX
  isplitl [HY]; · iexact HY
  iexact HW

theorem run2 {Q : (Σ' (_ : FVec F S32x1024 .f32), FVec F S32x1024 .f32) → sProp (MT nD τ sig (HIx 1) (Elt F) ℕ Tile.UU ℕ)} :
    iprop(ins c M0 M1 M2 X Y W ∗ (ins c M0 M1 M2 X Y W -∗ Q ⟨sumTo X Y W 4, k1_pay6 (simOf X 5)⟩))
      ⊢ wp (M := 𝕄) frame (wpE (defs₀ (F := F)) Variants.none (c : Thread nD τ) none) E
        (k1_part2 i M0 h0 M1 h1 M2 h2 M3 h3 M4 h4 (sumTo X Y W 1) (diff X Y 2)) Q := by
  rw [k1_part2_eq_skeleton]
  unfold k1_part2_skel ins
  simp only [wp_bind, wp_pure]
  iintro ⟨⟨HX, HY, HW⟩, Hk⟩
  iapply (wp_weight c E 2 (by decide) rfl) $$ HW
  iintro HW
  iapply (wp_sim c E 3 (by decide) rfl) $$ HX
  iintro HX
  iapply (wp_thr c E 3 (by decide) rfl) $$ HY
  iintro HY
  iapply (wp_weight c E 3 (by decide) rfl) $$ HW
  iintro HW
  iapply (wp_sim c E 4 (by decide) rfl) $$ HX
  iintro HX
  iapply (wp_thr c E 4 (by decide) rfl) $$ HY
  iintro HY
  iapply (wp_weight c E 4 (by decide) rfl) $$ HW
  iintro HW
  iapply (wp_sim c E 5 (by decide) rfl) $$ HX
  iintro HX
  rw [show k1_pay5 (sumTo X Y W 1) (diff X Y 2) (weightOf W 2) (simOf X 3) (thrOf Y 3) (weightOf W 3) (simOf X 4) (thrOf Y 4) (weightOf W 4) = sumTo X Y W 4 from rfl]
  imodintro
  iapply Hk
  isplitl [HX]; · iexact HX
  isplitl [HY]; · iexact HY
  iexact HW

theorem run3 {Q : (FVec F S32x1024 .f32) → sProp (MT nD τ sig (HIx 1) (Elt F) ℕ Tile.UU ℕ)} :
    iprop(ins c M0 M1 M2 X Y W ∗ (ins c M0 M1 M2 X Y W -∗ Q (sumTo X Y W 7)))
      ⊢ wp (M := 𝕄) frame (wpE (defs₀ (F := F)) Variants.none (c : Thread nD τ) none) E
        (k1_part3 i M0 h0 M1 h1 M2 h2 M3 h3 M4 h4 (sumTo X Y W 4) (k1_pay6 (simOf X 5))) Q := by
  rw [k1_part3_eq_skeleton]
  unfold k1_part3_skel ins
  simp only [wp_bind, wp_pure]
  iintro ⟨⟨HX, HY, HW⟩, Hk⟩
  iapply (wp_thr c E 5 (by decide) rfl) $$ HY
  iintro HY
  iapply (wp_weight c E 5 (by decide) rfl) $$ HW
  iintro HW
  iapply (wp_sim c E 6 (by decide) rfl) $$ HX
  iintro HX
  iapply (wp_thr c E 6 (by decide) rfl) $$ HY
  iintro HY
  iapply (wp_weight c E 6 (by decide) rfl) $$ HW
  iintro HW
  iapply (wp_sim c E 7 (by decide) rfl) $$ HX
  iintro HX
  iapply (wp_thr c E 7 (by decide) rfl) $$ HY
  iintro HY
  iapply (wp_weight c E 7 (by decide) rfl) $$ HW
  iintro HW
  rw [show k1_pay7 (sumTo X Y W 4) (k1_pay6 (simOf X 5)) (thrOf Y 5) (weightOf W 5) (simOf X 6) (thrOf Y 6) (weightOf W 6) (simOf X 7) (thrOf Y 7) (weightOf W 7) = sumTo X Y W 7 from rfl]
  imodintro
  iapply Hk
  isplitl [HX]; · iexact HX
  isplitl [HY]; · iexact HY
  iexact HW

theorem run4 {Q : (Σ' (_ : FVec F S32x1024 .f32) (_ : FVec F S32x1024 .f32), Elt F .f32) → sProp (MT nD τ sig (HIx 1) (Elt F) ℕ Tile.UU ℕ)} :
    iprop(ins c M0 M1 M2 X Y W ∗ (ins c M0 M1 M2 X Y W -∗ Q ⟨sumTo X Y W 9, k1_pay9 (simOf X 10) (thrOf Y 10), weightOf W 10⟩))
      ⊢ wp (M := 𝕄) frame (wpE (defs₀ (F := F)) Variants.none (c : Thread nD τ) none) E
        (k1_part4 i M0 h0 M1 h1 M2 h2 M3 h3 M4 h4 (sumTo X Y W 7)) Q := by
  rw [k1_part4_eq_skeleton]
  unfold k1_part4_skel ins
  simp only [wp_bind, wp_pure]
  iintro ⟨⟨HX, HY, HW⟩, Hk⟩
  iapply (wp_sim c E 8 (by decide) rfl) $$ HX
  iintro HX
  iapply (wp_thr c E 8 (by decide) rfl) $$ HY
  iintro HY
  iapply (wp_weight c E 8 (by decide) rfl) $$ HW
  iintro HW
  iapply (wp_sim c E 9 (by decide) rfl) $$ HX
  iintro HX
  iapply (wp_thr c E 9 (by decide) rfl) $$ HY
  iintro HY
  iapply (wp_weight c E 9 (by decide) rfl) $$ HW
  iintro HW
  iapply (wp_sim c E 10 (by decide) rfl) $$ HX
  iintro HX
  iapply (wp_thr c E 10 (by decide) rfl) $$ HY
  iintro HY
  iapply (wp_weight c E 10 (by decide) rfl) $$ HW
  iintro HW
  rw [show k1_pay8 (sumTo X Y W 7) (simOf X 8) (thrOf Y 8) (weightOf W 8) (simOf X 9) (thrOf Y 9) (weightOf W 9) = sumTo X Y W 9 from rfl]
  imodintro
  iapply Hk
  isplitl [HX]; · iexact HX
  isplitl [HY]; · iexact HY
  iexact HW

theorem run5 {Q : (Σ' (_ : FVec F S32x1024 .f32) (_ : FVec F S32x1024 .f32), FVec F S32x1024 .f32) → sProp (MT nD τ sig (HIx 1) (Elt F) ℕ Tile.UU ℕ)} :
    iprop(ins c M0 M1 M2 X Y W ∗ (ins c M0 M1 M2 X Y W -∗ Q ⟨sumTo X Y W 12, k1_pay11 (simOf X 13), k1_pay12 (thrOf Y 13)⟩))
      ⊢ wp (M := 𝕄) frame (wpE (defs₀ (F := F)) Variants.none (c : Thread nD τ) none) E
        (k1_part5 i M0 h0 M1 h1 M2 h2 M3 h3 M4 h4 (sumTo X Y W 9) (k1_pay9 (simOf X 10) (thrOf Y 10)) (weightOf W 10)) Q := by
  rw [k1_part5_eq_skeleton]
  unfold k1_part5_skel ins
  simp only [wp_bind, wp_pure]
  iintro ⟨⟨HX, HY, HW⟩, Hk⟩
  iapply (wp_sim c E 11 (by decide) rfl) $$ HX
  iintro HX
  iapply (wp_thr c E 11 (by decide) rfl) $$ HY
  iintro HY
  iapply (wp_weight c E 11 (by decide) rfl) $$ HW
  iintro HW
  iapply (wp_sim c E 12 (by decide) rfl) $$ HX
  iintro HX
  iapply (wp_thr c E 12 (by decide) rfl) $$ HY
  iintro HY
  iapply (wp_weight c E 12 (by decide) rfl) $$ HW
  iintro HW
  iapply (wp_sim c E 13 (by decide) rfl) $$ HX
  iintro HX
  iapply (wp_thr c E 13 (by decide) rfl) $$ HY
  iintro HY
  rw [show k1_pay10 (sumTo X Y W 9) (k1_pay9 (simOf X 10) (thrOf Y 10)) (weightOf W 10) (simOf X 11) (thrOf Y 11) (weightOf W 11) (simOf X 12) (thrOf Y 12) (weightOf W 12) = sumTo X Y W 12 from rfl]
  imodintro
  iapply Hk
  isplitl [HX]; · iexact HX
  isplitl [HY]; · iexact HY
  iexact HW

theorem run6 {Q : (Σ' (_ : FVec F S32x1024 .f32), FVec F S1024 .f32) → sProp (MT nD τ sig (HIx 1) (Elt F) ℕ Tile.UU ℕ)} :
    iprop(ins c M0 M1 M2 X Y W ∗ (ins c M0 M1 M2 X Y W -∗ Q ⟨sumTo X Y W 15, scoreOf X Y W⟩))
      ⊢ wp (M := 𝕄) frame (wpE (defs₀ (F := F)) Variants.none (c : Thread nD τ) none) E
        (k1_part6 i M0 h0 M1 h1 M2 h2 M3 h3 M4 h4 (sumTo X Y W 12) (k1_pay11 (simOf X 13)) (k1_pay12 (thrOf Y 13))) Q := by
  rw [k1_part6_eq_skeleton]
  unfold k1_part6_skel ins
  simp only [wp_bind, wp_pure]
  iintro ⟨⟨HX, HY, HW⟩, Hk⟩
  iapply (wp_weight c E 13 (by decide) rfl) $$ HW
  iintro HW
  iapply (wp_sim c E 14 (by decide) rfl) $$ HX
  iintro HX
  iapply (wp_thr c E 14 (by decide) rfl) $$ HY
  iintro HY
  iapply (wp_weight c E 14 (by decide) rfl) $$ HW
  iintro HW
  iapply (wp_sim c E 15 (by decide) rfl) $$ HX
  iintro HX
  iapply (wp_thr c E 15 (by decide) rfl) $$ HY
  iintro HY
  iapply (wp_weight c E 15 (by decide) rfl) $$ HW
  iintro HW
  rw [show k1_pay13 (sumTo X Y W 12) (k1_pay11 (simOf X 13)) (k1_pay12 (thrOf Y 13)) (weightOf W 13) (simOf X 14) (thrOf Y 14) (weightOf W 14) (simOf X 15) (thrOf Y 15) (weightOf W 15) = sumTo X Y W 15 from rfl,
    show k1_pay14 (sumTo X Y W 12) (k1_pay11 (simOf X 13)) (k1_pay12 (thrOf Y 13)) (weightOf W 13) (simOf X 14) (thrOf Y 14) (weightOf W 14) (simOf X 15) (thrOf Y 15) (weightOf W 15) = scoreOf X Y W from rfl]
  imodintro
  iapply Hk
  isplitl [HX]; · iexact HX
  isplitl [HY]; · iexact HY
  iexact HW

/-- The body: from the three input blocks and any contents of the outputs', the outputs' blocks hold the scores and the indices. -/
theorem run_body (g3 g4) {Q : PUnit → sProp (MT nD τ sig (HIx 1) (Elt F) ℕ Tile.UU ℕ)} :
    iprop(ins c M0 M1 M2 X Y W ∗ owns (c : Thread nD τ) M3 fullShare g3 ∗ owns (c : Thread nD τ) M4 fullShare g4
        ∗ (ins c M0 M1 M2 X Y W ∗ owns (c : Thread nD τ) M3 fullShare (scoreBlk X Y W) ∗ owns (c : Thread nD τ) M4 fullShare (indexBlk X Y W) -∗ Q ⟨⟩))
      ⊢ wp (M := 𝕄) frame (wpE (defs₀ (F := F)) Variants.none (c : Thread nD τ) none) E (cc1__dense_body i M0 h0 M1 h1 M2 h2 M3 h3 M4 h4) Q := by
  rw [cc1__dense_body_eq_skeleton]
  unfold cc1__dense_body_skel
  simp only [wp_bind, wp_pure]
  iintro ⟨Hi, H3, H4, Hk⟩
  iapply (run1 c E)
  isplitl [Hi]; · iexact Hi
  iintro Hi
  iapply (run2 c E)
  isplitl [Hi]; · iexact Hi
  iintro Hi
  iapply (run3 c E)
  isplitl [Hi]; · iexact Hi
  iintro Hi
  iapply (run4 c E)
  isplitl [Hi]; · iexact Hi
  iintro Hi
  iapply (run5 c E)
  isplitl [Hi]; · iexact Hi
  iintro Hi
  iapply (run6 c E)
  isplitl [Hi]; · iexact Hi
  iintro Hi
  iapply (wp_skip c E) $$ H3
  iintro %_ H3
  iapply (wp_row c E) $$ H3
  iintro H3
  iapply (wp_skip c E) $$ H4
  iintro %_ H4
  iapply (wp_row c E) $$ H4
  iintro H4
  imodintro
  iapply Hk
  isplitl [Hi]; · iexact Hi
  isplitl [H3]; · iexact H3
  iexact H4

end Cert.Proof.Dense

end
-- ==== Proof.Region.lean ====
/-
  The TensorCore call as one region of the launch: from the arrays it reads, its results' arrays hold the blocks of scores and indices.
-/
module

public import proofs.«01_k».proof.Proof.Dense
public import proofs.«01_k».proof.Proof.Gen.KernelIdeal.Launch
public import Idealize.ShloMosaic.Lib.Pipeline.RegionArraysS
public import Idealize.ShloMosaic.Lib.Pipeline.ValueKit

@[expose] public section

noncomputable section

namespace Cert.Proof.Region

open Cert.KernelIdeal Cert.KernelIdeal.Gen Cert.Proof.Dense
open Idealize.ShloMosaic
open Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ Tile.UU ℕ

-- each device's arrays when the call is reached
variable (V : Dev nD → Valuation τ sig (Elt F))

/-- The blocks the call reads at point `t`. -/
def simBlk (c : Dev nD) (t : Fin cfg1.N) : S1x16x32x1024.Idx → Elt F .f32 := (win1_0.blk t).view.read (Elt F) (V c (Proc.devRef .tc main_v5))
def thrBlk (c : Dev nD) (t : Fin cfg1.N) : S1x16x1024.Idx → Elt F .f32 := (win1_1.blk t).view.read (Elt F) (V c (Proc.devRef .tc main_v4))
def weightBlk (c : Dev nD) (t : Fin cfg1.N) : S1x16.Idx → Elt F .f32 := (win1_2.blk t).view.read (Elt F) (V c (Proc.devRef .tc main_v7))

/-- What the call finds in its arrays and leaves in its staging buffers. -/
def dat (c : Dev nD) : Dat τ (Elt F) (HIx 1) ℕ Tile.UU ℕ cfg1 c where
  A w := V c (Proc.devRef .tc (Pipeline.arrRef spec1 w))
  after w t := match w with
    | ⟨0, _⟩ => simBlk V c t
    | ⟨1, _⟩ => thrBlk V c t
    | ⟨2, _⟩ => weightBlk V c t
    | ⟨3, _⟩ => scoreBlk (simBlk V c t) (thrBlk V c t) (weightBlk V c t)
    | ⟨4, _⟩ => indexBlk (simBlk V c t) (thrBlk V c t) (weightBlk V c t)
  Φ _ := BI.emp
  q _ := fullShare
  owed _ := 0

theorem before0 (c : Dev nD) (t : Fin cfg1.N) (d) : (dat V c).before 0 t d = simBlk V c t :=
  (dat V c).before_in_eq_fetched 0 rfl (fun _ => rfl) (fun _ _ _ => rfl) (fun _ => rfl) t d
theorem before1 (c : Dev nD) (t : Fin cfg1.N) (d) : (dat V c).before 1 t d = thrBlk V c t :=
  (dat V c).before_in_eq_fetched 1 rfl (fun _ => rfl) (fun _ _ _ => rfl) (fun _ => rfl) t d
theorem before2 (c : Dev nD) (t : Fin cfg1.N) (d) : (dat V c).before 2 t d = weightBlk V c t :=
  (dat V c).before_in_eq_fetched 2 rfl (fun _ => rfl) (fun _ _ _ => rfl) (fun _ => rfl) t d

/-- The body at every point. -/
theorem body_obligation (c : Dev nD) : BodyObligation (dat V c) (defs₀ (F := F)) Variants.none none Set.univ := fun t => by
  rw [bigSep_W1, bigSep_W1]
  rw [show (dat V c).owesAt none t.succ = (dat V c).owesAt none t.castSucc from rfl, show (dat V c).Φ t.succ = (dat V c).Φ t.castSucc from rfl]
  iintro ⟨HΦ, Howes, ⟨%d0, H0⟩, ⟨%d1, H1⟩, ⟨%d2, H2⟩, ⟨%d3, H3⟩, ⟨%d4, H4⟩⟩
  rw [before0, before1, before2]
  iapply (run_body (F := F) c Set.univ (X := simBlk V c t) (Y := thrBlk V c t) (W := weightBlk V c t) _ _)
  isplitl [H0 H1 H2]
  · unfold ins
    isplitl [H0]; · iexact H0
    isplitl [H1]; · iexact H1
    iexact H2
  isplitl [H3]; · iexact H3
  isplitl [H4]; · iexact H4
  unfold ins
  iintro ⟨⟨H0, H1, H2⟩, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The results' arrays -/

theorem index0 : ∀ t : Fin grid1.N, win1_0.index t = ![t.val / 8, 0, 0, t.val % 8] := by decide +kernel
theorem index1 : ∀ t : Fin grid1.N, win1_1.index t = ![t.val / 8, 0, t.val % 8] := by decide +kernel
theorem index2 : ∀ t : Fin grid1.N, win1_2.index t = ![0, 0] := by decide +kernel
theorem index3 : ∀ t : Fin grid1.N, win1_3.index t = ![t.val, 0, 0] := by decide +kernel
theorem index4 : ∀ t : Fin grid1.N, win1_4.index t = ![t.val, 0, 0] := by decide +kernel

/-- Point `n` of the grid, counted around. -/
def point (n : ℕ) : Fin cfg1.N := ⟨n % 32, by rw [show cfg1.N = 32 from N_1]; exact Nat.mod_lt _ (by decide)⟩

theorem point_self (t : Fin cfg1.N) : point t.val = t := Fin.ext (Nat.mod_eq_of_lt (lt_of_lt_of_eq t.isLt N_1))

/-- The scores' array and the indices' array after the call. -/
def scores (c : Dev nD) : Buf (Elt F) ((c.tc : Thread nD τ).loc main_v8_0) := fun i =>
  scoreBlk (simBlk V c (point (i 0).val)) (thrBlk V c (point (i 0).val)) (weightBlk V c (point (i 0).val)) (ValueIdx.ix3 (0 : Fin 1) (0 : Fin 1) (i 2))
def indices (c : Dev nD) : Buf (Elt F) ((c.tc : Thread nD τ).loc main_v8_1) := fun i =>
  indexBlk (simBlk V c (point (i 0).val)) (thrBlk V c (point (i 0).val)) (weightBlk V c (point (i 0).val)) (ValueIdx.ix3 (0 : Fin 1) (0 : Fin 1) (i 2))

theorem scores_at (c : Dev nD) (t : Fin cfg1.N) (y : S1x1x1024.Idx) (i : S32x1x1024.Idx) (h0 : (i 0).val = t.val) (h2 : (i 2).val = (y 2).val) :
    scoreBlk (simBlk V c t) (thrBlk V c t) (weightBlk V c t) y = scores V c i := by
  unfold scores
  rw [h0, point_self]
  refine congrArg _ (funext fun a => Fin.ext ?_)
  fin_cases a
  · show (y 0).val = 0
    have : (y 0).val < 1 := (y 0).isLt
    omega
  · show (y 1).val = 0
    have : (y 1).val < 1 := (y 1).isLt
    omega
  · exact h2.symm

theorem final3 (c : Dev nD) : (dat V c).arrAt 3 cfg1.N = scores V c := by
  refine (dat V c).arrAt_eq_of_covers 3 _ (by decide +kernel) fun t hf y => ?_
  have e0 : ((((cfg1.win 3).blk t).view.emb y) (0 : Fin 3)).val = t.val := by
    blk_simp [index3]
  have e2 : ((((cfg1.win 3).blk t).view.emb y) (2 : Fin 3)).val = (y (2 : Fin 3)).val := by
    blk_simp [index3]
  exact scores_at V c t y _ e0 e2

theorem indices_at (c : Dev nD) (t : Fin cfg1.N) (y : S1x1x1024.Idx) (i : S32x1x1024.Idx) (h0 : (i 0).val = t.val) (h2 : (i 2).val = (y 2).val) :
    indexBlk (simBlk V c t) (thrBlk V c t) (weightBlk V c t) y = indices V c i := by
  unfold indices
  rw [h0, point_self]
  refine congrArg _ (funext fun a => Fin.ext ?_)
  fin_cases a
  · show (y 0).val = 0
    have : (y 0).val < 1 := (y 0).isLt
    omega
  · show (y 1).val = 0
    have : (y 1).val < 1 := (y 1).isLt
    omega
  · exact h2.symm

theorem final4 (c : Dev nD) : (dat V c).arrAt 4 cfg1.N = indices V c := by
  refine (dat V c).arrAt_eq_of_covers 4 _ (by decide +kernel) fun t hf y => ?_
  have e0 : ((((cfg1.win 4).blk t).view.emb y) (0 : Fin 3)).val = t.val := by
    blk_simp [index4]
  have e2 : ((((cfg1.win 4).blk t).view.emb y) (2 : Fin 3)).val = (y (2 : Fin 3)).val := by
    blk_simp [index4]
  exact indices_at V c t y _ e0 e2

/-! ## The blocks at coordinates -/

theorem simBlk_at (c : Dev nD) (t : Fin cfg1.N) (h : Fin 16) (k : Fin 32) (j : Fin 1024) (b : Fin 4) (n : Fin 8192) (hb : b.val = t.val / 8) (hn : n.val = t.val % 8 * 1024 + j.val) :
    simBlk V c t (ValueIdx.ix4 (0 : Fin 1) h k j) = V c (Proc.devRef .tc main_v5) (ValueIdx.ix4 b h k n) := by
  unfold simBlk
  blk_simp
  refine congrArg _ (funext fun a => Fin.ext ?_)
  fin_cases a
  · blk_simp [index0]; exact hb.symm
  · blk_simp [index0]
  · blk_simp [index0]
  · blk_simp [index0]; exact hn.symm

theorem thrBlk_at (c : Dev nD) (t : Fin cfg1.N) (h : Fin 16) (j : Fin 1024) (b : Fin 4) (n : Fin 8192) (hb : b.val = t.val / 8) (hn : n.val = t.val % 8 * 1024 + j.val) :
    thrBlk V c t (ValueIdx.ix3 (0 : Fin 1) h j) = V c (Proc.devRef .tc main_v4) (ValueIdx.ix3 b h n) := by
  unfold thrBlk
  blk_simp
  refine congrArg _ (funext fun a => Fin.ext ?_)
  fin_cases a
  · blk_simp [index1]; exact hb.symm
  · blk_simp [index1]
  · blk_simp [index1]; exact hn.symm

theorem weightBlk_at (c : Dev nD) (t : Fin cfg1.N) (h : Fin 16) :
    weightBlk V c t (ValueIdx.ix2 (0 : Fin 1) h) = V c (Proc.devRef .tc main_v7) (ValueIdx.ix2 (0 : Fin 1) h) := by
  unfold weightBlk
  blk_simp
  refine congrArg _ (funext fun a => Fin.ext ?_)
  fin_cases a
  · blk_simp [index2]
  · blk_simp [index2]

end Cert.Proof.Region

end
-- ==== Proof.Segment.lean ====
/-
  The TensorCore call as a step of the host's program: from the TensorCore's arrays at one valuation to the same arrays with the
  call's results written.
-/
module

public import proofs.«01_k».proof.Proof.Region

@[expose] public section

noncomputable section

namespace Cert.Proof.Segment

open Cert.KernelIdeal Cert.KernelIdeal.Gen Cert.Proof.Region
open Idealize.ShloMosaic
open Idealize.ShloMosaic.TcCoe
open Idealize.ShloMosaic.SparseCore (T)
open Idealize.ShloMosaic.SparseCore.Cfg (HIx)
open Idealize.ShloMosaic.Pipeline (Dat)
open Idealize.ShloMosaic.Rounds
open Idealize.SL Idealize.SL.RA Idealize.SL.BI
open scoped Idealize.SL.BI
open Idealize.SL.BI.BIBase Idealize.SL.BI.Laws Idealize.SL.ProofMode Idealize.SL.Sem
open Cert.Proof.Tile (UU UP UH 𝒱₀ D K 𝒱)

variable {F : FTy → Type}

local notation "𝕄" => MT nD τ sig (HIx 1) (Elt F) ℕ UU ℕ

/-- A TensorCore array as a buffer of its device. -/
abbrev dr (b : Ref sig .tc) : DevRef τ sig := Proc.devRef .tc b

/-- The TensorCore's arrays. -/
abbrev arrs : Finset (Ref sig .tc) := {main_arg0, main_arg1, main_arg2, main_arg3, main_arg4, main_v0, main_v1, main_v2, main_v3, main_v4, main_v5, main_v6, main_v7, main_v8_0, main_v8_1, main_v9, main_v10, main_v11, main_v12}
abbrev SA : Finset (DevRef τ sig) := {dr main_arg0, dr main_arg1, dr main_arg2, dr main_arg3, dr main_arg4, dr main_v0, dr main_v1, dr main_v2, dr main_v3, dr main_v4, dr main_v5, dr main_v6, dr main_v7, dr main_v8_0, dr main_v8_1, dr main_v9, dr main_v10, dr main_v11, dr main_v12}

/-- The pipeline's share of the ghost state. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP; infer_instance

abbrev adm : (p : Fin 1) → (pcfgs (F := F) p).Adm := fun p => (cfgs p).toPCfg_adm

variable [FloatOps F]

variable (V : Dev nD → Valuation τ sig (Elt F))

abbrev dats : (p : Fin 1) → (c : Dev nD) → Dat τ (Elt F) (HIx 1) ℕ UU ℕ (Pipeline.pin (pcfgs (F := F)) adm p) c := fun _ c => dat V c

theorem cut : Pipeline.LevelCut (nD := nD) (τ := τ) (pcfgs (F := F)) adm (none : HIx 1) (K (F := F)).L (K (F := F)).lev 0 (fun _ => 0) (fun _ => 0) where
  hι _ _ _ := Finset.mem_univ _
  hιb _ _ _ := le_of_eq (SparseCore.Cfg.lev_none _ _)
  hD _ _ _ h := absurd h (Nat.lt_irrefl 0)

def seg : Pipeline.RegionSeg (pcfgs (F := F)) adm (dats V) (none : HIx 1) (defs₀ (F := F)) 𝒱₀ (K (F := F)).L (K (F := F)).lev 0 :=
  Pipeline.RegionSeg.ofHeldIn (pcfgs (F := F)) adm (dats V) none (defs₀ (F := F)) 𝒱₀ (K (F := F)).L (K (F := F)).lev 0 (fun _ => 0) SA
    (fun _ => iprop(emp)) (fun _ => iprop(emp)) launch1.toP rfl (fun c => (body_obligation V c).loose) (fun _ _ => rfl) (fun _ => rfl) (fun _ w => by match w with | 0 => rfl | 1 => rfl | 2 => rfl | 3 => rfl | 4 => rfl)
    (fun c => by rw [show Pipeline.scopedRest (Pipeline.pin (pcfgs (F := F)) adm 0).spec c = _ from scopedRest1_eq c]; exact sep_elim_left) (fun c => by rw [show Pipeline.scopedRest (Pipeline.pin (pcfgs (F := F)) adm 0).spec c = _ from scopedRest1_eq c]; exact by iintro _; isplit <;> iempintro) (fun _ => 0) cut (fun _ => iprop(emp)) V (fun _ _ => rfl)

/-- The arrays after the call. -/
def after (c : Dev nD) : Valuation τ sig (Elt F) := Pipeline.afterRegion (dat V c) (V c)

theorem after_scores (c : Dev nD) : after V c (dr main_v8_0) = scores V c :=
  (Pipeline.afterRegion_arr (dat V c) (V c) winFacts1.arr_inj 3).trans (final3 V c)
theorem after_indices (c : Dev nD) : after V c (dr main_v8_1) = indices V c :=
  (Pipeline.afterRegion_arr (dat V c) (V c) winFacts1.arr_inj 4).trans (final4 V c)

/-- Every array but the call's two results keeps its contents. -/
theorem after_keeps (c : Dev nD) (r : Ref sig .tc) (h : r ≠ main_v8_0 ∧ r ≠ main_v8_1) : after V c (dr r) = V c (dr r) :=
  Pipeline.afterRegion_keeps (dat V c) (V c) winFacts1.arr_inj (fun _ => rfl) r fun w e => by
    match w with
    | 0 => rfl
    | 1 => rfl
    | 2 => rfl
    | 3 => exact absurd e.symm h.1
    | 4 => exact absurd e.symm h.2

/-- The pipeline's ghost state that the call takes. -/
def ghost (c : Dev nD) : sProp 𝕄 := iprop(Pipeline.cellsGhost (Pipeline.pin (pcfgs (F := F)) adm) EP 0 c ∗ Pipeline.toksInit (Pipeline.pin (pcfgs (F := F)) adm) EP 0 c)

theorem arrs_sub : Pipeline.arrRefs (τ := τ) spec1 ⊆ SA := by decide +kernel

theorem seg_pre (c : Dev nD) : (iprop(StableHlo.held (T c) SA (V c) ∗ (∃ W, owes (T c) (0 : CellTallies nD τ sig (HIx 1)) W) ∗ emp ∗ emp) : sProp 𝕄) ⊢ (seg V).pre c :=
  by unfold seg; exact Pipeline.RegionSeg.ofHeldIn_pre (pcs := pcfgs (F := F)) (a := adm) (pdats := dats V) (p := 0) (S := SA) (W := V) (D := fun _ => 0) (X := fun _ => iprop(emp)) (Y := fun _ => iprop(emp)) (R := fun _ => iprop(emp)) arrs_sub c
theorem seg_post (c : Dev nD) : (seg V).post c ⊢ iprop(StableHlo.held (T c) SA (after V c) ∗ (∃ W, owes (T c) (0 : CellTallies nD τ sig (HIx 1)) W) ∗ emp ∗ emp) :=
  Pipeline.RegionSeg.ofHeldIn_post (pcs := pcfgs (F := F)) (a := adm) (pdats := dats V) (p := 0) (S := SA) (W := V) arrs_sub c

/-- The call under the kernels' own body table. -/
theorem wp_entry [∀ e, Nonempty (Elt F e)] (c : Dev nD) (Q : PUnit → sProp (MT nD τ sig (HIx 1) (Elt F) ℕ UU ℕ)) :
    iprop((iprop(boundary (T c) ∗ (seg V).post c) -∗ wp frame (wpE (D (F := F)) 𝒱 (T c) none) Set.univ (.ret ⟨⟩) Q)
        ∗ boundary (T c) ∗ (seg V).pre c ∗ levAts (K (F := F)).L (K (F := F)).lev ∗ ghost c)
      ⊢ wp frame (wpE (D (F := F)) 𝒱 (T c) none) Set.univ (.op (.customCall (Pipeline.entry (0 : Fin 1)) ()) fun _ => .ret ⟨⟩) Q := by
  have hinj : Function.Injective (Pipeline.cellOf (nD := nD) (τ := τ) (Pipeline.pin (pcfgs (F := F)) adm)) := cellOf_inj
  have hw := Pipeline.RegionSeg.wp (pcfgs (F := F)) adm (dats V) (none : HIx 1) hinj EP (defs₀ (F := F)) 𝒱₀ (K (F := F)).L (K (F := F)).lev (seg V) c none (fun _ h => nomatch h) (fun _ => .ret ⟨⟩) Q
  unfold ghost
  exact hw

theorem enter [∀ e, Nonempty (Elt F e)] (c : Dev nD) (Q : PUnit → sProp (MT nD τ sig (HIx 1) (Elt F) ℕ UU ℕ)) :
    iprop((boundary (T c) -∗ StableHlo.held (T c) SA (after V c) -∗ (∃ W, owes (T c) (0 : CellTallies nD τ sig (HIx 1)) W) -∗ Q ⟨⟩)
        ∗ boundary (T c) ∗ StableHlo.held (T c) SA (V c) ∗ (∃ W, owes (T c) (0 : CellTallies nD τ sig (HIx 1)) W) ∗ levAts (K (F := F)).L (K (F := F)).lev ∗ ghost c)
      ⊢ iprop((iprop(boundary (T c) ∗ (seg V).post c) -∗ wp frame (wpE (D (F := F)) 𝒱 (T c) none) Set.univ (.ret ⟨⟩) Q)
        ∗ boundary (T c) ∗ (seg V).pre c ∗ levAts (K (F := F)).L (K (F := F)).lev ∗ ghost c) := by
  iintro ⟨Hk, Hb, Hheld, HO, Hlev, Hg⟩
  isplitl [Hk]
  · iintro ⟨Hb, Hpost⟩
    ihave H := (seg_post V c) $$ Hpost
    icases H with ⟨Hheld, HO, -, -⟩
    rw [wp_ret]
    imodintro
    iapply Hk $$ Hb Hheld HO
  isplitl [Hb]; · iexact Hb
  isplitl [Hheld HO]
  · iapply (seg_pre V c)
    isplitl [Hheld]; · iexact Hheld
    isplitl [HO]; · iexact HO
    isplit <;> iempintro
  isplitl [Hlev]; · iexact Hlev
  iexact Hg

/-- The call in the host's program. -/
theorem wp_call [∀ e, Nonempty (Elt F e)] (c : Dev nD) (Q : PUnit → sProp (MT nD τ sig (HIx 1) (Elt F) ℕ UU ℕ)) :
    iprop((boundary (T c) -∗ StableHlo.held (T c) SA (after V c) -∗ (∃ W, owes (T c) (0 : CellTallies nD τ sig (HIx 1)) W) -∗ Q ⟨⟩)
        ∗ boundary (T c) ∗ StableHlo.held (T c) SA (V c) ∗ (∃ W, owes (T c) (0 : CellTallies nD τ sig (HIx 1)) W) ∗ levAts (K (F := F)).L (K (F := F)).lev ∗ ghost c)
      ⊢ wp frame (wpE ((K (F := F)).defs (D (F := F))) 𝒱 (T c) none) Set.univ (Prog.lift (.customCall (SparseCore.inner (Pipeline.entry 0)) ())) Q := by
  have hl := (K (F := F)).wp_liftProg (N := 1) (Name := ℕ) (U := UU) (D (F := F)) 𝒱 (T c) Set.univ none (.op (.customCall (Pipeline.entry (0 : Fin 1)) ()) fun _ => .ret ⟨⟩) Q
  refine Idealize.SL.BI.Entails.trans ?_ ((wp_entry V c Q).trans hl)
  exact enter V c Q

end Cert.Proof.Segment

end
-- ==== Proof.Launch.lean ====
/-
  The whole program: the host's reshapes, the SparseCore call, the TensorCore call on its result, and the host's reshapes of the results.
-/
module

public import proofs.«01_k».proof.Proof.Split
public import proofs.«01_k».proof.Proof.Segment
public import Idealize.ShloMosaic.Lib.SparseCore.Quiescent
public import Idealize.ShloMosaic.Lib.StableHlo.Run

@[expose] public section

noncomputable section

namespace Cert.Proof.Launch

open Cert.KernelIdeal Cert.KernelIdeal.Gen
open Idealize.ShloMosaic Idealize.ShloMosaic.Transfers Cert.Proof.Bodies Cert.Proof.Tile Cert.Proof.Split
open Cert.Proof.Segment (dr arrs SA EP adm ghost)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)

variable {F : FTy → Type}

local notation "𝕄" => MT nD τ sig (HIx 1) (Elt F) ℕ UU ℕ

/-! ## The arrays along the program -/

abbrev op0 : HloOp τ sig (Elt F) := StableHlo.reshape main_arg0 main_v0 (rfl : (.i32 : EltTy) = .i32) shapeCasts_S4x16x8192_S64x8192
abbrev op1 : HloOp τ sig (Elt F) := StableHlo.reshape main_v0 main_v1 (rfl : (.i32 : EltTy) = .i32) shapeCasts_S64x8192_S524288
abbrev op2 : HloOp τ sig (Elt F) := StableHlo.reshape main_arg3 main_v2 (rfl : (.f32 : EltTy) = .f32) shapeCasts_S16x8192_S131072
abbrev op4 : HloOp τ sig (Elt F) := StableHlo.reshape main_v3 main_v4 (rfl : (.f32 : EltTy) = .f32) shapeCasts_S524288_S4x16x8192
abbrev op5 : HloOp τ sig (Elt F) := StableHlo.unary main_arg1 main_v5 ((transpose S4x16x32x8192 [0, 1, 3, 2] · transposes_S4x16x8192x32_S4x16x32x8192_0_1_3_2) : (⟨S4x16x8192x32, .f32⟩ : BufTy).Contents (Elt F) → (⟨S4x16x32x8192, .f32⟩ : BufTy).Contents (Elt F))
abbrev op9 : HloOp τ sig (Elt F) := StableHlo.reshape main_v8_0 main_v9 (rfl : (.f32 : EltTy) = .f32) shapeCasts_S32x1x1024_S4x8192
abbrev op10 : HloOp τ sig (Elt F) := StableHlo.reshape main_v8_1 main_v10 (rfl : (.i32 : EltTy) = .i32) shapeCasts_S32x1x1024_S4x8192
abbrev op11 : HloOp τ sig (Elt F) := StableHlo.unary main_v9 main_v11 (broadcastInDim S4x8192x1 ![0, 1] bcast_S4x8192_S4x8192x1_0_1 : (⟨S4x8192, .f32⟩ : BufTy).Contents (Elt F) → (⟨S4x8192x1, .f32⟩ : BufTy).Contents (Elt F))
abbrev op12 : HloOp τ sig (Elt F) := StableHlo.unary main_v4 main_v12 (broadcastInDim S4x16x8192x1 ![0, 1, 2] bcast_S4x16x8192_S4x16x8192x1_0_1_2 : (⟨S4x16x8192, .f32⟩ : BufTy).Contents (Elt F) → (⟨S4x16x8192x1, .f32⟩ : BufTy).Contents (Elt F))
abbrev op6 [FloatOps F] : HloOp τ sig (Elt F) := StableHlo.unary main_arg4 main_v6 ((truncf .bf16 · bitsLt_bf16_f32) : (⟨S1x16, .f32⟩ : BufTy).Contents (Elt F) → (⟨S1x16, .bf16⟩ : BufTy).Contents (Elt F))
abbrev op7 [FloatOps F] : HloOp τ sig (Elt F) := StableHlo.unary main_v6 main_v7 ((extf .f32 · bitsLt_bf16_f32) : (⟨S1x16, .bf16⟩ : BufTy).Contents (Elt F) → (⟨S1x16, .f32⟩ : BufTy).Contents (Elt F))

section

variable (m : (ℓ : Loc nD τ sig) → Buf (Elt F) ℓ) (ρ : Dev nD → PrngReg) (d : Dev nD)

/-- The arrays at launch; when the SparseCore call begins; when it has ended; -/
def V0 : Valuation τ sig (Elt F) := fun b => m (d, b)
def V3 : Valuation τ sig (Elt F) := (op2 (F := F)).result ((op1 (F := F)).result ((op0 (F := F)).result (V0 m d)))
abbrev X : Buf (Elt F) (xLoc d) := V3 m d (dr main_v1)
abbrev Y : Buf (Elt F) (tLoc d) := V3 m d (dr main_v2)
def V4 : Valuation τ sig (Elt F) := Function.update (V3 m d) (dr main_v3) (result (X m d) (Y m d))
/-- when the TensorCore call begins; when it has ended; at the end. -/
def V8 [FloatOps F] : Valuation τ sig (Elt F) := (op7 (F := F)).result ((op6 (F := F)).result ((op5 (F := F)).result ((op4 (F := F)).result (V4 m d))))
def V9 [FloatOps F] : Valuation τ sig (Elt F) := Segment.after (fun c => V8 m c) d
def V13 [FloatOps F] : Valuation τ sig (Elt F) := (op12 (F := F)).result ((op11 (F := F)).result ((op10 (F := F)).result ((op9 (F := F)).result (V9 m d))))

/-- The call's three arrays among the others. -/
theorem held_call (W : Valuation τ sig (Elt F)) : (StableHlo.held (T d) SA W : sProp 𝕄)
    = iprop(((xLoc d ↦{fullShare} W (dr main_v1)) ∗ (tLoc d ↦{fullShare} W (dr main_v2)) ∗ oLoc d ↦{fullShare} W (dr main_v3))
        ∗ StableHlo.held (T d) ({dr main_arg0, dr main_arg1, dr main_arg2, dr main_arg3, dr main_arg4, dr main_v0, dr main_v4, dr main_v5, dr main_v6, dr main_v7, dr main_v8_0, dr main_v8_1, dr main_v9, dr main_v10, dr main_v11, dr main_v12} : Finset (DevRef τ sig)) W) := by
  unfold StableHlo.held
  rw [show SA = {dr main_v1, dr main_v2, dr main_v3} ∪ ({dr main_arg0, dr main_arg1, dr main_arg2, dr main_arg3, dr main_arg4, dr main_v0, dr main_v4, dr main_v5, dr main_v6, dr main_v7, dr main_v8_0, dr main_v8_1, dr main_v9, dr main_v10, dr main_v11, dr main_v12} : Finset (DevRef τ sig)) by decide,
    SparseCore.bigSep_union' (by decide), SparseCore.bigSep_insert' (by decide), SparseCore.bigSep_insert' (by decide), bigSep_singleton]

theorem unscoped_held : (unscopedBufs d (fun b => m ((SparseCore.T d).loc b)) : sProp 𝕄) = StableHlo.held (T d) SA (V0 m d) := by
  unfold unscopedBufs StableHlo.held
  rw [show (Finset.univ.filter fun b : Ref sig .tc => ¬ b.isScoped) = arrs by decide,
    show SA = arrs.map ⟨dr, Proc.devRef_injective .tc⟩ by decide, bigSep_map]
  rfl

/-! ## What the call's threads are handed -/

theorem core_lt {q : Fin 1} (c : Fin ((K (F := F)).nCore q)) : c.val < 2 := match q, c with | 0, c => c.isLt
theorem sub_lt {q : Fin 1} (i : Fin ((K (F := F)).nSub q)) : i.val < 16 := match q, i with | 0, i => i.isLt

/-- Each SparseCore has its rows of the result and a read share of the operands; so has each tile. -/
def P : (K (F := F)).Pay (nD := nD) (Val := Elt F) (Name := ℕ) (U := UU) where
  st := fun _ d c => coreRes d (X m d) (Y m d) (shareTok fullShare 2 ⟨c.val, core_lt c⟩) (shareTok fullShare 2 ⟨c.val, core_lt c⟩) (V3 m d (dr main_v3)) c.val
  dn := fun _ d c => coreRes d (X m d) (Y m d) (shareTok fullShare 2 ⟨c.val, core_lt c⟩) (shareTok fullShare 2 ⟨c.val, core_lt c⟩) (result (X m d) (Y m d)) c.val
  go := fun _ d c i => tileRes d (X m d) (Y m d) (shareTok (shareTok fullShare 2 ⟨c.val, core_lt c⟩) 16 ⟨i.val, sub_lt i⟩)
    (shareTok (shareTok fullShare 2 ⟨c.val, core_lt c⟩) 16 ⟨i.val, sub_lt i⟩) (V3 m d (dr main_v3)) c.val i.val
  td := fun _ d c i => tileRes d (X m d) (Y m d) (shareTok (shareTok fullShare 2 ⟨c.val, core_lt c⟩) 16 ⟨i.val, sub_lt i⟩)
    (shareTok (shareTok fullShare 2 ⟨c.val, core_lt c⟩) 16 ⟨i.val, sub_lt i⟩) (result (X m d) (Y m d)) c.val i.val
  x := fun _ _ => iprop(emp)

instance P_storable : (P (F := F) m).IsStorable where
  st _ d c := by unfold P coreRes; infer_instance
  dn _ d c := by unfold P coreRes; infer_instance
  go _ _ _ _ := by unfold P tileRes; infer_instance
  td _ _ _ _ := by unfold P tileRes; infer_instance

/-! ## The launch theorem's obligations -/

variable [FloatOps F]

/-- The grid's point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xM (Memref.isWhole_whole _) tM (Memref.isWhole_whole _) oM (Memref.isWhole_whole _) scr0 (Memref.isWhole_whole _) scr1 (Memref.isWhole_whole _)
          scr2 (Memref.isWhole_whole _) scr3 (Memref.isWhole_whole _) scr4 (Memref.isWhole_whole _) scr5 (Memref.isWhole_whole _) scr6 (Memref.isWhole_whole _)
          scr7 (Memref.isWhole_whole _) cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (X m d) (Y m d) (V3 m d (dr main_v3)) _ _ O W hO).trans (wp_mono frame _ _ fun _ => obl_post)

omit [FloatOps F] in
theorem now {A : sProp 𝕄} : A ⊢ |={Set.univ}=> A := by
  iintro H; imodintro; iexact H

theorem vecSplit : (K (F := F)).VecSplit' (P m) 0 := by
  intro d c
  exact (core_split d (X m d) (Y m d) (core_lt c) _ _ (V3 m d (dr main_v3)) (result (X m d) (Y m d))).trans now

/-! ## The launch element: the handshakes' rounds, and the pipeline's -/

def u₀ : UU := (initOf (K (F := F)).hsCells (K (F := F)).hsToks, (initOf (Pipeline.cells (nD := nD) (τ := τ) cfgs cellOf_inj) (Pipeline.launchToks (nD := nD) (τ := τ) cfgs cellOf_inj), 1))

omit [FloatOps F] in
theorem bigSep_none {I : Type} (s : Finset I) : (bigSep s fun _ => iprop(emp)) = (iprop(emp) : sProp 𝕄) := bigSep_emp_const s

omit [FloatOps F] in
theorem fund : (BI.own (EP (F := F) (initOf (Pipeline.cells (nD := nD) (τ := τ) cfgs cellOf_inj) (Pipeline.launchToks (nD := nD) (τ := τ) cfgs cellOf_inj))) : sProp 𝕄)
    ⊢ |==> bigSep Finset.univ fun d : Dev nD => (ghost d : sProp 𝕄) := by
  have h := Pipeline.fund_ghost (nD := nD) (τ := τ) cfgs (EP (F := F)) cellOf_inj
  have e : (iprop((bigSep Finset.univ fun c : Dev nD => bigSep Finset.univ fun p => Pipeline.cellsGhost cfgs (EP (F := F)) p c)
      ∗ bigSep Finset.univ fun c : Dev nD => bigSep Finset.univ fun p => Pipeline.toksInit cfgs (EP (F := F)) p c) : sProp 𝕄)
      ⊢ bigSep Finset.univ fun d : Dev nD => (ghost d : sProp 𝕄) := by
    rw [← bigSep_sep']
    refine bigSep_mono fun d _ => ?_
    rw [show (Finset.univ : Finset (Fin 1)) = {0} from rfl, bigSep_singleton, bigSep_singleton]
    exact Idealize.SL.BI.Entails.refl _
  refine h.trans ?_
  iintro H
  imod H with H
  imodintro
  iapply e; iexact H

theorem hu₀ : (ownU (u₀ (F := F)) : sProp 𝕄)
    ⊢ |={Set.univ}=> iprop(BI.own (EH (initOf (K (F := F)).hsCells (K (F := F)).hsToks)) ∗ (bigSep Finset.univ fun d : Dev nD => (ghost d : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (show _ ⊢ BI.own (EP (F := F) _) from (own_pair_emb embR _ _).trans sep_elim_left) $$ HR
  imod (fund (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The host's program -/

theorem st0_eq (d : Dev nD) : (bigSep Finset.univ fun c : Fin ((K (F := F)).nCore 0) => (P m).st 0 d c)
    = bigSep Finset.univ fun c : Fin 2 => coreRes d (X m d) (Y m d) (shareTok fullShare 2 c) (shareTok fullShare 2 c) (V3 m d (dr main_v3)) c.val := rfl
theorem dn0_eq (d : Dev nD) : (bigSep Finset.univ fun c : Fin ((K (F := F)).nCore 0) => (P m).dn 0 d c)
    = bigSep Finset.univ fun c : Fin 2 => coreRes d (X m d) (Y m d) (shareTok fullShare 2 c) (shareTok fullShare 2 c) (result (X m d) (Y m d)) c.val := rfl

/-- The arrays after the call: the result's at what the tiles wrote. -/
theorem after_call (d : Dev nD) : iprop(((xLoc d ↦{fullShare} X m d) ∗ (tLoc d ↦{fullShare} Y m d) ∗ oLoc d ↦{fullShare} result (X m d) (Y m d))
      ∗ StableHlo.held (T d) ({dr main_arg0, dr main_arg1, dr main_arg2, dr main_arg3, dr main_arg4, dr main_v0, dr main_v4, dr main_v5, dr main_v6, dr main_v7, dr main_v8_0, dr main_v8_1, dr main_v9, dr main_v10, dr main_v11, dr main_v12} : Finset (DevRef τ sig)) (V3 m d))
    ⊢ (StableHlo.held (T d) SA (V4 m d) : sProp 𝕄) := by
  rw [held_call]
  refine Entails.of_eq (congrArg₂ _ ?_ ?_)
  · unfold V4
    rw [Function.update_of_ne (show dr main_v1 ≠ dr main_v3 by decide), Function.update_of_ne (show dr main_v2 ≠ dr main_v3 by decide), Function.update_self]
  · unfold StableHlo.held
    refine bigSep_congr fun b hb => ?_
    unfold V4
    rw [Function.update_of_ne (fun e => absurd (e ▸ hb) (by decide))]

/-- Of the TensorCore's state after the SparseCore call, what it owes: nothing. -/
theorem tc_owes (d : Dev nD) : ((K (F := F)).tcSt EH d 1 : sProp 𝕄)
    ⊢ iprop((∃ W, owes (T d) (0 : CellTallies nD τ sig (HIx 1)) W) ∗ ((∃ W, owes (T d) (0 : CellTallies nD τ sig (HIx 1)) W) -∗ (K (F := F)).tcSt EH d 1)) := by
  have e : (K (F := F)).Otc d 1 = (0 : CellTallies nD τ sig (HIx 1)) := by unfold SparseCore.Cfg.Otc; simp
  unfold SparseCore.Cfg.tcSt
  rw [e]
  iintro ⟨⟨%W, -, HO⟩, Hr⟩
  isplitl [HO]
  · iexists W; iexact HO
  iintro ⟨%W', HO⟩
  isplitl [HO]
  · iexists W'
    isplitr
    · ipureintro
      intro p _
      cases hp : p.2 with
      | none => rw [SparseCore.Cfg.lev_none]; exact Nat.zero_le _
      | some q => exact ((K (F := F)).lev_some_le _ q).trans (by show 8 * q.val + 7 ≤ 8 * 1; omega)
    · iexact HO
  · iexact Hr

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ StableHlo.held (T d) SA (V13 m d) ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := op0) (S := SA) (show ({dr main_arg0, dr main_v0} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := op1) (S := SA) (show ({dr main_v0, dr main_v1} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := op2) (S := SA) (show ({dr main_arg3, dr main_v2} : Finset (DevRef τ sig)) ⊆ SA by decide)) $$ [Hb Hheld]
  · isplitl [Hb] <;> iassumption
  iintro ⟨Hb, Hheld⟩
  rw [wp_ret]; imodintro
  -- the call
  rw [show (op2 (F := F)).result (op1.result (op0.result (V0 m d))) = V3 m d from rfl]
  ihave Hh := (Entails.of_eq (held_call d (V3 m d))) $$ Hheld
  icases Hh with ⟨Hcall, Hrest⟩
  ihave Hc := (call_split d (X m d) (Y m d) (V3 m d (dr main_v3)) (result (X m d) (Y m d))) $$ Hcall
  icases Hc with ⟨Hgo, Hback⟩
  iapply ((K (F := F)).wp_run (D (F := F)) 𝒱 (EH := EH) (P := P m) κ d 0) $$ [Hst Hgo Hback Hrest Hb Hts HG]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hcall := Hback $$ Hdn'
  ihave Hheld := (after_call m d) $$ [Hcall Hrest]
  · isplitl [Hcall] <;> iassumption
  -- the second call's operands
  iapply (wp_hlo_within 𝒱 (SparseCore.T d) none Set.univ (op := op4) (S := SA) (show ({dr main_v3, dr main_v4} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := op5) (S := SA) (show ({dr main_arg1, dr main_v5} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := op6) (S := SA) (show ({dr main_arg4, dr main_v6} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := op7) (S := SA) (show ({dr main_v6, dr main_v7} : Finset (DevRef τ sig)) ⊆ SA by decide)) $$ [Hb Hheld]
  · isplitl [Hb] <;> iassumption
  iintro ⟨Hb, Hheld⟩
  rw [wp_ret]; imodintro
  -- the TensorCore call
  rw [show (op7 (F := F)).result (op6.result (op5.result (op4.result (V4 m d)))) = V8 m d from rfl]
  ihave Hst' : (K (F := F)).tcSt EH d 1 $$ [Hst]
  · iexact Hst
  ihave Hs := (tc_owes d) $$ Hst'
  icases Hs with ⟨HO, Hst⟩
  iapply (Segment.wp_call (fun c => V8 m c) d) $$ [Hst Hb Hheld HO HG Hts]
  isplitl [Hst Hts]
  · iintro Hb Hheld HO
    ihave Hst := Hst $$ HO
    rw [show Segment.after (fun c => V8 m c) d = V9 m d from rfl]
    iapply (wp_hlo_within 𝒱 (SparseCore.T d) none Set.univ (op := op9) (S := SA) (show ({dr main_v8_0, dr main_v9} : Finset (DevRef τ sig)) ⊆ SA by decide)) $$ [Hb Hheld]
    · isplitl [Hb] <;> iassumption
    iintro ⟨Hb, Hheld⟩
    rw [wp_ret]; imodintro
    iapply (wp_hlo_within 𝒱 (SparseCore.T d) none Set.univ (op := op10) (S := SA) (show ({dr main_v8_1, dr main_v10} : Finset (DevRef τ sig)) ⊆ SA by decide)) $$ [Hb Hheld]
    · isplitl [Hb] <;> iassumption
    iintro ⟨Hb, Hheld⟩
    rw [wp_ret]; imodintro
    iapply (wp_hlo_within 𝒱 (SparseCore.T d) none Set.univ (op := op11) (S := SA) (show ({dr main_v9, dr main_v11} : Finset (DevRef τ sig)) ⊆ SA by decide)) $$ [Hb Hheld]
    · isplitl [Hb] <;> iassumption
    iintro ⟨Hb, Hheld⟩
    rw [wp_ret]; imodintro
    iapply (wp_hlo_within 𝒱 (SparseCore.T d) none Set.univ (op := op12) (S := SA) (show ({dr main_v4, dr main_v12} : Finset (DevRef τ sig)) ⊆ SA by decide)) $$ [Hb Hheld]
    · isplitl [Hb] <;> iassumption
    iintro ⟨Hb, Hheld⟩
    rw [wp_ret]; imodintro
    imodintro
    isplitl [Hst]; · iexact Hst
    isplitl [Hheld]; · iexact Hheld
    isplitl [Hb] <;> iassumption
  isplitl [Hb]; · iexact Hb
  isplitl [Hheld]; · iexact Hheld
  isplitl [HO]; · iexact HO
  isplitr [HG]
  · iapply ((K (F := F)).ctx_levAts κ); iexact Hctx
  · iexact HG

/-! ## The run -/

def fq (d : Dev nD) (s' : Phys nD τ sig (Elt F)) : Prop := ∀ b ∈ SA, s'.mem.mem (d, b) = V13 m d b

theorem hfin (d : Dev nD) (s' : Phys nD τ sig (Elt F)) : iprop(StableHlo.held (T d) SA (V13 m d) ∗ SI s') ⊢ (⌜fq m d s'⌝ : sProp 𝕄) := by
  refine (forall_intro fun b => (forall_intro fun hb => ?_ : _ ⊢ iprop(∀ hb : b ∈ SA, ⌜s'.mem.mem (d, b) = V13 m d b⌝)).trans pure_forall.2).trans pure_forall.2
  unfold StableHlo.held
  rw [SparseCore.bigSep_erase' hb]
  iintro ⟨⟨Hb, -⟩, HSI⟩
  ihave H := (SI_pointsTo_agree (st := s') (ℓ := (d, b)) (I := Finset.univ) (q := fullShare) (f := V13 m d b)) $$ [HSI Hb]
  · isplitl [HSI] <;> iassumption
  icases H with %h
  ipureintro
  exact funext fun i => h i (Finset.mem_univ i)

def QC : PUnit × MemSt nD τ sig (Elt F) → Prop := fun r => (∀ c : Dev nD, ∀ b ∈ SA, r.2.mem (c, b) = V13 m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => ghost d) (fun d => StableHlo.held (T d) SA (V13 m d)) (u₀ (F := F)) (sep_elim_left.trans (hu₀ m)) (hmain m ρ) (fq m) (hfin m) (QC m) (fun _ h hz => ⟨h, hz⟩)

end

end Cert.Proof.Launch

end
-- ==== Proof.Value.lean ====
/-
  What the whole program leaves in its result: at `(b, h, j)` the threshold of row `h` at the rank of item `j` of row
  `(b, h)` of the words.
-/
module

public import proofs.«01_k».proof.Proof.Launch
public import Idealize.ShloMosaic.Lib.Pipeline.Value
public import Idealize.ShloMosaic.Lib.ValueIdxCore

@[expose] public section

noncomputable section

namespace Cert.Proof.Value

open Cert.KernelIdeal Cert.KernelIdeal.Gen
open Idealize.ShloMosaic Idealize.ShloMosaic.ValueIdx Idealize.ShloMosaic.StableHlo
open Cert.Proof.Radix Cert.Proof.Loops Cert.Proof.Tile Cert.Proof.Launch
open Cert.Proof.Segment (dr SA)

/-- Item `q` of row `(b, h)`, counted around. -/
def rowWord (w : (⟨3, ![4, 16, 8192]⟩ : Shape).Idx → BitVec 32) (b : Fin 4) (h : Fin 16) (q : ℕ) : BitVec 32 := w (ValueIdx.ix3 b h ⟨q % 8192, Nat.mod_lt _ (by decide)⟩)

/-- The place of item `j` of row `(b, h)`. -/
def rowRank (w : (⟨3, ![4, 16, 8192]⟩ : Shape).Idx → BitVec 32) (b : Fin 4) (h : Fin 16) (j : Fin 8192) : Fin 8192 :=
  ⟨rank 8192 (num fun q => keyWord (rowWord w b h q)) j.val, below_lt (strict_byKey _ _) j.isLt⟩

theorem rowRank_val (w : (⟨3, ![4, 16, 8192]⟩ : Shape).Idx → BitVec 32) (b : Fin 4) (h : Fin 16) (j : Fin 8192) :
    (rowRank w b h j).val = rank 8192 (num fun q => keyWord (rowWord w b h q)) j.val := by
  unfold rowRank; with_reducible rfl

/-- The thresholds at the items' places. -/
def placed {α : Type} (w : (⟨3, ![4, 16, 8192]⟩ : Shape).Idx → BitVec 32) (t : (⟨2, ![16, 8192]⟩ : Shape).Idx → α) : (⟨3, ![4, 16, 8192]⟩ : Shape).Idx → α :=
  fun i => t (ValueIdx.ix2 (i 1) (rowRank w (i 0) (i 1) (i 2)))

variable {F : FTy → Type} (m : (ℓ : Loc nD τ sig) → Buf (Elt F) ℓ) (d : Dev nD)

theorem X_eq : X m d = shapeCast S524288 (shapeCast S64x8192 (m (d, dr main_arg0)) shapeCasts_S4x16x8192_S64x8192) shapeCasts_S64x8192_S524288 := by
  unfold X V3
  rw [reshape_result_ne (h := (show main_v1 ≠ main_v2 by decide)), reshape_result, reshape_result]
  rfl

theorem Y_eq : Y m d = shapeCast S131072 (m (d, dr main_arg3)) shapeCasts_S16x8192_S131072 := by
  unfold Y V3
  rw [reshape_result, reshape_result_ne (h := (show main_arg3 ≠ main_v1 by decide)), reshape_result_ne (h := (show main_arg3 ≠ main_v0 by decide))]
  rfl

theorem wordAt_eq (b : Fin 4) (h : Fin 16) (q : ℕ) (hq : q < 8192) : wordAt (X m d) (16 * b.val + h.val) q = rowWord (m (d, dr main_arg0)) b h q := by
  unfold wordAt rowWord
  rw [X_eq, shapeCast_apply _ _ _ (ValueIdx.ix2 ⟨16 * b.val + h.val, by omega⟩ ⟨q % 8192, Nat.mod_lt _ (by decide)⟩) ?h1, shapeCast_apply _ _ _ (ValueIdx.ix3 b h ⟨q % 8192, Nat.mod_lt _ (by decide)⟩) ?h2]
  case h1 =>
    rw [Shape.rowMajor_val_two, Shape.rowMajor_val_one]
    show (16 * b.val + h.val) * 8192 + q % 8192 = (8192 * (16 * b.val + h.val) + q) % 524288
    omega
  case h2 =>
    rw [Shape.rowMajor_val_three, Shape.rowMajor_val_two]
    show (b.val * 16 + h.val) * 8192 + q % 8192 = (16 * b.val + h.val) * 8192 + q % 8192
    omega

theorem thrAt_eq (h : Fin 16) (q : Fin 8192) : thrAt (Y m d) h.val q.val = m (d, dr main_arg3) (ValueIdx.ix2 h q) := by
  unfold thrAt
  rw [Y_eq, shapeCast_apply _ _ _ (ValueIdx.ix2 h q) ?h1]
  case h1 =>
    rw [Shape.rowMajor_val_two, Shape.rowMajor_val_one]
    show h.val * 8192 + q.val = (8192 * h.val + q.val) % 131072
    omega

theorem rank_congr {n : ℕ} {k k' : ℕ → ℕ} (h : ∀ i, i < n → k i = k' i) {j : ℕ} (hj : j < n) : rank n k j = rank n k' j :=
  below_congr hj fun i hi => by unfold byKey; rw [h i hi, h j hj]

theorem rank_row (b : Fin 4) (h : Fin 16) (j : Fin 8192) : rankAt (X m d) (16 * b.val + h.val) j.val = (rowRank (m (d, dr main_arg0)) b h j).val := by
  unfold rankAt
  rw [rowRank_val]
  refine rank_congr (n := 8192) (fun q hq => ?_) j.isLt
  unfold num
  beta_reduce
  rw [wordAt_eq m d b h q hq]

theorem result_eq : shapeCast S4x16x8192 (result (X m d) (Y m d)) shapeCasts_S524288_S4x16x8192 = placed (m (d, dr main_arg0)) (m (d, dr main_arg3)) := by
  funext i
  have h0 : (i 0).val < 4 := (i 0).isLt
  have h1 : (i 1).val < 16 := (i 1).isLt
  have h2 : (i 2).val < 8192 := (i 2).isLt
  rw [shapeCast_apply _ _ _ (ValueIdx.ix1 ⟨((i 0).val * 16 + (i 1).val) * 8192 + (i 2).val, by omega⟩) ?hk]
  case hk => rw [Shape.rowMajor_val_three, Shape.rowMajor_val_one]; rfl
  unfold result placed
  show thrAt (Y m d) ((((i 0).val * 16 + (i 1).val) * 8192 + (i 2).val) / 8192 % 16)
    (rankAt (X m d) ((((i 0).val * 16 + (i 1).val) * 8192 + (i 2).val) / 8192) ((((i 0).val * 16 + (i 1).val) * 8192 + (i 2).val) % 8192)) = _
  rw [show (((i 0).val * 16 + (i 1).val) * 8192 + (i 2).val) / 8192 % 16 = (i 1).val by omega,
    show (((i 0).val * 16 + (i 1).val) * 8192 + (i 2).val) / 8192 = 16 * (i 0).val + (i 1).val by omega,
    show (((i 0).val * 16 + (i 1).val) * 8192 + (i 2).val) % 8192 = (i 2).val by omega]
  refine Eq.trans ?_ (thrAt_eq m d (i 1) (rowRank _ (i 0) (i 1) (i 2)))
  refine congrArg (thrAt (Y m d) (i 1).val) ?_
  exact rank_row m d (i 0) (i 1) (i 2)

/-! ## The later arrays -/

/-- The SparseCore call's result, as the later operations read it. -/
theorem V4_thr : V4 m d (dr main_v3) = result (X m d) (Y m d) := by
  unfold V4
  rw [Function.update_self]

/-- An array that the first operations and the SparseCore call do not write. -/
theorem V4_keeps {b : Ref sig .tc} (h3 : b ≠ main_v3) (h2 : b ≠ main_v2) (h1 : b ≠ main_v1) (h0 : b ≠ main_v0) : V4 m d (dr b) = m (d, dr b) := by
  unfold V4
  rw [Function.update_of_ne (fun e => h3 (Proc.devRef_injective .tc e))]
  unfold V3
  rw [reshape_result_ne (h := h2), reshape_result_ne (h := h1), reshape_result_ne (h := h0)]
  rfl

variable [FloatOps F]

theorem V8_thr : V8 m d (dr main_v4) = placed (m (d, dr main_arg0)) (m (d, dr main_arg3)) := by
  unfold V8
  rw [unary_result_ne (h := (show main_v4 ≠ main_v7 by decide)), unary_result_ne (h := (show main_v4 ≠ main_v6 by decide)),
    unary_result_ne (h := (show main_v4 ≠ main_v5 by decide)), reshape_result, V4_thr, ← result_eq]
  rfl

theorem V8_sim : V8 m d (dr main_v5) = transpose S4x16x32x8192 [0, 1, 3, 2] (m (d, dr main_arg1)) transposes_S4x16x8192x32_S4x16x32x8192_0_1_3_2 := by
  unfold V8
  rw [unary_result_ne (h := (show main_v5 ≠ main_v7 by decide)), unary_result_ne (h := (show main_v5 ≠ main_v6 by decide)), unary_result,
    reshape_result_ne (h := (show main_arg1 ≠ main_v4 by decide)), V4_keeps m d (by decide) (by decide) (by decide) (by decide)]

theorem V8_weight : V8 m d (dr main_v7) = extf .f32 (truncf .bf16 (m (d, dr main_arg4) : FVec F S1x16 .f32) bitsLt_bf16_f32) bitsLt_bf16_f32 := by
  unfold V8
  rw [unary_result, unary_result, unary_result_ne (h := (show main_arg4 ≠ main_v5 by decide)),
    reshape_result_ne (h := (show main_arg4 ≠ main_v4 by decide)), V4_keeps m d (by decide) (by decide) (by decide) (by decide)]

/-- The sorted thresholds. -/
theorem V13_thr : V13 m d (dr main_v12) = broadcastInDim S4x16x8192x1 ![0, 1, 2] bcast_S4x16x8192_S4x16x8192x1_0_1_2 (placed (m (d, dr main_arg0)) (m (d, dr main_arg3))) := by
  unfold V13
  rw [unary_result, unary_result_ne (h := (show main_v4 ≠ main_v11 by decide)), reshape_result_ne (h := (show main_v4 ≠ main_v10 by decide)),
    reshape_result_ne (h := (show main_v4 ≠ main_v9 by decide))]
  unfold V9
  rw [Segment.after_keeps _ d main_v4 (by decide), V8_thr]

/-- The scores. -/
theorem V13_score : V13 m d (dr main_v11) = broadcastInDim S4x8192x1 ![0, 1] bcast_S4x8192_S4x8192x1_0_1
    (shapeCast S4x8192 (Region.scores (fun c => V8 m c) d) shapeCasts_S32x1x1024_S4x8192) := by
  unfold V13
  rw [unary_result_ne (h := (show main_v11 ≠ main_v12 by decide)), unary_result, reshape_result_ne (h := (show main_v9 ≠ main_v10 by decide)), reshape_result]
  unfold V9
  rw [Segment.after_scores]
  rfl

/-- The indices. -/
theorem V13_index : V13 m d (dr main_v10) = shapeCast S4x8192 (Region.indices (fun c => V8 m c) d) shapeCasts_S32x1x1024_S4x8192 := by
  unfold V13
  rw [unary_result_ne (h := (show main_v10 ≠ main_v12 by decide)), unary_result_ne (h := (show main_v10 ≠ main_v11 by decide)), reshape_result,
    reshape_result_ne (h := (show main_v8_1 ≠ main_v9 by decide))]
  unfold V9
  rw [Segment.after_indices]
  rfl

/-- The arguments are unchanged. -/
theorem V13_arg {b : Ref sig .tc} (h : b ∈ ({main_arg0, main_arg1, main_arg2, main_arg3, main_arg4} : Finset (Ref sig .tc))) : V13 m d (dr b) = m (d, dr b) := by
  have hne : b ∉ ({main_v0, main_v1, main_v2, main_v3, main_v4, main_v5, main_v6, main_v7, main_v8_0, main_v8_1, main_v9, main_v10, main_v11, main_v12} : Finset (Ref sig .tc)) :=
    Finset.disjoint_left.mp (by decide) h
  simp only [Finset.mem_insert, Finset.mem_singleton, not_or] at hne
  obtain ⟨h0, h1, h2, h3, h4, h5, h6, h7, h80, h81, h9, h10, h11, h12⟩ := hne
  unfold V13
  rw [unary_result_ne (h := h12), unary_result_ne (h := h11), reshape_result_ne (h := h10), reshape_result_ne (h := h9)]
  unfold V9
  rw [Segment.after_keeps _ d b ⟨h80, h81⟩]
  unfold V8
  rw [unary_result_ne (h := h7), unary_result_ne (h := h6), unary_result_ne (h := h5), reshape_result_ne (h := h4), V4_keeps m d h3 h2 h1 h0]

end Cert.Proof.Value

end
-- ==== Proof.Scores.lean ====
/-
  The scores and the indices the program leaves, over the extended reals: the score and the index of a column are taken where its
  weighted sum is greatest.
-/
module

public import proofs.«01_k».proof.Proof.Value
public import proofs.«01_k».proof.Proof.Best

@[expose] public section

noncomputable section

namespace Cert.Proof.Scores

open Cert.KernelIdeal Cert.KernelIdeal.Gen
open Idealize.ShloMosaic
open Cert.Proof.Dense Cert.Proof.Region Cert.Proof.Best Cert.Proof.Launch Cert.Proof.Value
open Cert.Proof.Segment (dr SA)

/-- What head `h`'s similarity exceeds its threshold by, weighted, at column `k` of row `(b, n)`. -/
def piece (s : (⟨4, ![4, 16, 8192, 32]⟩ : Shape).Idx → EReal) (p : (⟨3, ![4, 16, 8192]⟩ : Shape).Idx → EReal) (u : (⟨2, ![1, 16]⟩ : Shape).Idx → EReal)
    (b : Fin 4) (n : Fin 8192) (k : Fin 32) (h : Fin 16) : EReal :=
  (s (ValueIdx.ix4 b h n k) - p (ValueIdx.ix3 b h n)) * u (ValueIdx.ix2 (0 : Fin 1) h)

/-- The heads' weighted sum. -/
def logit (s : (⟨4, ![4, 16, 8192, 32]⟩ : Shape).Idx → EReal) (p : (⟨3, ![4, 16, 8192]⟩ : Shape).Idx → EReal) (u : (⟨2, ![1, 16]⟩ : Shape).Idx → EReal)
    (b : Fin 4) (n : Fin 8192) (k : Fin 32) : EReal := ∑ h : Fin 16, piece s p u b n k h

/-! ## One block -/

section Block

variable (X : S1x16x32x1024.Idx → EReal) (Y : S1x16x1024.Idx → EReal) (W : S1x16.Idx → EReal)

/-- Head `h`'s part of a block's weighted sum. -/
def part (k : Fin 32) (j : Fin 1024) (h : Fin 16) : EReal :=
  (X (ValueIdx.ix4 (0 : Fin 1) h k j) - Y (ValueIdx.ix3 (0 : Fin 1) h j)) * W (ValueIdx.ix2 (0 : Fin 1) h)

theorem term_at (h : ℕ) (k : Fin 32) (j : Fin 1024) :
    term (F := Ideal) X Y W h (ValueIdx.ix2 k j) = part X Y W k j ⟨h % 16, Nat.mod_lt _ (by decide)⟩ := by
  show ((shapeCast S32x1024 (simOf (F := Ideal) X h) shapeCasts_S1x1x32x1024_S32x1024 : S32x1024.Idx → EReal) (ValueIdx.ix2 k j)
    - (broadcastTo S32x1024 (shapeCast S1x1024 (shapeCast S1024 (thrOf (F := Ideal) Y h) shapeCasts_S1x1x1024_S1024) shapeCasts_S1024_S1x1024)
      broadcasts_S1x1024_S32x1024 : S32x1024.Idx → EReal) (ValueIdx.ix2 k j)) * weightOf (F := Ideal) W h = _
  rw [shapeCast_apply _ _ _ (ValueIdx.ix4 (0 : Fin 1) (0 : Fin 1) k j) ?h1,
    broadcastTo_apply _ _ _ (ValueIdx.ix2 (0 : Fin 1) j) ?h2, shapeCast_apply _ _ _ (ValueIdx.ix1 j) ?h3,
    shapeCast_apply _ _ _ (ValueIdx.ix3 (0 : Fin 1) (0 : Fin 1) j) ?h4]
  case h1 =>
    rw [Shape.rowMajor_val_four, Shape.rowMajor_val_two]
    show ((0 * 1 + 0) * 32 + k.val) * 1024 + j.val = k.val * 1024 + j.val
    omega
  case h2 =>
    intro a
    fin_cases a <;> rfl
  case h3 =>
    rw [Shape.rowMajor_val_two, Shape.rowMajor_val_one]
    show j.val = 0 * 1024 + j.val
    omega
  case h4 =>
    rw [Shape.rowMajor_val_three, Shape.rowMajor_val_one]
    show (0 * 1 + 0) * 1024 + j.val = j.val
    omega
  rfl

theorem sumTo_at (n : ℕ) (k : Fin 32) (j : Fin 1024) :
    sumTo (F := Ideal) X Y W n (ValueIdx.ix2 k j) = ∑ h ∈ Finset.range (n + 1), part X Y W k j ⟨h % 16, Nat.mod_lt _ (by decide)⟩ := by
  induction n with
  | zero =>
    rw [Finset.sum_range_one]
    exact term_at X Y W 0 k j
  | succ n ih =>
    rw [Finset.sum_range_succ, ← ih]
    exact congrArg _ (term_at X Y W (n + 1) k j)

/-- The whole weighted sum. -/
theorem sum_at (k : Fin 32) (j : Fin 1024) : sumTo (F := Ideal) X Y W 15 (ValueIdx.ix2 k j) = ∑ h : Fin 16, part X Y W k j h := by
  rw [sumTo_at, Finset.sum_range]
  exact Finset.sum_congr rfl fun h _ => congrArg _ (Fin.ext (Nat.mod_eq_of_lt h.isLt))

theorem lift_block (j : Fin 1024) (q : Fin 32) : reduces_S32x1024_S1024.lift (ValueIdx.ix1 j) q = ValueIdx.ix2 q j := by
  funext a
  fin_cases a <;> rfl

theorem squash_apply {s : Shape} (x : FVec Ideal s .f32) (i : s.Idx) :
    mulf (broadcast s (Scalar.ofBits .f32 0x41200000#32)) (tanh x) i = squash (x i) := rfl

theorem scoreOf_apply (i : S1024.Idx) : scoreOf (F := Ideal) X Y W i
    = squash (multiReduction .maximumf [0] S1024 (sumTo (F := Ideal) X Y W 15) 0xFF800000#32 reduces_S32x1024_S1024 (.inl rfl) rfl i) := by
  unfold scoreOf
  exact squash_apply _ i

variable {X Y W}

theorem first_block {j : Fin 1024} {k : Fin 32} (hk : First (fun q => ∑ h : Fin 16, part X Y W q j h) k) :
    First (n := 32) (fun q => sumTo (F := Ideal) X Y W 15 (reduces_S32x1024_S1024.lift (ValueIdx.ix1 j) q)) k := by
  have e : (fun q : Fin 32 => sumTo (F := Ideal) X Y W 15 (reduces_S32x1024_S1024.lift (ValueIdx.ix1 j) q)) = fun q => ∑ h : Fin 16, part X Y W q j h :=
    funext fun q => (congrArg _ (lift_block j q)).trans (sum_at X Y W q j)
  rw [e]
  exact hk

theorem score_block {j : Fin 1024} {k : Fin 32} (hk : First (fun q => ∑ h : Fin 16, part X Y W q j h) k) :
    scoreBlk (F := Ideal) X Y W (ValueIdx.ix3 (0 : Fin 1) (0 : Fin 1) j) = squash (∑ h : Fin 16, part X Y W k j h) := by
  unfold scoreBlk k1_pay1
  rw [shapeCast_apply _ _ _ (ValueIdx.ix1 j) ?h1]
  case h1 =>
    rw [Shape.rowMajor_val_three, Shape.rowMajor_val_one]
    show j.val = (0 * 1 + 0) * 1024 + j.val
    omega
  rw [scoreOf_apply]
  refine congrArg squash ((multiReduction_first (s := S32x1024) (t := S1024) (a := 0) _ _ _ _ _ ofBits_bot (ValueIdx.ix1 j) (k := k) (first_block hk)).trans ?_)
  exact (congrArg _ (lift_block j k)).trans (sum_at X Y W k j)

theorem index_block {j : Fin 1024} {k : Fin 32} (hk : First (fun q => ∑ h : Fin 16, part X Y W q j h) k) :
    indexBlk (F := Ideal) X Y W (ValueIdx.ix3 (0 : Fin 1) (0 : Fin 1) j) = BitVec.ofNat 32 k.val := by
  unfold indexBlk k1_pay2
  rw [shapeCast_apply _ _ _ (ValueIdx.ix1 j) ?h1]
  case h1 =>
    rw [Shape.rowMajor_val_three, Shape.rowMajor_val_one]
    show j.val = (0 * 1 + 0) * 1024 + j.val
    omega
  refine reduceIndex_first (s := S32x1024) (t := S1024) (a := 0) _ reduces_S32x1024_S1024 (ValueIdx.ix1 j) (k := k) (first_block hk)

end Block

/-! ## The whole arrays -/

section Whole

variable (m : (ℓ : Loc nD τ sig) → Buf (Elt Ideal) ℓ) (d : Dev nD)

/-- The weighted sums of the program's arguments. -/
abbrev logits : Fin 4 → Fin 8192 → Fin 32 → EReal :=
  logit (m (d, dr main_arg1)) (placed (m (d, dr main_arg0)) (m (d, dr main_arg3))) (m (d, dr main_arg4))

/-- The point that computes row `(b, n)`. -/
theorem part_at (b : Fin 4) (n : Fin 8192) (k : Fin 32) (t : ℕ) (j : Fin 1024) (ht : t < 32) (hb : b.val = t / 8) (hn : n.val = t % 8 * 1024 + j.val) (h : Fin 16) :
    part (simBlk (fun c => V8 m c) d (point t)) (thrBlk (fun c => V8 m c) d (point t)) (weightBlk (fun c => V8 m c) d (point t)) k j h
      = piece (m (d, dr main_arg1)) (placed (m (d, dr main_arg0)) (m (d, dr main_arg3))) (m (d, dr main_arg4)) b n k h := by
  have hp : (point t).val = t := Nat.mod_eq_of_lt ht
  unfold part
  rw [simBlk_at _ d (point t) h k j b n (by rw [hp]; exact hb) (by rw [hp]; exact hn), thrBlk_at _ d (point t) h j b n (by rw [hp]; exact hb) (by rw [hp]; exact hn), weightBlk_at]
  have e5 : (transpose S4x16x32x8192 [0, 1, 3, 2] (m (d, dr main_arg1)) transposes_S4x16x8192x32_S4x16x32x8192_0_1_3_2 : S4x16x32x8192.Idx → EReal) (ValueIdx.ix4 b h k n)
      = m (d, dr main_arg1) (ValueIdx.ix4 b h n k) := by
    refine transpose_apply _ _ _ _ (ValueIdx.ix4 b h n k) ?_
    intro a
    fin_cases a <;> rfl
  exact congrArg₂ (fun p q : EReal => p * q) (congrArg₂ (fun p q : EReal => p - q) ((congrFun (V8_sim m d) (ValueIdx.ix4 b h k n)).trans e5) (congrFun (V8_thr m d) (ValueIdx.ix3 b h n)))
    (congrFun (V8_weight m d) (ValueIdx.ix2 (0 : Fin 1) h))

theorem row_split (b : Fin 4) (n : Fin 8192) : ∃ (t : ℕ) (j : Fin 1024), t < 32 ∧ b.val = t / 8 ∧ n.val = t % 8 * 1024 + j.val :=
  ⟨b.val * 8 + n.val / 1024, ⟨n.val % 1024, Nat.mod_lt _ (by decide)⟩, by omega, by omega, by show n.val = (b.val * 8 + n.val / 1024) % 8 * 1024 + n.val % 1024; omega⟩

variable {m d}

theorem score_at {b : Fin 4} {n : Fin 8192} {k : Fin 32} (hk : First (logits m d b n) k) :
    (V13 m d (dr main_v11) : S4x8192x1.Idx → EReal) (ValueIdx.ix3 b n (0 : Fin 1)) = squash (logits m d b n k) := by
  obtain ⟨t, j, ht, hb, hn⟩ := row_split b n
  have hs : ∀ q, ∑ h : Fin 16, part (simBlk (fun c => V8 m c) d (point t)) (thrBlk (fun c => V8 m c) d (point t)) (weightBlk (fun c => V8 m c) d (point t)) q j h = logits m d b n q :=
    fun q => Finset.sum_congr rfl fun h _ => part_at m d b n q t j ht hb hn h
  rw [V13_score, broadcastInDim_apply _ _ _ _ (ValueIdx.ix2 b n) ?h0, shapeCast_apply _ _ _ (ValueIdx.ix3 (⟨t, ht⟩ : Fin 32) (0 : Fin 1) j) ?h1]
  case h0 =>
    intro a
    fin_cases a <;> rfl
  case h1 =>
    rw [Shape.rowMajor_val_three, Shape.rowMajor_val_two]
    show (t * 1 + 0) * 1024 + j.val = b.val * 8192 + n.val
    omega
  refine (score_block (j := j) (k := k) ?_).trans (congrArg squash (hs k))
  exact (funext hs : (fun q => ∑ h : Fin 16, part _ _ _ q j h) = _) ▸ hk

theorem index_at {b : Fin 4} {n : Fin 8192} {k : Fin 32} (hk : First (logits m d b n) k) :
    (V13 m d (dr main_v10) : S4x8192.Idx → BitVec 32) (ValueIdx.ix2 b n) = BitVec.ofNat 32 k.val := by
  obtain ⟨t, j, ht, hb, hn⟩ := row_split b n
  have hs : ∀ q, ∑ h : Fin 16, part (simBlk (fun c => V8 m c) d (point t)) (thrBlk (fun c => V8 m c) d (point t)) (weightBlk (fun c => V8 m c) d (point t)) q j h = logits m d b n q :=
    fun q => Finset.sum_congr rfl fun h _ => part_at m d b n q t j ht hb hn h
  rw [V13_index, shapeCast_apply _ _ _ (ValueIdx.ix3 (⟨t, ht⟩ : Fin 32) (0 : Fin 1) j) ?h1]
  case h1 =>
    rw [Shape.rowMajor_val_three, Shape.rowMajor_val_two]
    show (t * 1 + 0) * 1024 + j.val = b.val * 8192 + n.val
    omega
  refine index_block (j := j) (k := k) ?_
  exact (funext hs : (fun q => ∑ h : Fin 16, part _ _ _ q j h) = _) ▸ hk

end Whole

end Cert.Proof.Scores

end
-- ==== Proof.Order.lean ====
/-
  The order the kernel sorts by and the order the reference sorts by are one: on words that are no NaN and not the
  negative zero, a smaller key is a greater number. And a stable ascending sort puts at place `p` the item whose rank is `p`.
-/
module

public import proofs.«01_k».proof.Proof.Loops
public import Idealize.ShloMosaic.Lib.TotalOrder
public import Idealize.ShloMosaic.Lib.SortKey
public import Idealize.ShloMosaic.Lib.PlanTiles.StableSort
public import Idealize.ShloMosaic.Lib.SortFacts
public import Idealize.ShloMosaic.PureOps.Ideal

@[expose] public section

noncomputable section

namespace Cert.Proof.Order

open Idealize.ShloMosaic Idealize.ShloMosaic.TotalOrder
open Cert.Proof.Radix Cert.Proof.Loops

/-! ## Words -/

/-- A word that is neither a NaN nor the negative zero. -/
def Plain (w : BitVec 32) : Prop := (w &&& 0x7FFFFFFF#32).toNat ≤ 2139095040 ∧ w ≠ 0x80000000#32

/-- The kernel's key is the complement of the total-order key. -/
theorem keyWord_eq (w : BitVec 32) : keyWord w = ~~~(totalOrderKey w) := by
  rw [totalOrderKey_eq_sortableKey_xor]
  unfold keyWord sortableKey
  generalize w.sshiftRight 31 = s
  rw [← BitVec.xor_allOnes, show BitVec.allOnes 32 = 4294967295#32 from rfl]
  congr 1
  rw [BitVec.xor_assoc]
  congr 1
  have h1 : (2147483648#32 : BitVec 32) = ~~~0x7FFFFFFF#32 := by decide
  rw [h1]
  generalize (0x7FFFFFFF#32 : BitVec 32) = c
  ext i hi
  simp only [BitVec.getElem_or, BitVec.getElem_xor, BitVec.getElem_and, BitVec.getElem_not]
  cases s[i] <;> cases c[i] <;> rfl

theorem keyWord_lt_iff (a b : BitVec 32) : (keyWord a).toNat < (keyWord b).toNat ↔ (totalOrderKey b).toNat < (totalOrderKey a).toNat := by
  rw [keyWord_eq, keyWord_eq, BitVec.toNat_not, BitVec.toNat_not]
  have := (totalOrderKey a).isLt
  have := (totalOrderKey b).isLt
  omega

theorem mag_eq (w : BitVec 32) : mag 8 23 w = (w &&& 0x7FFFFFFF#32).toNat := by
  have h := toNat_eq_sign_add_mag (e := 8) (m := 23) w
  have hl := mag_lt 8 23 w
  rw [BitVec.toNat_and, show (0x7FFFFFFF#32 : BitVec 32).toNat = 2 ^ 31 - 1 from rfl, Nat.and_two_pow_sub_one_eq_mod]
  split at h <;> omega

theorem Plain.not_isNaN {w : BitVec 32} (h : Plain w) : ¬IsNaN 8 23 w := by
  rintro ⟨he, hf⟩
  have h1 := mag_eq w
  have h2 := h.1
  unfold mag at h1
  rw [he] at h1
  omega

theorem Plain.not_oppositeZeros {a b : BitVec 32} (ha : Plain a) (hb : Plain b) : ¬OppositeZeros 8 23 a b := by
  intro h
  rcases (oppositeZeros_f32_iff a b).mp h with ⟨e, -⟩ | ⟨-, e⟩
  · exact ha.2 e
  · exact hb.2 e

/-- A smaller key is a greater number. -/
theorem keyWord_lt {a b : BitVec 32} (ha : Plain a) (hb : Plain b) :
    (keyWord a).toNat < (keyWord b).toNat ↔ Ideal.ofBits .f32 b < Ideal.ofBits .f32 a := by
  rw [keyWord_lt_iff]
  exact lt_iff hb.not_isNaN ha.not_isNaN (hb.not_oppositeZeros ha)

/-! ## Stable sorts -/

/-- A map of `0 … n - 1` to itself that keeps the order moves nothing. -/
theorem fixed_of_mono {n : ℕ} (f : ℕ → ℕ) (hf : ∀ i, i < n → f i < n) (hm : ∀ i j, i < j → j < n → f i < f j) {i : ℕ} (hi : i < n) :
    f i = i := by
  have hd : ∀ d i, i + d < n → f i + d ≤ f (i + d) := by
    intro d
    induction d with
    | zero => intro i _; exact le_rfl
    | succ d ih =>
      intro i h
      have h1 := ih i (by omega)
      have h2 := hm (i + d) (i + (d + 1)) (by omega) h
      omega
  have h1 := hd i 0 (by omega)
  have h2 := hd (n - 1 - i) i (by omega)
  have h3 := hf (i + (n - 1 - i)) (by omega)
  rw [Nat.zero_add] at h1
  omega

/-- A stable sort by ascending keys `K` puts at place `p` the item of rank `p`. -/
theorem sortedFrom_eq {n : ℕ} (K : ℕ → ℕ) (B : ℕ) (hB : ∀ q, K q ≤ B) (p : Fin n) :
    (sortedFrom (fun a b : Fin n => decide (K a.val < K b.val)) p).val = inv n (byKey K) p.val := by
  have hlt : (fun a b : Fin n => decide (K a.val < K b.val)) = fun a b : Fin n => decide (B - K b.val < B - K a.val) := by
    funext a b
    have := hB a.val
    have := hB b.val
    exact decide_eq_decide.mpr (by omega)
  have hp := PlanTiles.pairwise_stableSort_lex (fun a : Fin n => B - K a.val) (· < ·) (List.finRange n) (List.pairwise_lt_finRange n)
  have hget := List.pairwise_iff_get.mp hp
  have hmono : ∀ i j : Fin n, i < j → byKey K (sortedFrom (fun a b : Fin n => decide (K a.val < K b.val)) i).val
      (sortedFrom (fun a b : Fin n => decide (K a.val < K b.val)) j).val := by
    intro i j hij
    rw [hlt]
    have h := hget (i.cast (length_sortPositions n _).symm) (j.cast (length_sortPositions n _).symm) hij
    change PlanTiles.Lex _ _ (sortedFrom (fun a b : Fin n => decide (B - K b.val < B - K a.val)) i)
      (sortedFrom (fun a b : Fin n => decide (B - K b.val < B - K a.val)) j) at h
    generalize sortedFrom (fun a b : Fin n => decide (B - K b.val < B - K a.val)) i = x at h ⊢
    generalize sortedFrom (fun a b : Fin n => decide (B - K b.val < B - K a.val)) j = y at h ⊢
    have hx := hB x.val
    have hy := hB y.val
    rcases h with h | ⟨h, h'⟩
    · exact Or.inl (by simp only at h; omega)
    · exact Or.inr ⟨by simp only at h; omega, h'⟩
  generalize sortedFrom (fun a b : Fin n => decide (K a.val < K b.val)) = g at hmono ⊢
  have hs := strict_byKey n K
  have hid := fixed_of_mono (n := n) (fun q => if hq : q < n then below n (byKey K) (g ⟨q, hq⟩).val else 0)
    (fun i hi => by simp only [hi, dite_true]; exact below_lt hs (Fin.isLt _))
    (fun i j hij hj => by
      simp only [hj, hij.trans hj, dite_true]
      exact (below_lt_iff hs (Fin.isLt _) (Fin.isLt _)).mpr (hmono _ _ hij)) p.isLt
  simp only [p.isLt, dite_true, Fin.eta] at hid
  rw [← inv_below hs (Fin.isLt (g p)), hid]

/-- The items sorted by the place each holds: item `j` of rank `below j` comes at place `j` in turn. -/
theorem inv_byKey_inv {n : ℕ} {r : ℕ → ℕ → Prop} (h : Strict n r) {j : ℕ} (hj : j < n) :
    inv n (byKey fun p => if p < n then inv n r p else 0) j = below n r j := by
  have hb := below_lt h hj
  have hs := strict_byKey n fun p => if p < n then inv n r p else 0
  have e : below n (byKey fun p => if p < n then inv n r p else 0) (below n r j) = j := by
    refine fixed_of_mono (n := n) (fun i => below n (byKey fun p => if p < n then inv n r p else 0) (below n r i))
      (fun i hi => below_lt hs (below_lt h hi)) (fun i k hik hk => ?_) hj
    refine (below_lt_iff hs (below_lt h (hik.trans hk)) (below_lt h hk)).mpr (Or.inl ?_)
    show (if below n r i < n then inv n r (below n r i) else 0) < if below n r k < n then inv n r (below n r k) else 0
    rw [if_pos (below_lt h (hik.trans hk)), if_pos (below_lt h hk), inv_below h (hik.trans hk), inv_below h hk]
    exact hik
  conv_lhs => rw [← e]
  exact inv_below (strict_byKey n _) hb

end Cert.Proof.Order

end
-- ==== Proof.Ref.lean ====
/-
  What the reference computes: its two stable sorts give every item's place in the descending order of its row, and its
  take reads the threshold at that place.
-/
module

public import proofs.«01_k».proof.Proof.Order
public import proofs.«01_k».proof.Proof.Value
public import proofs.«01_k».proof.Proof.Gen.ReferenceIdeal
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic
open Idealize.ShloMosaic.ValueIdx
open Cert.Proof.Radix Cert.Proof.Loops Cert.Proof.Order Cert.Proof.Value

/-! ## A sort of pairs along the last of three axes -/

theorem along_ix3 {A B n : ℕ} (b : Fin A) (h : Fin B) (p k : Fin n) :
    Shape.Idx.along (s := ⟨3, ![A, B, n]⟩) (ValueIdx.ix3 b h p) (2 : Fin 3) k = ValueIdx.ix3 b h k := by
  funext a
  match a with
  | ⟨0, _⟩ => rfl
  | ⟨1, _⟩ => rfl
  | ⟨2, _⟩ => rfl

theorem sort2_at {A B n : ℕ} {α β : Type} (cmp : α × β → α × β → BitVec 1) (x : (⟨3, ![A, B, n]⟩ : Shape).Idx → α)
    (y : (⟨3, ![A, B, n]⟩ : Shape).Idx → β) (b : Fin A) (h : Fin B) (p : Fin n) :
    (Host.sort2 ⟨3, ![A, B, n]⟩ 2 cmp x y).2 (ValueIdx.ix3 b h p)
      = y (ValueIdx.ix3 b h (sortedFrom (fun k k' : Fin n => cmp (x (ValueIdx.ix3 b h k), y (ValueIdx.ix3 b h k)) (x (ValueIdx.ix3 b h k'), y (ValueIdx.ix3 b h k')) == 1#1) p)) := by
  unfold Host.sort2
  rw [dif_pos (show 2 < (⟨3, ![A, B, n]⟩ : Shape).rank from Nat.lt_succ_self 2)]
  exact (congrArg y (along_ix3 b h p _)).trans (by
    congr 2
    refine congrFun (congrArg sortedFrom ?_) p
    funext k k'
    rw [← along_ix3 b h p k, ← along_ix3 b h p k']
    rfl)

/-! ## The comparators -/

theorem cmp_f32 (a b : EReal) (i j : BitVec 32) :
    (comparator_f32_i32_d2 (F := Ideal) ((a : Ideal .f32), i) ((b : Ideal .f32), j) == 1#1) = decide (a < b) := by
  have hz : ∀ l : EReal, (Scalar.select (Ideal.cmp .une l l) (FloatOps.ofBits (F := Ideal) .f32 0x7FC00000#32)
      (Scalar.select (Ideal.cmp .oeq l (FloatOps.ofBits (F := Ideal) .f32 0#32)) (FloatOps.ofBits (F := Ideal) .f32 0#32) l) : EReal) = l := by
    intro l
    generalize (FloatOps.ofBits (F := Ideal) .f32 0#32 : EReal) = z
    have h1 : Ideal.cmp .une l l = 0#1 := by simp [Ideal.cmp]
    rw [h1]
    by_cases hl : l = z
    · subst hl
      unfold Scalar.select; simp
    · have h2 : Ideal.cmp .oeq l z = 0#1 := by simp [Ideal.cmp, hl]
      rw [h2]; rfl
  have e : comparator_f32_i32_d2 (F := Ideal) ((a : Ideal .f32), i) ((b : Ideal .f32), j) = Ideal.cmp .olt a b := by
    have := hz a
    have := hz b
    show Ideal.cmp .olt (Scalar.select (Ideal.cmp .une a a) (FloatOps.ofBits (F := Ideal) .f32 0x7FC00000#32)
      (Scalar.select (Ideal.cmp .oeq a (FloatOps.ofBits (F := Ideal) .f32 0#32)) (FloatOps.ofBits (F := Ideal) .f32 0#32) a) : EReal)
      (Scalar.select (Ideal.cmp .une b b) (FloatOps.ofBits (F := Ideal) .f32 0x7FC00000#32)
      (Scalar.select (Ideal.cmp .oeq b (FloatOps.ofBits (F := Ideal) .f32 0#32)) (FloatOps.ofBits (F := Ideal) .f32 0#32) b) : EReal) = _
    rw [hz a, hz b]
  rw [e]
  unfold Ideal.cmp
  by_cases h : a < b <;> simp [h]

theorem cmp_i32 (a b i j : BitVec 32) (ha : a.toNat < 8192) (hb : b.toNat < 8192) :
    (comparator_i32_i32_d2 (a, i) (b, j) == 1#1) = decide (a.toNat < b.toNat) := by
  have e : comparator_i32_i32_d2 (a, i) (b, j) = BitVec.ofBool (decide (a.toNat < b.toNat)) := by
    show IntOp.cmpi .slt a b = _
    unfold IntOp.cmpi
    simp only
    congr 1
    rw [BitVec.slt_eq_decide, decide_eq_decide, BitVec.toInt_eq_toNat_of_lt (by omega), BitVec.toInt_eq_toNat_of_lt (by omega)]
    exact Int.ofNat_lt
  rw [e]
  by_cases h : a.toNat < b.toNat <;> simp [h]

/-! ## The places -/

/-- The row's keys. -/
abbrev keys (w : IVec S4x16x8192 32) (b : Fin 4) (h : Fin 16) : ℕ → ℕ := num fun q => keyWord (rowWord w b h q)

/-- The items in descending order of their values. -/
abbrev order (w : IVec S4x16x8192 32) : IVec S4x16x8192 32 :=
  (Host.sort2 S4x16x8192 2 comparator_f32_i32_d2 (Host.negf (bitcastToFloat (F := Ideal) .f32 w)) (iotaInDim S4x16x8192 32 2)).2

/-- Each item's place. -/
abbrev places (w : IVec S4x16x8192 32) : IVec S4x16x8192 32 :=
  (Host.sort2 S4x16x8192 2 comparator_i32_i32_d2 (order w) (iotaInDim S4x16x8192 32 2)).2

theorem rowWord_val (w : IVec S4x16x8192 32) (b : Fin 4) (h : Fin 16) (k : Fin 8192) : rowWord w b h k.val = w (ValueIdx.ix3 b h k) := by
  unfold rowWord
  congr 2
  exact Fin.ext (Nat.mod_eq_of_lt k.isLt)

theorem toNat_place {n : ℕ} (h : n < 8192) : (BitVec.ofNat 32 n).toNat = n := by
  rw [BitVec.toNat_ofNat]; exact Nat.mod_eq_of_lt (by omega)

theorem inv_lt (w : IVec S4x16x8192 32) (b : Fin 4) (h : Fin 16) (p : Fin 8192) : inv 8192 (byKey (keys w b h)) p.val < 8192 :=
  (inv_spec (strict_byKey _ _) p.isLt).1

theorem order_at (w : IVec S4x16x8192 32) (hw : ∀ i, Plain (w i)) (b : Fin 4) (h : Fin 16) (p : Fin 8192) :
    order w (ValueIdx.ix3 b h p) = BitVec.ofNat 32 (inv 8192 (byKey (keys w b h)) p.val) := by
  refine (sort2_at _ _ _ b h p).trans ?_
  have e : (fun k k' : Fin 8192 => comparator_f32_i32_d2 (Host.negf (bitcastToFloat (F := Ideal) .f32 w) (ValueIdx.ix3 b h k), iotaInDim S4x16x8192 32 2 (ValueIdx.ix3 b h k))
      (Host.negf (bitcastToFloat (F := Ideal) .f32 w) (ValueIdx.ix3 b h k'), iotaInDim S4x16x8192 32 2 (ValueIdx.ix3 b h k')) == 1#1)
      = fun k k' : Fin 8192 => decide (keys w b h k.val < keys w b h k'.val) := by
    funext k k'
    refine (cmp_f32 (-Ideal.ofBits .f32 (w (ValueIdx.ix3 b h k))) (-Ideal.ofBits .f32 (w (ValueIdx.ix3 b h k'))) _ _).trans ?_
    refine decide_eq_decide.mpr ?_
    rw [EReal.neg_lt_neg_iff, ← keyWord_lt (hw _) (hw _), ← rowWord_val w b h k, ← rowWord_val w b h k']
  rw [e]
  show BitVec.ofNat 32 (Fin.val (sortedFrom (fun k k' : Fin 8192 => decide (keys w b h k.val < keys w b h k'.val)) p)) = _
  rw [sortedFrom_eq (keys w b h) 4294967295 (fun q => Nat.le_of_lt_succ (BitVec.isLt _)) p]

theorem places_at (w : IVec S4x16x8192 32) (hw : ∀ i, Plain (w i)) (b : Fin 4) (h : Fin 16) (j : Fin 8192) :
    places w (ValueIdx.ix3 b h j) = BitVec.ofNat 32 (rowRank w b h j).val := by
  refine (sort2_at _ _ _ b h j).trans ?_
  have e : (fun k k' : Fin 8192 => comparator_i32_i32_d2 (order w (ValueIdx.ix3 b h k), iotaInDim S4x16x8192 32 2 (ValueIdx.ix3 b h k))
      (order w (ValueIdx.ix3 b h k'), iotaInDim S4x16x8192 32 2 (ValueIdx.ix3 b h k')) == 1#1)
      = fun k k' : Fin 8192 => decide ((fun p => if p < 8192 then inv 8192 (byKey (keys w b h)) p else 0) k.val
        < (fun p => if p < 8192 then inv 8192 (byKey (keys w b h)) p else 0) k'.val) := by
    funext k k'
    rw [order_at w hw, order_at w hw, cmp_i32 _ _ _ _ (by rw [toNat_place (inv_lt w b h k)]; exact inv_lt w b h k)
      (by rw [toNat_place (inv_lt w b h k')]; exact inv_lt w b h k'), toNat_place (inv_lt w b h k), toNat_place (inv_lt w b h k')]
    simp only [k.isLt, k'.isLt, if_true]
  rw [e]
  show BitVec.ofNat 32 (Fin.val (sortedFrom (fun k k' : Fin 8192 => decide ((fun p => if p < 8192 then inv 8192 (byKey (keys w b h)) p else 0) k.val
        < (fun p => if p < 8192 then inv 8192 (byKey (keys w b h)) p else 0) k'.val)) j)) = _
  rw [sortedFrom_eq (fun p => if p < 8192 then inv 8192 (byKey (keys w b h)) p else 0) 8192 (fun q => by
    by_cases hq : q < 8192
    · simp only [hq, if_true]; exact (inv_lt w b h ⟨q, hq⟩).le
    · simp only [hq, if_false]; exact Nat.zero_le _) j]
  rw [inv_byKey_inv (strict_byKey _ _) j.isLt, rowRank_val]
  rfl

/-! ## The take -/

/-- What the take reads by: negative places counted from the end. -/
abbrev wrapped (P : IVec S4x16x8192 32) : IVec S4x16x8192x1 32 :=
  shapeCast _ (select (cmpi .slt P (broadcastInDim S4x16x8192 ![] bcast_S_S4x16x8192 (constantI S_ 32 0#32)))
    (addi P (broadcastInDim S4x16x8192 ![] bcast_S_S4x16x8192 (constantI S_ 32 8192#32))) P) shapeCasts_S4x16x8192_S4x16x8192x1

theorem wrapped_at (P : IVec S4x16x8192 32) (b : Fin 4) (h : Fin 16) (j : Fin 8192) (z : Fin 1) (hP : (P (ValueIdx.ix3 b h j)).toNat < 8192) :
    wrapped P (ValueIdx.ix4 b h j z) = P (ValueIdx.ix3 b h j) := by
  refine (shapeCast_apply _ _ (ValueIdx.ix4 b h j z) (ValueIdx.ix3 b h j) ?_).trans ?_
  · rw [Shape.rowMajor_val_three, Shape.rowMajor_val_four]
    show (b.val * 16 + h.val) * 8192 + j.val = ((b.val * 16 + h.val) * 8192 + j.val) * 1 + z.val
    omega
  · show Scalar.select (IntOp.cmpi .slt (P (ValueIdx.ix3 b h j)) 0#32) (IntOp.addi (P (ValueIdx.ix3 b h j)) 8192#32) (P (ValueIdx.ix3 b h j)) = _
    generalize P (ValueIdx.ix3 b h j) = v at hP ⊢
    have : IntOp.cmpi .slt v 0#32 = 0#1 := by
      unfold IntOp.cmpi
      simp only
      rw [BitVec.slt_eq_decide, BitVec.toInt_eq_toNat_of_lt (by omega), decide_eq_false (by simp)]
      rfl
    rw [this]; rfl

/-- The dimension numbers of a take along the last of three axes. -/
abbrev takeLast (A B n : ℕ)
    (wf : GatherDims.WF ⟨3, ![A, B, n]⟩ ⟨4, ![A, B, n, 1]⟩ ⟨3, ![A, B, n]⟩ [] [2] [0, 1] [2] [0, 1] 3 ![1, 1, 1]) :
    GatherDims ⟨3, ![A, B, n]⟩ ⟨4, ![A, B, n, 1]⟩ ⟨3, ![A, B, n]⟩ where
  offsetDims := []
  collapsedSliceDims := [2]
  operandBatchingDims := [0, 1]
  startIndicesBatchingDims := [0, 1]
  startIndexMap := [2]
  indexVectorDim := 3
  sliceSizes := ![1, 1, 1]
  wf := wf

theorem takeLast_at {A B n : ℕ} {α : Type} (wf) (x : (⟨3, ![A, B, n]⟩ : Shape).Idx → α) (idx : IVec ⟨4, ![A, B, n, 1]⟩ 32)
    (b : Fin A) (h : Fin B) (j r : Fin n) (hr : (idx (ValueIdx.ix4 b h j 0)).toInt = (r.val : ℤ)) :
    Host.gather (takeLast A B n wf) x idx (ValueIdx.ix3 b h j) = x (ValueIdx.ix3 b h r) := by
  unfold Host.gather
  congr 1
  funext a
  refine Fin.ext ?_
  show (takeLast A B n wf).start (ValueIdx.ix3 b h j) idx a + (takeLast A B n wf).batchCoord (ValueIdx.ix3 b h j) a
    + (takeLast A B n wf).offCoord (ValueIdx.ix3 b h j) a = _
  have hk : a ∉ (takeLast A B n wf).sKept := by
    rw [GatherDims.mem_sKept]
    match a with
    | ⟨0, _⟩ => exact fun h => h.2 (List.mem_cons.mpr (Or.inl rfl))
    | ⟨1, _⟩ => exact fun h => h.2 (List.mem_cons.mpr (Or.inr (List.mem_singleton.mpr rfl)))
    | ⟨2, _⟩ => exact fun h => h.1 (List.mem_singleton.mpr rfl)
  rw [GatherDims.offCoord_eq_zero _ _ _ hk, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_cons.mpr (Or.inl rfl)), Nat.zero_add]
    unfold GatherDims.batchCoord
    rw [dif_pos (show (0 : Fin 3) ∈ (takeLast A B n wf).operandBatchingDims from List.mem_cons.mpr (Or.inl rfl))]
    rfl
  · rw [GatherDims.start_batching _ _ _ _ (List.mem_cons.mpr (Or.inr (List.mem_singleton.mpr rfl))), Nat.zero_add]
    unfold GatherDims.batchCoord
    rw [dif_pos (show (1 : Fin 3) ∈ (takeLast A B n wf).operandBatchingDims from List.mem_cons.mpr (Or.inr (List.mem_singleton.mpr rfl)))]
    rfl
  · rw [GatherDims.batchCoord_eq_zero _ _ _ (by
      show (2 : Fin 3) ∉ ([0, 1] : List (Fin 3)); decide), Nat.add_zero]
    unfold GatherDims.start
    rw [dif_pos (show (2 : Fin 3) ∈ (takeLast A B n wf).startIndexMap from List.mem_singleton.mpr rfl)]
    have hsi : (takeLast A B n wf).siIdx (ValueIdx.ix3 b h j) ⟨List.idxOf (2 : Fin 3) (takeLast A B n wf).startIndexMap,
        List.idxOf_lt_length_iff.2 (List.mem_singleton.mpr rfl)⟩ = ValueIdx.ix4 b h j 0 := by
      funext c
      refine Fin.ext ?_
      match c with
      | ⟨0, _⟩ => rfl
      | ⟨1, _⟩ => rfl
      | ⟨2, _⟩ => rfl
      | ⟨3, _⟩ => rfl
    refine Eq.trans (congrArg (fun v => min (idx v).toInt.toNat (n - 1)) hsi) ?_
    show min (idx (ValueIdx.ix4 b h j 0)).toInt.toNat (n - 1) = r.val
    rw [hr]
    have := r.isLt
    omega

/-- The take at in-range places: every item reads the row's entry at its place. -/
theorem take_at (x : S4x16x8192.Idx → EReal) (fill : S4x16x8192.Idx → EReal) (P : IVec S4x16x8192 32) (R : Fin 4 → Fin 16 → Fin 8192 → Fin 8192)
    (hP : ∀ b h j, P (ValueIdx.ix3 b h j) = BitVec.ofNat 32 (R b h j).val) (b : Fin 4) (h : Fin 16) (j : Fin 8192) :
    select (Host.reduce IntOp.andi (andi (cmpi .sge (wrapped P) (broadcastInDim S4x16x8192x1 ![] bcast_S_S4x16x8192x1 (constantI S_ 32 0#32)))
      (cmpi .sle (wrapped P) (broadcastInDim S4x16x8192x1 ![0, 1, 2, 3] bcast_S1x1x1x1_S4x16x8192x1_0_1_2_3
        (broadcastInDim S1x1x1x1 ![3] bcast_S1_S1x1x1x1_3 (constantI S1 32 8191#32))))) (constantI S_ 1 1#1) reducesTo_S4x16x8192x1_S4x16x8192_d3 h_S_)
      (Host.gather gather_S4x16x8192_S4x16x8192x1_S4x16x8192_n_2_01_01_2_3_111 x (wrapped P)) fill (ValueIdx.ix3 b h j) = x (ValueIdx.ix3 b h (R b h j)) := by
  have hl : ∀ b h j, (P (ValueIdx.ix3 b h j)).toNat = (R b h j).val := fun b h j => by rw [hP]; exact toNat_place (Fin.isLt _)
  have hw : ∀ b h j z, wrapped P (ValueIdx.ix4 b h j z) = P (ValueIdx.ix3 b h j) := fun b h j z => wrapped_at P b h j z (by rw [hl]; exact Fin.isLt _)
  have hi : ∀ b h j, (P (ValueIdx.ix3 b h j)).toInt = ((R b h j).val : ℤ) := fun b h j => by
    have h1 := hl b h j
    have h2 := (R b h j).isLt
    rw [BitVec.toInt_eq_toNat_of_lt (by omega), h1]
  rw [ValueIdx.select_apply, Host.reduce_andi_one _ _ _ _ _ rfl fun i => ?_, ValueIdx.select_one]
  · refine Eq.trans (b := Host.gather (takeLast 4 16 8192 _) x (wrapped P) (ValueIdx.ix3 b h j)) rfl ?_
    exact takeLast_at _ x (wrapped P) b h j (R b h j) (by rw [hw]; exact hi b h j)
  · obtain ⟨b', h', j', z, rfl⟩ : ∃ (b' : Fin 4) (h' : Fin 16) (j' : Fin 8192) (z : Fin 1), i = ValueIdx.ix4 b' h' j' z := ⟨i 0, i 1, i 2, i 3, ValueIdx.eq_ix4 i⟩
    show IntOp.andi (IntOp.cmpi .sge (wrapped P (ValueIdx.ix4 b' h' j' z)) 0#32)
      (IntOp.cmpi .sle (wrapped P (ValueIdx.ix4 b' h' j' z)) 8191#32) = 1#1
    rw [hw]
    have h1 := hi b' h' j'
    have h2 : (R b' h' j').val < 8192 := Fin.isLt _
    generalize P (ValueIdx.ix3 b' h' j') = v at h1
    unfold IntOp.cmpi IntOp.andi
    simp only [BitVec.sle_eq_decide, h1]
    rw [decide_eq_true (by show (0 : ℤ) ≤ _; omega), decide_eq_true (by show _ ≤ (8191 : ℤ); omega)]
    rfl

theorem val_dite {m : ℕ} {c : Prop} [Decidable c] (hc : ¬c) (f : c → Fin m) (g : ¬c → Fin m) : (dite c f g).val = (g hc).val := by
  rw [dif_neg hc]

/-- A row table spread over the batches. -/
theorem spread_at {A B n : ℕ} {α : Type} (hB : B ≠ 1) (hn : n ≠ 1) (h1) (h2) (t : (⟨2, ![B, n]⟩ : Shape).Idx → α) (b : Fin A) (h : Fin B) (r : Fin n) :
    broadcastInDim ⟨3, ![A, B, n]⟩ ![0, 1, 2] h1 (broadcastInDim ⟨3, ![1, B, n]⟩ ![1, 2] h2 t) (ValueIdx.ix3 b h r) = t (ValueIdx.ix2 h r) := by
  unfold broadcastInDim
  congr 1
  funext a
  have ha : a = (0 : Fin 2) ∨ a = (1 : Fin 2) := by
    match a with
    | ⟨0, _⟩ => exact Or.inl rfl
    | ⟨1, _⟩ => exact Or.inr rfl
  rcases ha with rfl | rfl
  · rw [dif_neg (show ¬(⟨2, ![B, n]⟩ : Shape).size (0 : Fin 2) = 1 from hB)]
    refine Fin.ext ?_
    exact val_dite hB _ _
  · rw [dif_neg (show ¬(⟨2, ![B, n]⟩ : Shape).size (1 : Fin 2) = 1 from hn)]
    refine Fin.ext ?_
    exact val_dite hn _ _

/-- The reference's result, before its last axis is added. -/
theorem take_places (w : IVec S4x16x8192 32) (hw : ∀ i, Plain (w i)) (t : S16x8192.Idx → EReal) (fill : S4x16x8192.Idx → EReal) :
    select (Host.reduce IntOp.andi (andi (cmpi .sge (wrapped (places w)) (broadcastInDim S4x16x8192x1 ![] bcast_S_S4x16x8192x1 (constantI S_ 32 0#32)))
      (cmpi .sle (wrapped (places w)) (broadcastInDim S4x16x8192x1 ![0, 1, 2, 3] bcast_S1x1x1x1_S4x16x8192x1_0_1_2_3
        (broadcastInDim S1x1x1x1 ![3] bcast_S1_S1x1x1x1_3 (constantI S1 32 8191#32))))) (constantI S_ 1 1#1) reducesTo_S4x16x8192x1_S4x16x8192_d3 h_S_)
      (Host.gather gather_S4x16x8192_S4x16x8192x1_S4x16x8192_n_2_01_01_2_3_111 (broadcastInDim S4x16x8192 ![0, 1, 2] bcast_S1x16x8192_S4x16x8192_0_1_2
        (broadcastInDim S1x16x8192 ![1, 2] bcast_S16x8192_S1x16x8192_1_2 t)) (wrapped (places w))) fill = placed w t := by
  funext i
  obtain ⟨b, h, j, rfl⟩ : ∃ (b : Fin 4) (h : Fin 16) (j : Fin 8192), i = ValueIdx.ix3 b h j := ⟨i 0, i 1, i 2, ValueIdx.eq_ix3 i⟩
  refine (take_at _ fill (places w) (rowRank w) (places_at w hw) b h j).trans ?_
  exact spread_at (by decide) (by decide) _ _ t b h (rowRank w b h j)

end Cert.Proof.Ref

end
-- ==== Proof.RefRun.lean ====
/-
  The reference's run: its operations in order, and what they leave in the three results.
-/
module

public import proofs.«01_k».proof.Proof.Ref
public import Idealize.ShloMosaic.Lib.StableHlo.Run

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The results' terms -/

/-- The items' places, by the two stable sorts. -/
def ranks (w : IVec S4x16x8192 32) : IVec S4x16x8192 32 :=
  (Host.sort2 S4x16x8192 2 comparator_i32_i32_d2
    (Host.sort2 S4x16x8192 2 comparator_f32_i32_d2 (Host.negf (bitcastToFloat (F := F) .f32 w)) (iotaInDim S4x16x8192 32 2)).2 (iotaInDim S4x16x8192 32 2)).2

/-- A take along the last axis: `x` at the places `P`, a negative place counted from the end. -/
def taken (x : FVec F S4x16x8192 .f32) (P : IVec S4x16x8192 32) : FVec F S4x16x8192 .f32 :=
  select (Host.reduce IntOp.andi (andi (cmpi .sge (Ref.wrapped P) (broadcastInDim S4x16x8192x1 ![] bcast_S_S4x16x8192x1 (constantI S_ 32 0#32)))
    (cmpi .sle (Ref.wrapped P) (broadcastInDim S4x16x8192x1 ![0, 1, 2, 3] bcast_S1x1x1x1_S4x16x8192x1_0_1_2_3
      (broadcastInDim S1x1x1x1 ![3] bcast_S1_S1x1x1x1_3 (constantI S1 32 8191#32))))) (constantI S_ 1 1#1) reducesTo_S4x16x8192x1_S4x16x8192_d3 h_S_)
    (Host.gather gather_S4x16x8192_S4x16x8192x1_S4x16x8192_n_2_01_01_2_3_111 x (Ref.wrapped P))
    (broadcastInDim S4x16x8192 ![] bcast_S_S4x16x8192 (constant S_ .f32 0x7FC00000#32))

/-- The sorted thresholds. -/
def thresholds (w : IVec S4x16x8192 32) (t : FVec F S16x8192 .f32) : FVec F S4x16x8192x1 .f32 :=
  broadcastInDim S4x16x8192x1 ![0, 1, 2] bcast_S4x16x8192_S4x16x8192x1_0_1_2
    (taken (broadcastInDim S4x16x8192 ![0, 1, 2] bcast_S1x16x8192_S4x16x8192_0_1_2 (broadcastInDim S1x16x8192 ![1, 2] bcast_S16x8192_S1x16x8192_1_2 t)) (ranks (F := F) w))

/-- The squashed sums of all columns, from similarities, sorted thresholds and weights. -/
def table (s : FVec F S4x16x8192x32 .f32) (p : FVec F S4x16x8192x1 .f32) (u : FVec F S1x16 .f32) : FVec F S4x32x8192 .f32 :=
  shapeCast S4x32x8192 (mulf (broadcastInDim S4x32x8192x1 ![] bcast_S_S4x32x8192x1 (constant S_ .f32 0x41200000#32))
    (Host.tanh (Host.dotGeneral dot_S4x32x8192x16_S1x16_S4x32x8192x1_3_1_012_0_n_n none
      (transpose S4x32x8192x16 [0, 3, 2, 1] (subf s (broadcastInDim S4x16x8192x32 ![0, 1, 2, 3] bcast_S4x16x8192x1_S4x16x8192x32_0_1_2_3 p)) transposes_S4x16x8192x32_S4x32x8192x16_0_3_2_1)
      u))) shapeCasts_S4x32x8192x1_S4x32x8192

/-- The greatest of each row's columns. -/
def bestScore (x : FVec F S4x32x8192 .f32) : FVec F S4x8192x1 .f32 :=
  broadcastInDim S4x8192x1 ![0, 1] bcast_S4x8192_S4x8192x1_0_1
    (Host.reduce FloatOps.maximumf x (constant S_ .f32 0xFF800000#32) reducesTo_S4x32x8192_S4x8192_d1 h_S_)

/-- The column where it stands. -/
def bestIndex (x : FVec F S4x32x8192 .f32) : IVec S4x8192 32 := fun j =>
  (Host.argReduce reducer_argmax_f32_i32 x (iotaInDim S4x32x8192 32 1) (constant S_ .f32 0xFF800000#32) (constantI S_ 32 0#32) reducesTo_S4x32x8192_S4x8192_d1 h_S_ j).2

/-! ## The operations -/

/-- The places of the items. -/
abbrev rankOps : List (HloOp τ sig (Elt F)) :=
  [ unary main_arg0 main_v0 (bitcastToFloat (F := F) .f32 : (⟨S4x16x8192, .i32⟩ : BufTy).Contents (Elt F) → (⟨S4x16x8192, .f32⟩ : BufTy).Contents (Elt F)),
    unary main_v0 main_v1 (Host.negf : (⟨S4x16x8192, .f32⟩ : BufTy).Contents (Elt F) → (⟨S4x16x8192, .f32⟩ : BufTy).Contents (Elt F)),
    TRef.nullary main_call0.v0 (iotaInDim S4x16x8192 32 2),
    TRef.binary (TRef.of (T := ⟨S4x16x8192, .f32⟩) main_v1) main_call0.v0 main_call0.v1_0 (fun x y => (Host.sort2 S4x16x8192 2 comparator_f32_i32_d2 x y).1),
    TRef.binary (TRef.of (T := ⟨S4x16x8192, .f32⟩) main_v1) main_call0.v0 main_call0.v1_1 (fun x y => (Host.sort2 S4x16x8192 2 comparator_f32_i32_d2 x y).2),
    TRef.nullary main_call1.v0 (iotaInDim S4x16x8192 32 2),
    TRef.binary (TRef.of (T := ⟨S4x16x8192, .i32⟩) main_v2) main_call1.v0 main_call1.v1_0 (fun x y => (Host.sort2 S4x16x8192 2 comparator_i32_i32_d2 x y).1),
    TRef.binary (TRef.of (T := ⟨S4x16x8192, .i32⟩) main_v2) main_call1.v0 main_call1.v1_1 (fun x y => (Host.sort2 S4x16x8192 2 comparator_i32_i32_d2 x y).2) ]

/-- The thresholds at those places. -/
abbrev takeOps : List (HloOp τ sig (Elt F)) :=
  [ unary main_arg3 main_v4 (broadcastInDim S1x16x8192 ![1, 2] bcast_S16x8192_S1x16x8192_1_2 : (⟨S16x8192, .f32⟩ : BufTy).Contents (Elt F) → (⟨S1x16x8192, .f32⟩ : BufTy).Contents (Elt F)),
    unary main_v4 main_v5 (broadcastInDim S4x16x8192 ![0, 1, 2] bcast_S1x16x8192_S4x16x8192_0_1_2 : (⟨S1x16x8192, .f32⟩ : BufTy).Contents (Elt F) → (⟨S4x16x8192, .f32⟩ : BufTy).Contents (Elt F)),
    TRef.nullary main_call2.c (constantI S_ 32 0#32),
    TRef.unary main_call2.c main_call2.v0 (broadcastInDim S4x16x8192 ![] bcast_S_S4x16x8192),
    TRef.binary (TRef.of (T := ⟨S4x16x8192, .i32⟩) main_v3) main_call2.v0 main_call2.v1 (cmpi .slt),
    TRef.nullary main_call2.c_0 (constantI S_ 32 8192#32),
    TRef.unary main_call2.c_0 main_call2.v2 (broadcastInDim S4x16x8192 ![] bcast_S_S4x16x8192),
    TRef.binary (TRef.of (T := ⟨S4x16x8192, .i32⟩) main_v3) main_call2.v2 main_call2.v3 addi,
    TRef.ternary main_call2.v1 main_call2.v3 (TRef.of (T := ⟨S4x16x8192, .i32⟩) main_v3) main_call2.v4 select,
    TRef.reshape main_call2.v4 main_call2.v5 (rfl : (.i32 : EltTy) = .i32) shapeCasts_S4x16x8192_S4x16x8192x1,
    TRef.nullary main_call2.c_1 (constantI S1 32 8191#32),
    TRef.nullary main_call2.c_2 (constantI S_ 32 0#32),
    TRef.unary main_call2.c_2 main_call2.v6 (broadcastInDim S4x16x8192x1 ![] bcast_S_S4x16x8192x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S4x16x8192x1 ![0, 1, 2, 3] bcast_S1x1x1x1_S4x16x8192x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4x16x8192x1_S4x16x8192_d3 h_S_),
    TRef.binary (TRef.of (T := ⟨S4x16x8192, .f32⟩) main_v5) main_call2.v5 main_call2.v13 (fun x i => Host.gather gather_S4x16x8192_S4x16x8192x1_S4x16x8192_n_2_01_01_2_3_111 x i),
    TRef.nullary main_call2.cst (constant S_ .f32 0x7FC00000#32),
    TRef.unary main_call2.cst main_call2.v14 (broadcastInDim S4x16x8192 ![] bcast_S_S4x16x8192),
    TRef.ternary main_call2.v12 main_call2.v13 main_call2.v14 main_call2.v15 select,
    unary main_v6 main_v7 (broadcastInDim S4x16x8192x1 ![0, 1, 2] bcast_S4x16x8192_S4x16x8192x1_0_1_2 : (⟨S4x16x8192, .f32⟩ : BufTy).Contents (Elt F) → (⟨S4x16x8192x1, .f32⟩ : BufTy).Contents (Elt F)) ]

/-- The squashed sums, their greatest, and where it stands. -/
abbrev denseOps : List (HloOp τ sig (Elt F)) :=
  [ unary main_v7 main_v8 (broadcastInDim S4x16x8192x32 ![0, 1, 2, 3] bcast_S4x16x8192x1_S4x16x8192x32_0_1_2_3 : (⟨S4x16x8192x1, .f32⟩ : BufTy).Contents (Elt F) → (⟨S4x16x8192x32, .f32⟩ : BufTy).Contents (Elt F)),
    binary main_arg1 main_v8 main_v9 (subf : (⟨S4x16x8192x32, .f32⟩ : BufTy).Contents (Elt F) → (⟨S4x16x8192x32, .f32⟩ : BufTy).Contents (Elt F) → (⟨S4x16x8192x32, .f32⟩ : BufTy).Contents (Elt F)),
    unary main_v9 main_v10 ((transpose S4x32x8192x16 [0, 3, 2, 1] · transposes_S4x16x8192x32_S4x32x8192x16_0_3_2_1) : (⟨S4x16x8192x32, .f32⟩ : BufTy).Contents (Elt F) → (⟨S4x32x8192x16, .f32⟩ : BufTy).Contents (Elt F)),
    binary main_v10 main_arg4 main_v11 ((fun l r => Host.dotGeneral dot_S4x32x8192x16_S1x16_S4x32x8192x1_3_1_012_0_n_n none l r) : (⟨S4x32x8192x16, .f32⟩ : BufTy).Contents (Elt F) → (⟨S1x16, .f32⟩ : BufTy).Contents (Elt F) → (⟨S4x32x8192x1, .f32⟩ : BufTy).Contents (Elt F)),
    unary main_v11 main_v12 (Host.tanh : (⟨S4x32x8192x1, .f32⟩ : BufTy).Contents (Elt F) → (⟨S4x32x8192x1, .f32⟩ : BufTy).Contents (Elt F)),
    nullary main_cst (constant S_ .f32 0x41200000#32),
    unary main_cst main_v13 (broadcastInDim S4x32x8192x1 ![] bcast_S_S4x32x8192x1 : (⟨S_, .f32⟩ : BufTy).Contents (Elt F) → (⟨S4x32x8192x1, .f32⟩ : BufTy).Contents (Elt F)),
    binary main_v13 main_v12 main_v14 (mulf : (⟨S4x32x8192x1, .f32⟩ : BufTy).Contents (Elt F) → (⟨S4x32x8192x1, .f32⟩ : BufTy).Contents (Elt F) → (⟨S4x32x8192x1, .f32⟩ : BufTy).Contents (Elt F)),
    reshape main_v14 main_v15 (rfl : (.f32 : EltTy) = .f32) shapeCasts_S4x32x8192x1_S4x32x8192,
    nullary main_cst_0 (constant S_ .f32 0xFF800000#32),
    binary main_v15 main_cst_0 main_v16 ((fun x v => Host.reduce FloatOps.maximumf x v reducesTo_S4x32x8192_S4x8192_d1 h_S_) : (⟨S4x32x8192, .f32⟩ : BufTy).Contents (Elt F) → (⟨S_, .f32⟩ : BufTy).Contents (Elt F) → (⟨S4x8192, .f32⟩ : BufTy).Contents (Elt F)),
    unary main_v16 main_v17 (broadcastInDim S4x8192x1 ![0, 1] bcast_S4x8192_S4x8192x1_0_1 : (⟨S4x8192, .f32⟩ : BufTy).Contents (Elt F) → (⟨S4x8192x1, .f32⟩ : BufTy).Contents (Elt F)),
    TRef.nullary main_call3.v0 (iotaInDim S4x32x8192 32 1),
    TRef.nullary main_call3.cst (constant S_ .f32 0xFF800000#32),
    TRef.nullary main_call3.c (constantI S_ 32 0#32),
    TRef.quaternary (TRef.of (T := ⟨S4x32x8192, .f32⟩) main_v15) main_call3.v0 main_call3.cst main_call3.c main_call3.v1_0 (fun x y u v j => (Host.argReduce reducer_argmax_f32_i32 x y u v reducesTo_S4x32x8192_S4x8192_d1 h_S_ j).1),
    TRef.quaternary (TRef.of (T := ⟨S4x32x8192, .f32⟩) main_v15) main_call3.v0 main_call3.cst main_call3.c main_call3.v1_1 (fun x y u v j => (Host.argReduce reducer_argmax_f32_i32 x y u v reducesTo_S4x32x8192_S4x8192_d1 h_S_ j).2) ]

/-- All of them. -/
abbrev allOps : List (HloOp τ sig (Elt F)) := rankOps ++ (takeOps ++ denseOps)

theorem main_is (c : Dev nD) : main (F := F) c = seq allOps := rfl
theorem no_scoped_refs : (Finset.univ.filter fun b : Ref sig .tc => b.isScoped) = ∅ := by decide
theorem no_scoped_sems : (Finset.univ.filter fun sm : SemLoc sig => sm.isScoped .tc) = ∅ := by decide

theorem rank_bufs : (rankOps : List (HloOp τ sig (Elt F))).Forall fun op => op.bufs ⊆ tcRefs τ sig :=
  ⟨unary_bufs_sub .., unary_bufs_sub .., nullary_bufs_sub .., binary_bufs_sub .., binary_bufs_sub .., nullary_bufs_sub .., binary_bufs_sub .., binary_bufs_sub ..⟩
theorem take_bufs : (takeOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub ..⟩
theorem dense_bufs : (denseOps : List (HloOp τ sig (Elt F))).Forall fun op => op.bufs ⊆ tcRefs τ sig :=
  ⟨unary_bufs_sub .., binary_bufs_sub .., unary_bufs_sub .., binary_bufs_sub .., unary_bufs_sub .., nullary_bufs_sub .., unary_bufs_sub .., binary_bufs_sub .., reshape_bufs_sub .., nullary_bufs_sub .., binary_bufs_sub .., unary_bufs_sub .., nullary_bufs_sub .., nullary_bufs_sub .., nullary_bufs_sub .., quaternary_bufs_sub .., quaternary_bufs_sub ..⟩

theorem all_bufs : (allOps : List (HloOp τ sig (Elt F))).Forall fun op => op.bufs ⊆ tcRefs τ sig :=
  List.forall_append.2 ⟨rank_bufs, List.forall_append.2 ⟨take_bufs, dense_bufs⟩⟩

/-! ## The buffers after them -/

theorem after_both (k l : List (HloOp τ sig (Elt F))) : ∀ V : Valuation τ sig (Elt F), after (k ++ l) V = after l (after k V) := by
  induction k with
  | nil => exact fun _ => rfl
  | cons op k ih => exact fun V => ih _

section
variable (V : Valuation τ sig (Elt F))

abbrev dr (b : Ref sig .tc) : DevRef τ sig := Proc.devRef .tc b

set_option maxHeartbeats 2000000

theorem rank_after : after rankOps V (dr main_v3) = ranks (F := F) (V (dr main_arg0)) := by
  simp only [rankOps, TRef.binary, TRef.nullary, TRef.toBuf, TRef.ofBuf, cast_eq]
  after_results_simp <;> rfl

theorem take_after : after takeOps V (dr main_v7) = broadcastInDim S4x16x8192x1 ![0, 1, 2] bcast_S4x16x8192_S4x16x8192x1_0_1_2
    (taken (broadcastInDim S4x16x8192 ![0, 1, 2] bcast_S1x16x8192_S4x16x8192_0_1_2 (broadcastInDim S1x16x8192 ![1, 2] bcast_S16x8192_S1x16x8192_1_2 (V (dr main_arg3)))) (V (dr main_v3))) := by
  simp only [takeOps, TRef.binary, TRef.nullary, TRef.reshape, TRef.ternary, TRef.unary, TRef.toBuf, TRef.ofBuf, cast_eq]
  after_results_simp <;> rfl

theorem score_after : after denseOps V (dr main_v17) = bestScore (table (V (dr main_arg1)) (V (dr main_v7)) (V (dr main_arg4))) := by
  simp only [denseOps, TRef.nullary, TRef.quaternary, TRef.toBuf, TRef.ofBuf, cast_eq]
  after_results_simp <;> rfl

theorem index_after : after denseOps V (dr main_v18) = bestIndex (table (V (dr main_arg1)) (V (dr main_v7)) (V (dr main_arg4))) := by
  simp only [denseOps, TRef.nullary, TRef.quaternary, TRef.toBuf, TRef.ofBuf, cast_eq]
  after_results_simp <;> rfl

/-- What the operations of the places leave alone. -/
theorem rank_keeps {b : Ref sig .tc} (h : b ∈ [main_arg0, main_arg1, main_arg2, main_arg3, main_arg4]) : after rankOps V (dr b) = V (dr b) := by
  simp only [List.mem_cons, List.not_mem_nil, or_false] at h
  simp only [rankOps, TRef.binary, TRef.nullary, TRef.toBuf, TRef.ofBuf, cast_eq]
  rcases h with rfl | rfl | rfl | rfl | rfl <;> after_results_simp

theorem take_keeps {b : Ref sig .tc} (h : b ∈ [main_arg0, main_arg1, main_arg2, main_arg3, main_arg4]) : after takeOps V (dr b) = V (dr b) := by
  simp only [List.mem_cons, List.not_mem_nil, or_false] at h
  simp only [takeOps, TRef.binary, TRef.nullary, TRef.reshape, TRef.ternary, TRef.unary, TRef.toBuf, TRef.ofBuf, cast_eq]
  rcases h with rfl | rfl | rfl | rfl | rfl <;> after_results_simp

theorem dense_keeps {b : Ref sig .tc} (h : b ∈ [main_arg0, main_arg1, main_arg2, main_arg3, main_arg4, main_v7]) : after denseOps V (dr b) = V (dr b) := by
  simp only [List.mem_cons, List.not_mem_nil, or_false] at h
  simp only [denseOps, TRef.nullary, TRef.quaternary, TRef.toBuf, TRef.ofBuf, cast_eq]
  rcases h with rfl | rfl | rfl | rfl | rfl | rfl <;> after_results_simp

/-- The thresholds stand after the first two parts. -/
theorem thresholds_after : after takeOps (after rankOps V) (dr main_v7) = thresholds (V (dr main_arg0)) (V (dr main_arg3)) := by
  rw [take_after, rank_after, rank_keeps V (b := main_arg3) (by decide)]; rfl

theorem all_keeps {b : Ref sig .tc} (h : b ∈ [main_arg0, main_arg1, main_arg2, main_arg3, main_arg4]) : after allOps V (dr b) = V (dr b) := by
  rw [after_both, after_both, dense_keeps _ (by revert h; revert b; decide), take_keeps _ h, rank_keeps _ h]

theorem all_thresholds : after allOps V (dr main_v7) = thresholds (V (dr main_arg0)) (V (dr main_arg3)) := by
  rw [after_both, after_both, dense_keeps _ (by decide), thresholds_after]

theorem all_score : after allOps V (dr main_v17) = bestScore (table (V (dr main_arg1)) (thresholds (V (dr main_arg0)) (V (dr main_arg3))) (V (dr main_arg4))) := by
  rw [after_both, after_both, score_after, thresholds_after, take_keeps _ (by decide), rank_keeps _ (by decide), take_keeps _ (by decide), rank_keeps _ (by decide)]

theorem all_index : after allOps V (dr main_v18) = bestIndex (table (V (dr main_arg1)) (thresholds (V (dr main_arg0)) (V (dr main_arg3))) (V (dr main_arg4))) := by
  rw [after_both, after_both, index_after, thresholds_after, take_keeps _ (by decide), rank_keeps _ (by decide), take_keeps _ (by decide), rank_keeps _ (by decide)]

end

/-! ## The run -/

/-- Every execution of the reference ends with the three results at their terms and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v17) = bestScore (table (m ((c.tc : Thread nD τ).loc main_arg1)) (thresholds (m ((c.tc : Thread nD τ).loc main_arg0)) (m ((c.tc : Thread nD τ).loc main_arg3))) (m ((c.tc : Thread nD τ).loc main_arg4)))
      ∧ r.2.mem ((c.tc : Thread nD τ).loc main_v18) = bestIndex (table (m ((c.tc : Thread nD τ).loc main_arg1)) (thresholds (m ((c.tc : Thread nD τ).loc main_arg0)) (m ((c.tc : Thread nD τ).loc main_arg3))) (m ((c.tc : Thread nD τ).loc main_arg4)))
      ∧ r.2.mem ((c.tc : Thread nD τ).loc main_v7) = thresholds (m ((c.tc : Thread nD τ).loc main_arg0)) (m ((c.tc : Thread nD τ).loc main_arg3)))
      ∧ ∀ b ∈ [main_arg0, main_arg1, main_arg2, main_arg3, main_arg4], r.2.mem ((c.tc : Thread nD τ).loc b) = m ((c.tc : Thread nD τ).loc b) :=
  (θ_run defs _ _).mono (fun _ h c => ⟨⟨(h c main_v17).trans (all_score _), (h c main_v18).trans (all_index _), (h c main_v7).trans (all_thresholds _)⟩,
      fun b hb => (h c b).trans (all_keeps _ hb)⟩)
    (run_seq no_scoped_refs no_scoped_sems defs main (fun _ => allOps) main_is (fun _ => all_bufs) m ρ)

end Cert.Proof.RefRun

end
-- ==== Proof.RefScores.lean ====
/-
  The reference's scores and indices, over the extended reals.
-/
module

public import proofs.«01_k».proof.Proof.Best
public import proofs.«01_k».proof.Proof.Scores
public import proofs.«01_k».proof.Proof.RefRun
public import Idealize.ShloMosaic.Lib.IdealHost

@[expose] public section

noncomputable section

namespace Cert.Proof.RefScores

open Cert.ReferenceIdeal Cert.ReferenceIdeal.Gen
open Idealize.ShloMosaic
open Cert.Proof.Best Cert.Proof.RefRun
open Cert.Proof.Scores (logit piece)

variable (s : FVec Ideal S4x16x8192x32 .f32) (p : FVec Ideal S4x16x8192 .f32) (u : FVec Ideal S1x16 .f32)

/-- `p` with a last axis of one. -/
abbrev padded : FVec Ideal S4x16x8192x1 .f32 := broadcastInDim S4x16x8192x1 ![0, 1, 2] bcast_S4x16x8192_S4x16x8192x1_0_1_2 p

/-- The excesses over the thresholds, heads last. -/
abbrev excess : FVec Ideal S4x32x8192x16 .f32 :=
  transpose S4x32x8192x16 [0, 3, 2, 1] (subf s (broadcastInDim S4x16x8192x32 ![0, 1, 2, 3] bcast_S4x16x8192x1_S4x16x8192x32_0_1_2_3 (padded p))) transposes_S4x16x8192x32_S4x32x8192x16_0_3_2_1

theorem excess_at (b : Fin 4) (k : Fin 32) (n : Fin 8192) (h : Fin 16) :
    excess s p (ValueIdx.ix4 b k n h) = s (ValueIdx.ix4 b h n k) - p (ValueIdx.ix3 b h n) := by
  have e1 : excess s p (ValueIdx.ix4 b k n h) = subf s (broadcastInDim S4x16x8192x32 ![0, 1, 2, 3] bcast_S4x16x8192x1_S4x16x8192x32_0_1_2_3 (padded p)) (ValueIdx.ix4 b h n k) :=
    transpose_apply (s := S4x16x8192x32) (t := S4x32x8192x16) [0, 3, 2, 1] _ transposes_S4x16x8192x32_S4x32x8192x16_0_3_2_1 (ValueIdx.ix4 b k n h) (ValueIdx.ix4 b h n k) (by intro a; fin_cases a <;> rfl)
  have e2 : broadcastInDim S4x16x8192x32 ![0, 1, 2, 3] bcast_S4x16x8192x1_S4x16x8192x32_0_1_2_3 (padded p) (ValueIdx.ix4 b h n k) = padded p (ValueIdx.ix4 b h n (0 : Fin 1)) :=
    broadcastInDim_apply _ _ _ _ _ (by intro a; fin_cases a <;> rfl)
  have e3 : padded p (ValueIdx.ix4 b h n (0 : Fin 1)) = p (ValueIdx.ix3 b h n) :=
    broadcastInDim_apply _ _ _ _ _ (by intro a; fin_cases a <;> rfl)
  rw [e1, ValueIdx.subf_apply, e2, e3]

/-- The contraction of the heads. -/
abbrev D := dot_S4x32x8192x16_S1x16_S4x32x8192x1_3_1_012_0_n_n

theorem left_0 (j : S4x32x8192x1.Idx) (q : D.contr.Idx) : (D.lhsIdx j q 0 : ℕ) = j 0 := by
  simp [DotDims.lhsIdx, D, dot_S4x32x8192x16_S1x16_S4x32x8192x1_3_1_012_0_n_n]; rfl
theorem left_1 (j : S4x32x8192x1.Idx) (q : D.contr.Idx) : (D.lhsIdx j q 1 : ℕ) = j 1 := by
  simp [DotDims.lhsIdx, D, dot_S4x32x8192x16_S1x16_S4x32x8192x1_3_1_012_0_n_n]; rfl
theorem left_2 (j : S4x32x8192x1.Idx) (q : D.contr.Idx) : (D.lhsIdx j q 2 : ℕ) = j 2 := by
  simp [DotDims.lhsIdx, D, dot_S4x32x8192x16_S1x16_S4x32x8192x1_3_1_012_0_n_n]; rfl
theorem left_3 (j : S4x32x8192x1.Idx) (q : D.contr.Idx) : (D.lhsIdx j q 3 : ℕ) = q ⟨0, by decide⟩ := by
  simp [DotDims.lhsIdx, D, dot_S4x32x8192x16_S1x16_S4x32x8192x1_3_1_012_0_n_n]; rfl
theorem right_1 (j : S4x32x8192x1.Idx) (q : D.contr.Idx) : (D.rhsIdx j q 1 : ℕ) = q ⟨0, by decide⟩ := by
  simp [DotDims.rhsIdx, D, dot_S4x32x8192x16_S1x16_S4x32x8192x1_3_1_012_0_n_n]; rfl

theorem left_at (b : Fin 4) (k : Fin 32) (n : Fin 8192) (q : D.contr.Idx) (h : Fin 16) (hq : (q ⟨0, by decide⟩ : ℕ) = h) :
    D.lhsIdx (ValueIdx.ix4 b k n (0 : Fin 1)) q = ValueIdx.ix4 b k n h := by
  funext a
  refine Fin.ext ?_
  match a with
  | ⟨0, _⟩ => exact left_0 _ q
  | ⟨1, _⟩ => exact left_1 _ q
  | ⟨2, _⟩ => exact left_2 _ q
  | ⟨3, _⟩ => exact (left_3 _ q).trans hq

theorem right_at (j : S4x32x8192x1.Idx) (q : D.contr.Idx) (h : Fin 16) (hq : (q ⟨0, by decide⟩ : ℕ) = h) :
    D.rhsIdx j q = ValueIdx.ix2 (0 : Fin 1) h := by
  funext a
  match a with
  | ⟨0, _⟩ => exact Subsingleton.elim (α := Fin 1) _ _
  | ⟨1, _⟩ => exact Fin.ext ((right_1 j q).trans hq)

/-- The contraction sums the heads. -/
theorem dot_at (b : Fin 4) (k : Fin 32) (n : Fin 8192) :
    Host.dotGeneral D none (excess s p) u (ValueIdx.ix4 b k n (0 : Fin 1)) = logit s p u b n k := by
  simp only [Host.dotGeneral]
  rw [Ideal.dotGeneral_apply, ← Equiv.sum_comp (ValueIdx.contrEquiv1 D 16 rfl rfl).symm]
  refine Finset.sum_congr rfl fun h _ => ?_
  have hq := ValueIdx.contrEquiv1_symm_val D 16 rfl rfl h
  exact congrArg₂ (fun x y : EReal => x * y) ((congrArg (excess s p) (left_at b k n _ h hq)).trans (excess_at s p b k n h)) (congrArg u (right_at _ _ h hq))

/-- The table holds the squashed sums. -/
theorem table_at (b : Fin 4) (k : Fin 32) (n : Fin 8192) :
    table s (padded p) u (ValueIdx.ix3 b k n) = squash (logit s p u b n k) := by
  unfold table
  rw [shapeCast_apply _ _ _ (ValueIdx.ix4 b k n (0 : Fin 1)) ?h1]
  case h1 =>
    rw [Shape.rowMajor_val_four, Shape.rowMajor_val_three]
    show ((b.val * 32 + k.val) * 8192 + n.val) * 1 + 0 = (b.val * 32 + k.val) * 8192 + n.val
    omega
  rw [← dot_at s p u b k n, ValueIdx.mulf_apply]
  rfl

/-! ## The two results -/

theorem axis_one : S4x32x8192.Reduces [1] S4x8192 := by decide

theorem lift_at (b : Fin 4) (n : Fin 8192) (k : Fin 32) : (axis_one.lift (ValueIdx.ix2 b n) k : S4x32x8192.Idx) = ValueIdx.ix3 b k n := by
  funext a
  fin_cases a <;> rfl

theorem first_of {b : Fin 4} {n : Fin 8192} {k : Fin 32} (hk : First (logit s p u b n) k) :
    First (fun q : Fin 32 => table s (padded p) u (axis_one.lift (ValueIdx.ix2 b n) q)) k := by
  have e : (fun q : Fin 32 => (table s (padded p) u (axis_one.lift (ValueIdx.ix2 b n) q) : EReal)) = fun q => squash (logit s p u b n q) :=
    funext fun q => (congrArg (table s (padded p) u) (lift_at b n q)).trans (table_at s p u b q n)
  exact e ▸ hk.map squash_strictMono

theorem bestScore_at {b : Fin 4} {n : Fin 8192} {k : Fin 32} (hk : First (logit s p u b n) k) :
    bestScore (table s (padded p) u) (ValueIdx.ix3 b n (0 : Fin 1)) = squash (logit s p u b n k) := by
  have e1 : bestScore (table s (padded p) u) (ValueIdx.ix3 b n (0 : Fin 1))
      = Host.reduce (FloatOps.maximumf (F := Ideal)) (table s (padded p) u) (constant S_ .f32 0xFF800000#32) reducesTo_S4x32x8192_S4x8192_d1 h_S_ (ValueIdx.ix2 b n) :=
    broadcastInDim_apply _ _ _ _ _ (by intro a; fin_cases a <;> rfl)
  rw [e1]
  refine (hostMax_first (table s (padded p) u) _ _ axis_one _ ofBits_bot _ (first_of s p u hk)).trans ?_
  exact (congrArg (table s (padded p) u) (lift_at b n k)).trans (table_at s p u b k n)

/-- The comparison of two candidates keeps the better. -/
theorem reducer_keeps : Keeps (reducer_argmax_f32_i32 (F := Ideal)) := by
  rintro ⟨x, i⟩ ⟨y, j⟩
  have e : reducer_argmax_f32_i32 (F := Ideal) (x, i) (y, j) = (Scalar.select (IntOp.ori (BitVec.ofBool (decide (y < x))) (BitVec.ofBool (decide (x ≠ x)))) x y,
      Scalar.select (IntOp.ori (IntOp.ori (BitVec.ofBool (decide (y < x))) (BitVec.ofBool (decide (x ≠ x)))) (IntOp.andi (BitVec.ofBool (decide (x = y))) (BitVec.ofBool (i.slt j)))) i j) := rfl
  rw [e, decide_eq_false (p := x ≠ x) (by simp)]
  rcases lt_trichotomy y x with h | h | h
  · rw [decide_eq_true h, decide_eq_false (p := x = y) h.ne']
    exact ⟨.inl (by simp [Scalar.select, IntOp.ori, IntOp.andi]), by simp [Scalar.select, IntOp.ori, IntOp.andi, Beats], by simp [Scalar.select, IntOp.ori, Beats, h]⟩
  · subst h
    rw [decide_eq_false (lt_irrefl y), decide_eq_true (rfl : y = y)]
    cases hij : i.slt j
    · have hij' : j.toInt ≤ i.toInt := by simpa [BitVec.slt_eq_decide] using hij
      exact ⟨.inr (by simp [Scalar.select, IntOp.ori, IntOp.andi]), by simp [Scalar.select, IntOp.ori, IntOp.andi, Beats, hij'], by simp [Scalar.select, IntOp.ori, IntOp.andi, Beats]⟩
    · have hij' : i.toInt ≤ j.toInt := by
        have : i.toInt < j.toInt := by simpa [BitVec.slt_eq_decide] using hij
        exact this.le
      exact ⟨.inl (by simp [Scalar.select, IntOp.ori, IntOp.andi]), by simp [Scalar.select, IntOp.ori, IntOp.andi, Beats], by simp [Scalar.select, IntOp.ori, IntOp.andi, Beats, hij']⟩
  · rw [decide_eq_false h.not_gt, decide_eq_false h.ne]
    exact ⟨.inr (by simp [Scalar.select, IntOp.ori, IntOp.andi]), by simp [Scalar.select, IntOp.ori, IntOp.andi, Beats, h], by simp [Scalar.select, IntOp.ori, IntOp.andi, Beats]⟩

theorem bestIndex_at {b : Fin 4} {n : Fin 8192} {k : Fin 32} (hk : First (logit s p u b n) k) :
    bestIndex (table s (padded p) u) (ValueIdx.ix2 b n) = BitVec.ofNat 32 k.val := by
  refine argReduce_first _ reducer_keeps (table s (padded p) u) _ _ _ _ axis_one _ ofBits_bot (by decide) (fun i => rfl) ?_ _ (first_of s p u hk)
  intro i
  rw [ValueIdx.eq_ix3 i]
  exact (table_at s p u _ _ _).symm ▸ squash_ne_bot _

end Cert.Proof.RefScores

end
-- ==== Proof.Same.lean ====
/-
  The kernel's two prints, the program and its reading over the extended reals, are one program.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

/-- The SparseCore body. -/
theorem sc_body_same : @Cert.Kernel.cc0__sc_body F _ _ = @Cert.KernelIdeal.cc0__sc_body F _ _ := by
  have h : @Cert.KernelIdeal.cc0__sc_body F _ _ = @Cert.KernelIdeal.cc0__sc_body F _ _ := Eq.refl _
  exact h

/-- The TensorCore body. -/
theorem dense_body_same : @Cert.Kernel.cc1__dense_body F _ _ = @Cert.KernelIdeal.cc1__dense_body F _ _ := by
  have h : @Cert.KernelIdeal.cc1__dense_body F _ _ = @Cert.KernelIdeal.cc1__dense_body F _ _ := Eq.refl _
  exact h

/-- The table's row for the tiles. -/
theorem row_tile (c s) (a) : Cert.Kernel.defs₀ (F := F) (.scVector c s) 0 a = Cert.KernelIdeal.defs₀ (F := F) (.scVector c s) 0 a := by
  rw [Cert.Kernel.defs₀, Cert.KernelIdeal.defs₀, sc_body_same]
  unfold SparseCore.onTile
  refine dite_congr rfl (fun h => ?_) (fun _ => rfl)
  rfl

/-- The table's row for the TensorCore. -/
theorem row_dense (t s) : Cert.Kernel.defs₀ (F := F) .tc 1 (t, s) = Cert.KernelIdeal.defs₀ (F := F) .tc 1 (t, s) := by
  show @Cert.Kernel.cc1__dense_body F _ _ _ _ _ _ _ _ _ _ _ _ _ = @Cert.KernelIdeal.cc1__dense_body F _ _ _ _ _ _ _ _ _ _ _ _ _
  rw [dense_body_same]
  rfl

/-- The table of bodies. -/
theorem bodies_same : Cert.Kernel.defs₀ (F := F) = Cert.KernelIdeal.defs₀ (F := F) := by
  funext p l a
  match p, l, a with
  | .scVector c s, 0, a => exact row_tile c s a
  | .tc, 1, (t, s) => exact row_dense t s
  | .tc, 0, a => rfl
  | .scVector _ _, 1, a => rfl
  | .scScalar _, 0, a => rfl
  | .scScalar _, 1, a => rfl

/-- The whole table. -/
theorem defs_same : Cert.Kernel.defs (F := F) = Cert.KernelIdeal.defs (F := F) := by
  unfold Cert.Kernel.defs Cert.KernelIdeal.defs
  rw [bodies_same]
  rfl

end Cert.Proof.Same

end
-- ==== Proof.lean ====
/- The proof of the certificate's claims: the frames of the kernel at both instances and of the
   reference, and that the two end with the same three results. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_no_tie
public import proofs.«01_k».proof.Proof.RefScores
public import proofs.«01_k».proof.Proof.Same
public import Idealize.ShloMosaic.Adequacy
public import Idealize.ShloMosaic.Init

@[expose] public section

noncomputable section

namespace Cert.Proof

open Idealize.ShloMosaic Idealize.SL.Sem
open Cert.Proof.Launch Cert.Proof.Value Cert.Proof.Order Cert.Proof.Best Cert.Proof.Scores
open Cert.Proof.Segment (dr SA)

/-! ## The kernel -/

section Kernel

open Cert.KernelIdeal

theorem ends_arg {F : FTy → Type} [FloatOps F] {m : (ℓ : Loc nD τ sig) → Buf (Elt F) ℓ} {r : PUnit × MemSt nD τ sig (Elt F)} (h : QC m r) (c : Dev nD)
    {b : Ref sig .tc} (hb : b ∈ ({main_arg0, main_arg1, main_arg2, main_arg3, main_arg4} : Finset (Ref sig .tc))) (hs : dr b ∈ SA) :
    r.2.mem (c, dr b) = m (c, dr b) :=
  (h.1 c _ hs).trans (V13_arg m c hb)

/-- All five arguments end as they were. -/
theorem ends_args {F : FTy → Type} [FloatOps F] {m : (ℓ : Loc nD τ sig) → Buf (Elt F) ℓ} {r : PUnit × MemSt nD τ sig (Elt F)} (h : QC m r) (c : Dev nD) :
    r.2.mem (c, dr main_arg0) = m (c, dr main_arg0) ∧ r.2.mem (c, dr main_arg1) = m (c, dr main_arg1) ∧ r.2.mem (c, dr main_arg2) = m (c, dr main_arg2)
      ∧ r.2.mem (c, dr main_arg3) = m (c, dr main_arg3) ∧ r.2.mem (c, dr main_arg4) = m (c, dr main_arg4) :=
  ⟨ends_arg h c (by decide) (by decide), ends_arg h c (by decide) (by decide), ends_arg h c (by decide) (by decide), ends_arg h c (by decide) (by decide),
    ends_arg h c (by decide) (by decide)⟩

end Kernel

set_option maxHeartbeats 8000000 in
/-- The two prints of the kernel run the same threads. -/
theorem threads_same : Cert.Kernel.threads (F := Bits) = Cert.KernelIdeal.threads (F := Bits) := by
  have h : Cert.KernelIdeal.threads (F := Bits) = Cert.KernelIdeal.threads (F := Bits) := Eq.refl _
  exact h

set_option maxHeartbeats 8000000 in
theorem frame_kernel : Cert.quiescent_Kernel := by
  intro m g _
  rw [Same.defs_same, threads_same]
  exact (θ_run Cert.KernelIdeal.defs _ _).mono (fun _ h => ⟨fun c => ends_args h c, h.2⟩) (run_main (F := Bits) m g)

theorem frame_ideal : Cert.quiescent_KernelIdeal := fun m g _ =>
  (θ_run Cert.KernelIdeal.defs _ _).mono (fun _ h => ⟨fun c => ends_args h c, h.2⟩) (run_main (F := Ideal) m g)

/-! ## The reference -/

section Reference

open Cert.ReferenceIdeal

/-- All five of the reference's arguments, one by one. -/
theorem five {m : (ℓ : Loc nD τ sig) → Buf (Elt Ideal) ℓ} {r : PUnit × MemSt nD τ sig (Elt Ideal)} {c : Dev nD}
    (h : ∀ b ∈ [main_arg0, main_arg1, main_arg2, main_arg3, main_arg4], r.2.mem ((c.tc : Thread nD τ).loc b) = m ((c.tc : Thread nD τ).loc b)) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨h _ (by decide), h _ (by decide), h _ (by decide), h _ (by decide), h _ (by decide)⟩

end Reference

theorem frame_reference : Cert.quiescent_ReferenceIdeal := fun m g _ =>
  (θ_run Cert.ReferenceIdeal.defs _ _).mono (fun r h => ⟨fun c => five (h c).2, sem_eq_zero_of_no_sems rfl r.2⟩) (RefRun.run (F := Ideal) m g)

/-! ## The results agree -/

/-- What the precondition says of each word. -/
theorem plain_of_pre {w : Cert.Pre_no_tie.S4x16x8192.Idx → BitVec 32} {s : Cert.Pre_no_tie.S4x16x8192x32.Idx → Ideal .f32} {x : Cert.Pre_no_tie.S4x16x8192.Idx → Ideal .f32}
    {t : Cert.Pre_no_tie.S16x8192.Idx → Ideal .f32} {u : Cert.Pre_no_tie.S1x16.Idx → Ideal .f32}
    (h : Cert.Pre_no_tie.fn (F := Ideal) w s x t u = fun _ => 1#1) (i : Cert.Pre_no_tie.S4x16x8192.Idx) : Plain (w i) := by
  have : Subsingleton Cert.Pre_no_tie.S_.Idx := ⟨fun a b => funext fun q => q.elim0⟩
  have h1 := congrFun h (fun q => q.elim0)
  unfold Cert.Pre_no_tie.fn Cert.Pre_no_tie.fn_part1 at h1
  have e := Host.reduce_andi_all _ _ _ _ (fun q => q.elim0) (IntOp.andi_eq_one.1 h1).1 i
  have e' : IntOp.andi (IntOp.cmpi .sle (IntOp.andi (w i) 2147483647#32) 2139095040#32) (IntOp.cmpi .ne (w i) 2147483648#32) = 1#1 := e
  unfold Plain
  generalize w i = v at e'
  unfold IntOp.cmpi IntOp.andi at e'
  simp only at e'
  cases h1 : (v &&& 2147483647#32).sle 2139095040#32 <;> cases h2 : v != 2147483648#32 <;> simp only [h1, h2] at e'
  · exact absurd e' (by decide)
  · exact absurd e' (by decide)
  · exact absurd e' (by decide)
  · refine ⟨?_, fun e => by simp [e] at h2⟩
    have hl : (v &&& 2147483647#32).toNat < 2147483648 := by
      rw [BitVec.toNat_and]
      exact Nat.lt_of_le_of_lt Nat.and_le_right (by decide)
    rw [BitVec.sle_eq_decide, BitVec.toInt_eq_toNat_of_lt (by omega), decide_eq_true_iff] at h1
    have : (2139095040#32 : BitVec 32).toInt = 2139095040 := by decide
    omega

section Agree

open Cert.KernelIdeal

variable (m : (ℓ : Loc nD τ sig) → Buf (Elt Ideal) ℓ) (c : Dev nD)

/-- The reference's sorted thresholds are the placed ones. -/
theorem thresholds_placed {w : S4x16x8192.Idx → BitVec 32} (hw : ∀ i, Plain (w i)) (t : S16x8192.Idx → EReal) :
    RefRun.thresholds (F := Ideal) w t = RefScores.padded (placed w t) :=
  congrArg RefScores.padded (Ref.take_places w hw t _)

theorem score_agrees : (V13 m c (dr main_v11) : S4x8192x1.Idx → EReal)
    = RefRun.bestScore (F := Ideal) (RefRun.table (m (c, dr main_arg1)) (RefScores.padded (placed (m (c, dr main_arg0)) (m (c, dr main_arg3)))) (m (c, dr main_arg4))) := by
  funext i
  obtain ⟨b, n, z, rfl⟩ : ∃ (b : Fin 4) (n : Fin 8192) (z : Fin 1), i = ValueIdx.ix3 b n z := ⟨i 0, i 1, i 2, ValueIdx.eq_ix3 i⟩
  obtain ⟨k, hk⟩ := exists_first (logits m c b n)
  rw [Subsingleton.elim z 0]
  exact (score_at hk).trans (RefScores.bestScore_at _ _ _ hk).symm

theorem index_agrees : (V13 m c (dr main_v10) : S4x8192.Idx → BitVec 32)
    = RefRun.bestIndex (F := Ideal) (RefRun.table (m (c, dr main_arg1)) (RefScores.padded (placed (m (c, dr main_arg0)) (m (c, dr main_arg3)))) (m (c, dr main_arg4))) := by
  funext i
  obtain ⟨b, n, rfl⟩ : ∃ (b : Fin 4) (n : Fin 8192), i = ValueIdx.ix2 b n := ⟨i 0, i 1, ValueIdx.eq_ix2 i⟩
  obtain ⟨k, hk⟩ := exists_first (logits m c b n)
  exact (index_at hk).trans (RefScores.bestIndex_at _ _ _ hk).symm

end Agree

theorem agree : Cert.algebraic_KernelIdeal_ReferenceIdeal := by
  intro m g m' g' hpre hargs
  refine ⟨fun c => V13 m c (dr Cert.KernelIdeal.main_v11), fun c => V13 m c (dr Cert.KernelIdeal.main_v10), fun c => V13 m c (dr Cert.KernelIdeal.main_v12), ?_, ?_⟩
  · exact (θ_run Cert.KernelIdeal.defs _ _).mono (fun _ h c => ⟨h.1 c (dr Cert.KernelIdeal.main_v11) (by decide), h.1 c (dr Cert.KernelIdeal.main_v10) (by decide),
      h.1 c (dr Cert.KernelIdeal.main_v12) (by decide), ends_args h c⟩) (run_main (F := Ideal) m g)
  · refine (θ_run Cert.ReferenceIdeal.defs _ _).mono (fun r h c => ?_) (RefRun.run (F := Ideal) m' g')
    obtain ⟨⟨h1, h2, h3⟩, ha⟩ := h c
    obtain ⟨a0, a1, a2, a3, a4⟩ := hargs c
    have e := thresholds_placed (plain_of_pre (hpre c)) (m (c, dr Cert.KernelIdeal.main_arg3))
    rw [a0, a1, a3, a4] at h1 h2
    rw [a0, a3] at h3
    exact ⟨h1.trans ((congrArg (fun p => RefRun.bestScore (F := Ideal) (RefRun.table _ p _)) e).trans (score_agrees m c).symm),
      h2.trans ((congrArg (fun p => RefRun.bestIndex (F := Ideal) (RefRun.table _ p _)) e).trans (index_agrees m c).symm),
      h3.trans (e.trans (V13_thr m c).symm), five ha⟩

theorem claim : Cert.Claim := ⟨Cert.Kernel.Gen.facts, Cert.KernelIdeal.Gen.facts, Cert.ReferenceIdeal.Gen.facts, Cert.Pre_no_tie.Gen.facts,
  frame_kernel, fun m g _ => frame_kernel m g trivial, frame_ideal, frame_reference, fun m g _ => frame_reference m g trivial, trivial, agree⟩

end Cert.Proof

end
